-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_gate_above [hPre_gate_above : Cert.Pre_gate_above.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_gate_above.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_gate_above [hPre_gate_above : Cert.Pre_gate_above.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_gate_above.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_gate_above [hKernel8Ideal : Cert.Kernel8Ideal.Facts] [hPre_gate_above : Cert.Pre_gate_above.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_gate_above m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_gate_above [hReference8Ideal : Cert.Reference8Ideal.Facts] [hPre_gate_above : Cert.Pre_gate_above.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_gate_above m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_gate_above [hKernel8Ideal : Cert.Kernel8Ideal.Facts] [hReference8Ideal : Cert.Reference8Ideal.Facts] [hPre_gate_above : Cert.Pre_gate_above.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_gate_above m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)) (v3 : (c : Dev Cert.Kernel13Ideal.nD) → Buf (Elt Ideal) ((c.tc : Thread Cert.Kernel13Ideal.nD Cert.Kernel13Ideal.τ).loc Cert.Kernel13Ideal.main_v6_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_v6_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v24) = v2 c
          ∧ r.2.mem ((c.tc : Thread Cert.Reference13Ideal.nD Cert.Reference13Ideal.τ).loc Cert.Reference13Ideal.main_v22) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_scores : Cert.Pre_finite_scores.Facts) (hPre_gate_above : Cert.Pre_gate_above.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_gate_above (hKernel8Ideal := hKernel8Ideal) (hPre_gate_above := hPre_gate_above)
    ∧ quiescent_Reference8Ideal (hReference8Ideal := hReference8Ideal)
    ∧ quiescent_Reference8Ideal_pre_gate_above (hReference8Ideal := hReference8Ideal) (hPre_gate_above := hPre_gate_above)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_gate_above (hKernel8Ideal := hKernel8Ideal) (hReference8Ideal := hReference8Ideal) (hPre_gate_above := hPre_gate_above)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_scores.lean ====
abbrev S2x4096x12288 : Shape := ⟨3, ![2, 4096, 12288]⟩
abbrev S2x32x4096 : Shape := ⟨3, ![2, 32, 4096]⟩
abbrev S8192x4096 : Shape := ⟨2, ![8192, 4096]⟩
abbrev S4096x4096 : Shape := ⟨2, ![4096, 4096]⟩
abbrev S2x4096x8192 : Shape := ⟨3, ![2, 4096, 8192]⟩
abbrev S2x4096x2x32x128 : Shape := ⟨5, ![2, 4096, 2, 32, 128]⟩
abbrev S2x4096x32 : Shape := ⟨3, ![2, 4096, 32]⟩
abbrev S2x4096x1x32x1 : Shape := ⟨5, ![2, 4096, 1, 32, 1]⟩
abbrev S_ : Shape := ⟨0, ![]⟩

class Facts : Prop where
  slices_S2x4096x12288_S2x4096x8192_0_0_0 : S2x4096x12288.Slices ![0, 0, 0] S2x4096x8192
  shapeCasts_S2x4096x8192_S2x4096x2x32x128 : S2x4096x8192.ShapeCasts S2x4096x2x32x128
  transposes_S2x32x4096_S2x4096x32_0_2_1 : S2x32x4096.Transposes [0, 2, 1] S2x4096x32
  shapeCasts_S2x4096x32_S2x4096x1x32x1 : S2x4096x32.ShapeCasts S2x4096x1x32x1
  bcast_S_S2x4096x2x32x128 : S_.BroadcastsInDim S2x4096x2x32x128 (![] : Fin 0 → Fin S2x4096x2x32x128.rank)
  bcast_S_S2x4096x1x32x1 : S_.BroadcastsInDim S2x4096x1x32x1 (![] : Fin 0 → Fin S2x4096x1x32x1.rank)
  bcast_S2x4096x1x32x1_S2x4096x2x32x128_0_1_2_3_4 : S2x4096x1x32x1.BroadcastsInDim S2x4096x2x32x128 (![0, 1, 2, 3, 4] : Fin 5 → Fin S2x4096x2x32x128.rank)

variable [Facts]

def fn {F : FTy → Type} [FloatOps F] (main_arg0 : FVec F S2x4096x12288 .f32) (main_arg1 : FVec F S2x32x4096 .f32) (main_arg2 : FVec F S8192x4096 .f32) (main_arg3 : FVec F S4096x4096 .f32) : IVec S2x4096x2x32x128 1 :=
  let main_v0 : FVec F S2x4096x8192 .f32 := (extractStridedSlice S2x4096x8192 ![0, 0, 0] · slices_S2x4096x12288_S2x4096x8192_0_0_0) main_arg0
  let main_v1 : FVec F S2x4096x8192 .f32 := Host.absf main_v0
  let main_v2 : FVec F S2x4096x2x32x128 .f32 := shapeCast S2x4096x2x32x128 main_v1 shapeCasts_S2x4096x8192_S2x4096x2x32x128
  let main_v3 : FVec F S2x32x4096 .f32 := Host.absf main_arg1
  let main_v4 : FVec F S2x4096x32 .f32 := (transpose S2x4096x32 [0, 2, 1] · transposes_S2x32x4096_S2x4096x32_0_2_1) main_v3
  let main_v5 : FVec F S2x4096x1x32x1 .f32 := shapeCast S2x4096x1x32x1 main_v4 shapeCasts_S2x4096x32_S2x4096x1x32x1
  let main_cst : FVec F S_ .f32 := constant S_ .f32 0x7F800000#32
  let main_v6 : FVec F S2x4096x2x32x128 .f32 := broadcastInDim S2x4096x2x32x128 ![] bcast_S_S2x4096x2x32x128 main_cst
  let main_v7 : IVec S2x4096x2x32x128 1 := cmpf .olt main_v2 main_v6
  let main_cst_0 : FVec F S_ .f32 := constant S_ .f32 0x7F800000#32
  let main_v8 : FVec F S2x4096x1x32x1 .f32 := broadcastInDim S2x4096x1x32x1 ![] bcast_S_S2x4096x1x32x1 main_cst_0
  let main_v9 : IVec S2x4096x1x32x1 1 := cmpf .olt main_v5 main_v8
  let main_v10 : IVec S2x4096x2x32x128 1 := broadcastInDim S2x4096x2x32x128 ![0, 1, 2, 3, 4] bcast_S2x4096x1x32x1_S2x4096x2x32x128_0_1_2_3_4 main_v9
  let main_v11 : IVec S2x4096x2x32x128 1 := andi main_v7 main_v10
  main_v11
-- ==== Pre_gate_above.lean ====
abbrev S8192x4096 : Shape := ⟨2, ![8192, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S8192x22016 : Shape := ⟨2, ![8192, 22016]⟩
abbrev S2x4096x22016 : Shape := ⟨3, ![2, 4096, 22016]⟩
abbrev S_ : Shape := ⟨0, ![]⟩
abbrev S2x4098x22016 : Shape := ⟨3, ![2, 4098, 22016]⟩
abbrev S1x22016 : Shape := ⟨2, ![1, 22016]⟩
abbrev S1x1x22016 : Shape := ⟨3, ![1, 1, 22016]⟩
abbrev S2x4096x11008 : Shape := ⟨3, ![2, 4096, 11008]⟩

class Facts : Prop where
  shapeCasts_S8192x22016_S2x4096x22016 : S8192x22016.ShapeCasts S2x4096x22016
  pads_S2x4096x22016_S2x4098x22016_000_200_000 : S2x4096x22016.Pads (![0, 2, 0] : Fin 3 → Nat) ![0, 0, 0] ![0, 0, 0] S2x4098x22016
  h_S_ : 0 < S_.numel
  slices_S3x22016_S1x22016_0_0 : S3x22016.Slices ![0, 0] S1x22016
  shapeCasts_S1x22016_S22016 : S1x22016.ShapeCasts S22016
  slices_S2x4098x22016_S2x4096x22016_0_0_0 : S2x4098x22016.Slices ![0, 0, 0] S2x4096x22016
  bcast_S22016_S1x1x22016_2 : S22016.BroadcastsInDim S1x1x22016 (![2] : Fin 1 → Fin S1x1x22016.rank)
  bcast_S1x1x22016_S2x4096x22016_0_1_2 : S1x1x22016.BroadcastsInDim S2x4096x22016 (![0, 1, 2] : Fin 3 → Fin S2x4096x22016.rank)
  slices_S3x22016_S1x22016_1_0 : S3x22016.Slices ![1, 0] S1x22016
  slices_S2x4098x22016_S2x4096x22016_0_1_0 : S2x4098x22016.Slices ![0, 1, 0] S2x4096x22016
  slices_S3x22016_S1x22016_2_0 : S3x22016.Slices ![2, 0] S1x22016
  slices_S2x4098x22016_S2x4096x22016_0_2_0 : S2x4098x22016.Slices ![0, 2, 0] S2x4096x22016
  slices_S2x4096x22016_S2x4096x11008_0_0_0 : S2x4096x22016.Slices ![0, 0, 0] S2x4096x11008
  slices_S2x4096x22016_S2x4096x11008_0_0_11008 : S2x4096x22016.Slices ![0, 0, 11008] S2x4096x11008
  bcast_S_S2x4096x11008 : S_.BroadcastsInDim S2x4096x11008 (![] : Fin 0 → Fin S2x4096x11008.rank)
  dot_S8192x4096_S4096x22016_S8192x22016_1_0_0_1_n_n_wf : DotDims.WF S8192x4096 S4096x22016 S8192x22016 [1] [0] [0] [1] [] []

variable [Facts]

def dot_S8192x4096_S4096x22016_S8192x22016_1_0_0_1_n_n : DotDims S8192x4096 S4096x22016 S8192x22016 where
  lhsContracting := [1]
  rhsContracting := [0]
  lhsNonContracting := [0]
  rhsNonContracting := [1]
  lhsBatch := []
  rhsBatch := []
  wf := dot_S8192x4096_S4096x22016_S8192x22016_1_0_0_1_n_n_wf
def fn_pad {F : FTy → Type} [FloatOps F] (arg0 : FVec F S2x4096x22016 .f32) (arg1 : IVec S_ 32) : FVec F S2x4098x22016 .f32 :=
  let v0 : FVec F S_ .f32 := sitofp .f32 arg1
  let v1 : FVec F S2x4098x22016 .f32 := (fun x v => pad S2x4098x22016 ![0, 2, 0] ![0, 0, 0] ![0, 0, 0] x v pads_S2x4096x22016_S2x4098x22016_000_200_000 h_S_) arg0 v0
  v1

def fn_part1 {F : FTy → Type} [FloatOps F] (main_v18 : FVec F S2x4096x22016 .f32) (main_v21 : FVec F S2x4096x22016 .f32) (main_v22 : FVec F S1x1x22016 .f32) : IVec S2x4096x11008 1 :=
  let main_v23 : FVec F S2x4096x22016 .f32 := broadcastInDim S2x4096x22016 ![0, 1, 2] bcast_S1x1x22016_S2x4096x22016_0_1_2 main_v22
  let main_v24 : FVec F S2x4096x22016 .f32 := mulf main_v23 main_v21
  let main_v25 : FVec F S2x4096x22016 .f32 := addf main_v18 main_v24
  let main_v26 : FVec F S2x4096x11008 .f32 := (extractStridedSlice S2x4096x11008 ![0, 0, 0] · slices_S2x4096x22016_S2x4096x11008_0_0_0) main_v25
  let main_v27 : FVec F S2x4096x11008 .f32 := (extractStridedSlice S2x4096x11008 ![0, 0, 11008] · slices_S2x4096x22016_S2x4096x11008_0_0_11008) main_v25
  let main_cst : FVec F S_ .f32 := constant S_ .f32 0xFF800000#32
  let main_v28 : FVec F S2x4096x11008 .f32 := broadcastInDim S2x4096x11008 ![] bcast_S_S2x4096x11008 main_cst
  let main_v29 : IVec S2x4096x11008 1 := cmpf .ogt main_v27 main_v28
  main_v29

def fn {F : FTy → Type} [FloatOps F] (main_arg0 : FVec F S8192x4096 .bf16) (main_arg1 : FVec F S4096x22016 .f32) (main_arg2 : FVec F S3x22016 .f32) (main_arg3 : FVec F S22016 .f32) (main_arg4 : FVec F S11008x4096 .f32) : IVec S2x4096x11008 1 :=
  let main_v0 : FVec F S8192x22016 .f32 := (fun l r => Host.dotGeneral dot_S8192x4096_S4096x22016_S8192x22016_1_0_0_1_n_n none l r) main_arg0 main_arg1
  let main_v1 : FVec F S2x4096x22016 .f32 := shapeCast S2x4096x22016 main_v0 shapeCasts_S8192x22016_S2x4096x22016
  let main_c : IVec S_ 32 := constantI S_ 32 0#32
  let main_v2 : FVec F S2x4098x22016 .f32 := fn_pad (F := F) main_v1 main_c
  let main_v3 : FVec F S1x22016 .f32 := (extractStridedSlice S1x22016 ![0, 0] · slices_S3x22016_S1x22016_0_0) main_arg2
  let main_v4 : FVec F S22016 .f32 := shapeCast S22016 main_v3 shapeCasts_S1x22016_S22016
  let main_v5 : FVec F S2x4096x22016 .f32 := (extractStridedSlice S2x4096x22016 ![0, 0, 0] · slices_S2x4098x22016_S2x4096x22016_0_0_0) main_v2
  let main_v6 : FVec F S1x1x22016 .f32 := broadcastInDim S1x1x22016 ![2] bcast_S22016_S1x1x22016_2 main_v4
  let main_v7 : FVec F S2x4096x22016 .f32 := broadcastInDim S2x4096x22016 ![0, 1, 2] bcast_S1x1x22016_S2x4096x22016_0_1_2 main_v6
  let main_v8 : FVec F S2x4096x22016 .f32 := mulf main_v7 main_v5
  let main_v9 : FVec F S1x1x22016 .f32 := broadcastInDim S1x1x22016 ![2] bcast_S22016_S1x1x22016_2 main_arg3
  let main_v10 : FVec F S2x4096x22016 .f32 := broadcastInDim S2x4096x22016 ![0, 1, 2] bcast_S1x1x22016_S2x4096x22016_0_1_2 main_v9
  let main_v11 : FVec F S2x4096x22016 .f32 := addf main_v10 main_v8
  let main_v12 : FVec F S1x22016 .f32 := (extractStridedSlice S1x22016 ![1, 0] · slices_S3x22016_S1x22016_1_0) main_arg2
  let main_v13 : FVec F S22016 .f32 := shapeCast S22016 main_v12 shapeCasts_S1x22016_S22016
  let main_v14 : FVec F S2x4096x22016 .f32 := (extractStridedSlice S2x4096x22016 ![0, 1, 0] · slices_S2x4098x22016_S2x4096x22016_0_1_0) main_v2
  let main_v15 : FVec F S1x1x22016 .f32 := broadcastInDim S1x1x22016 ![2] bcast_S22016_S1x1x22016_2 main_v13
  let main_v16 : FVec F S2x4096x22016 .f32 := broadcastInDim S2x4096x22016 ![0, 1, 2] bcast_S1x1x22016_S2x4096x22016_0_1_2 main_v15
  let main_v17 : FVec F S2x4096x22016 .f32 := mulf main_v16 main_v14
  let main_v18 : FVec F S2x4096x22016 .f32 := addf main_v11 main_v17
  let main_v19 : FVec F S1x22016 .f32 := (extractStridedSlice S1x22016 ![2, 0] · slices_S3x22016_S1x22016_2_0) main_arg2
  let main_v20 : FVec F S22016 .f32 := shapeCast S22016 main_v19 shapeCasts_S1x22016_S22016
  let main_v21 : FVec F S2x4096x22016 .f32 := (extractStridedSlice S2x4096x22016 ![0, 2, 0] · slices_S2x4098x22016_S2x4096x22016_0_2_0) main_v2
  let main_v22 : FVec F S1x1x22016 .f32 := broadcastInDim S1x1x22016 ![2] bcast_S22016_S1x1x22016_2 main_v20
  fn_part1 (F := F) main_v18 main_v21 main_v22
-- ==== Kernel.lean ====
abbrev S2x4096x12288 : Shape := ⟨3, ![2, 4096, 12288]⟩
abbrev S2x32x4096 : Shape := ⟨3, ![2, 32, 4096]⟩
abbrev S8192x4096 : Shape := ⟨2, ![8192, 4096]⟩
abbrev S4096x4096 : Shape := ⟨2, ![4096, 4096]⟩
abbrev S8192x12288 : Shape := ⟨2, ![8192, 12288]⟩
abbrev S_ : Shape := ⟨0, ![]⟩
abbrev S16x4x8x512 : Shape := ⟨4, ![16, 4, 8, 512]⟩
abbrev S512x512 : Shape := ⟨2, ![512, 512]⟩
abbrev S4096x512 : Shape := ⟨2, ![4096, 512]⟩
abbrev S1x4x8x512 : Shape := ⟨4, ![1, 4, 8, 512]⟩
abbrev S64x4096 : Shape := ⟨2, ![64, 4096]⟩
abbrev S32x4096 : Shape := ⟨2, ![32, 4096]⟩
abbrev S4x4096x256 : Shape := ⟨3, ![4, 4096, 256]⟩
abbrev S4x512x128 : Shape := ⟨3, ![4, 512, 128]⟩
abbrev S4x512x256 : Shape := ⟨3, ![4, 512, 256]⟩
abbrev S4096x128 : Shape := ⟨2, ![4096, 128]⟩
abbrev S1x4096x128 : Shape := ⟨3, ![1, 4096, 128]⟩
abbrev S512x128 : Shape := ⟨2, ![512, 128]⟩
abbrev S1x1x1x512 : Shape := ⟨4, ![1, 1, 1, 512]⟩
abbrev S1x512 : Shape := ⟨2, ![1, 512]⟩
abbrev S1x512x128 : Shape := ⟨3, ![1, 512, 128]⟩
abbrev S512 : Shape := ⟨1, ![512]⟩
abbrev S512x1 : Shape := ⟨2, ![512, 1]⟩
abbrev S1x512x256 : Shape := ⟨3, ![1, 512, 256]⟩
abbrev S512x256 : Shape := ⟨2, ![512, 256]⟩

abbrev nBuf : Space → Nat
  | .hbm => 21
  | .vmem => 21
  | .smem => 0
  | _ => 0

abbrev bufTy : (tb : Table) → Fin (tcTables nBuf tb) → BufTy
  | .hbm, ⟨0, _⟩ => ⟨S2x4096x12288, .f32⟩
  | .hbm, ⟨1, _⟩ => ⟨S2x32x4096, .f32⟩
  | .hbm, ⟨2, _⟩ => ⟨S8192x4096, .f32⟩
  | .hbm, ⟨3, _⟩ => ⟨S4096x4096, .f32⟩
  | .hbm, ⟨4, _⟩ => ⟨S8192x12288, .i32⟩
  | .hbm, ⟨5, _⟩ => ⟨S_, .i32⟩
  | .hbm, ⟨6, _⟩ => ⟨S8192x12288, .i32⟩
  | .hbm, ⟨7, _⟩ => ⟨S8192x12288, .i1⟩
  | .hbm, ⟨8, _⟩ => ⟨S_, .f32⟩
  | .hbm, ⟨9, _⟩ => ⟨S_, .f32⟩
  | .hbm, ⟨10, _⟩ => ⟨S8192x12288, .f32⟩
  | .hbm, ⟨11, _⟩ => ⟨S8192x12288, .f32⟩
  | .hbm, ⟨12, _⟩ => ⟨S8192x12288, .f32⟩
  | .hbm, ⟨13, _⟩ => ⟨S8192x12288, .f32⟩
  | .hbm, ⟨14, _⟩ => ⟨S8192x12288, .f32⟩
  | .hbm, ⟨15, _⟩ => ⟨S8192x12288, .f32⟩
  | .hbm, ⟨16, _⟩ => ⟨S8192x12288, .bf16⟩
  | .hbm, ⟨17, _⟩ => ⟨S16x4x8x512, .f32⟩
  | .hbm, ⟨18, _⟩ => ⟨S8192x4096, .bf16⟩
  | .hbm, ⟨19, _⟩ => ⟨S8192x4096, .bf16⟩
  | .hbm, ⟨20, _⟩ => ⟨S4096x4096, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x4x8x512, .f32⟩
  | .local _ .vmem, ⟨7, _⟩ => ⟨S1x4x8x512, .f32⟩
  | .local _ .vmem, ⟨8, _⟩ => ⟨S64x4096, .f32⟩
  | .local _ .vmem, ⟨9, _⟩ => ⟨S64x4096, .f32⟩
  | .local _ .vmem, ⟨10, _⟩ => ⟨S32x4096, .f32⟩
  | .local _ .vmem, ⟨11, _⟩ => ⟨S32x4096, .f32⟩
  | .local _ .vmem, ⟨12, _⟩ => ⟨S512x512, .bf16⟩
  | .local _ .vmem, ⟨13, _⟩ => ⟨S512x512, .bf16⟩
  | .local _ .vmem, ⟨14, _⟩ => ⟨S64x4096, .bf16⟩
  | .local _ .vmem, ⟨15, _⟩ => ⟨S64x4096, .bf16⟩
  | .local _ .vmem, ⟨16, _⟩ => ⟨S32x4096, .bf16⟩
  | .local _ .vmem, ⟨17, _⟩ => ⟨S32x4096, .bf16⟩
  | .local _ .vmem, ⟨18, _⟩ => ⟨S4x4096x256, .bf16⟩
  | .local _ .vmem, ⟨19, _⟩ => ⟨S4x512x128, .f32⟩
  | .local _ .vmem, ⟨20, _⟩ => ⟨S4x512x256, .f32⟩
  | _, _ => ⟨S2x4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 8], ![false, false, false]⟩

@[reducible] def k0_t1_loop (i : grid0.Coords) : Scf.Loop 32 :=
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_17 : BitVec 32 := 1#32
  ⟨c0_i32_16, v21, c1_i32_17⟩
def k0_mult1 (i : grid0.Coords) (k0_t1 : Fin (k0_t1_loop i).trips) : BitVec 32 :=
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  v215
def k0_off1 (i : grid0.Coords) (k0_t1 : Fin (k0_t1_loop i).trips) : Fin 2 → Nat :=
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v219 : Index := Scalar.indexCast v216
  let c0_132 : Index := 0#32
  ![v219.toNat, 0]
def k0_off2 (i : grid0.Coords) (k0_t1 : Fin (k0_t1_loop i).trips) : Fin 2 → Nat :=
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v225 : Index := Scalar.indexCast v216
  let c128_136 : Index := 128#32
  ![v225.toNat, 128]
def k0_off3 (i : grid0.Coords) (k0_t1 : Fin (k0_t1_loop i).trips) : Fin 4 → Nat :=
  let c0_138 : Index := 0#32
  let c0_139 : Index := 0#32
  let c0_i32_16 : BitVec 32 := 0#32
  let c1_i32_17 : BitVec 32 := 1#32
  let arg15 : BitVec 32 := Scf.iv c0_i32_16 c1_i32_17 k0_t1
  let v229 : Index := Scalar.indexCast arg15
  let c0_140 : Index := 0#32
  ![0, 0, v229.toNat, 0]
def k0_off4 (i : grid0.Coords) (k0_t1 : Fin (k0_t1_loop i).trips) : Fin 2 → Nat :=
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v251 : Index := Scalar.indexCast v216
  let c256_150 : Index := 256#32
  ![v251.toNat, 256]
def k0_off5 (i : grid0.Coords) (k0_t1 : Fin (k0_t1_loop i).trips) : Fin 4 → Nat :=
  let c0_152 : Index := 0#32
  let c1_153 : Index := 1#32
  let c0_i32_16 : BitVec 32 := 0#32
  let c1_i32_17 : BitVec 32 := 1#32
  let arg15 : BitVec 32 := Scf.iv c0_i32_16 c1_i32_17 k0_t1
  let v255 : Index := Scalar.indexCast arg15
  let c0_154 : Index := 0#32
  ![0, 1, v255.toNat, 0]
def k0_off6 (i : grid0.Coords) (k0_t1 : Fin (k0_t1_loop i).trips) : Fin 3 → Nat :=
  let c0_162 : Index := 0#32
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v275 : Index := Scalar.indexCast v216
  let c0_163 : Index := 0#32
  ![0, v275.toNat, 0]
def k0_off7 (i : grid0.Coords) (k0_t1 : Fin (k0_t1_loop i).trips) : Fin 2 → Nat :=
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v289 : Index := Scalar.indexCast v216
  let c384_173 : Index := 384#32
  ![v289.toNat, 384]
def k0_off8 (i : grid0.Coords) (k0_t1 : Fin (k0_t1_loop i).trips) : Fin 4 → Nat :=
  let c0_175 : Index := 0#32
  let c2_176 : Index := 2#32
  let c0_i32_16 : BitVec 32 := 0#32
  let c1_i32_17 : BitVec 32 := 1#32
  let arg15 : BitVec 32 := Scf.iv c0_i32_16 c1_i32_17 k0_t1
  let v293 : Index := Scalar.indexCast arg15
  let c0_177 : Index := 0#32
  ![0, 2, v293.toNat, 0]
def k0_off9 (i : grid0.Coords) (k0_t1 : Fin (k0_t1_loop i).trips) : Fin 3 → Nat :=
  let c1_185 : Index := 1#32
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v313 : Index := Scalar.indexCast v216
  let c0_186 : Index := 0#32
  ![1, v313.toNat, 0]
def k0_off10 (i : grid0.Coords) (k0_t1 : Fin (k0_t1_loop i).trips) : Fin 4 → Nat :=
  let c0_194 : Index := 0#32
  let c3_195 : Index := 3#32
  let c0_i32_16 : BitVec 32 := 0#32
  let c1_i32_17 : BitVec 32 := 1#32
  let arg15 : BitVec 32 := Scf.iv c0_i32_16 c1_i32_17 k0_t1
  let v325 : Index := Scalar.indexCast arg15
  let c0_196 : Index := 0#32
  ![0, 3, v325.toNat, 0]
def k0_off11 (i : grid0.Coords) (k0_t1 : Fin (k0_t1_loop i).trips) : Fin 3 → Nat :=
  let c2_204 : Index := 2#32
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v345 : Index := Scalar.indexCast v216
  let c0_205 : Index := 0#32
  ![2, v345.toNat, 0]
def k0_off12 (i : grid0.Coords) (k0_t1 : Fin (k0_t1_loop i).trips) : Fin 3 → Nat :=
  let c3_213 : Index := 3#32
  let c0_i32_16 : BitVec 32 := 0#32
  let c1_i32_17 : BitVec 32 := 1#32
  let arg15 : BitVec 32 := Scf.iv c0_i32_16 c1_i32_17 k0_t1
  let c512_i32_129 : BitVec 32 := 512#32
  let v215 : BitVec 32 := Scalar.muli arg15 c512_i32_129
  let v216 : BitVec 32 := v215
  let v357 : Index := Scalar.indexCast v216
  let c0_214 : Index := 0#32
  ![3, v357.toNat, 0]
@[reducible] def k0_t2_loop (i : grid0.Coords) : Scf.Loop 32 :=
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let v18 : BitVec 32 := Scalar.addi c0_i32_16 v17
  let c1_i32_18 : BitVec 32 := 1#32
  ⟨v21, v18, c1_i32_18⟩
def k0_mult2 (i : grid0.Coords) (k0_t2 : Fin (k0_t2_loop i).trips) : BitVec 32 :=
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  v215
def k0_off13 (i : grid0.Coords) (k0_t2 : Fin (k0_t2_loop i).trips) : Fin 2 → Nat :=
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v219 : Index := Scalar.indexCast v216
  let c0_132 : Index := 0#32
  ![v219.toNat, 0]
def k0_off14 (i : grid0.Coords) (k0_t2 : Fin (k0_t2_loop i).trips) : Fin 2 → Nat :=
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v225 : Index := Scalar.indexCast v216
  let c128_136 : Index := 128#32
  ![v225.toNat, 128]
def k0_off15 (i : grid0.Coords) (k0_t2 : Fin (k0_t2_loop i).trips) : Fin 4 → Nat :=
  let c0_138 : Index := 0#32
  let c0_139 : Index := 0#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let v229 : Index := Scalar.indexCast arg15
  let c0_140 : Index := 0#32
  ![0, 0, v229.toNat, 0]
def k0_off16 (i : grid0.Coords) (k0_t2 : Fin (k0_t2_loop i).trips) : Fin 2 → Nat :=
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v251 : Index := Scalar.indexCast v216
  let c256_150 : Index := 256#32
  ![v251.toNat, 256]
def k0_off17 (i : grid0.Coords) (k0_t2 : Fin (k0_t2_loop i).trips) : Fin 4 → Nat :=
  let c0_152 : Index := 0#32
  let c1_153 : Index := 1#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let v255 : Index := Scalar.indexCast arg15
  let c0_154 : Index := 0#32
  ![0, 1, v255.toNat, 0]
def k0_off18 (i : grid0.Coords) (k0_t2 : Fin (k0_t2_loop i).trips) : Fin 3 → Nat :=
  let c0_162 : Index := 0#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v275 : Index := Scalar.indexCast v216
  let c0_163 : Index := 0#32
  ![0, v275.toNat, 0]
def k0_off19 (i : grid0.Coords) (k0_t2 : Fin (k0_t2_loop i).trips) : Fin 2 → Nat :=
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v289 : Index := Scalar.indexCast v216
  let c384_173 : Index := 384#32
  ![v289.toNat, 384]
def k0_off20 (i : grid0.Coords) (k0_t2 : Fin (k0_t2_loop i).trips) : Fin 4 → Nat :=
  let c0_175 : Index := 0#32
  let c2_176 : Index := 2#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let v293 : Index := Scalar.indexCast arg15
  let c0_177 : Index := 0#32
  ![0, 2, v293.toNat, 0]
def k0_off21 (i : grid0.Coords) (k0_t2 : Fin (k0_t2_loop i).trips) : Fin 3 → Nat :=
  let c1_185 : Index := 1#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v313 : Index := Scalar.indexCast v216
  let c0_186 : Index := 0#32
  ![1, v313.toNat, 0]
def k0_off22 (i : grid0.Coords) (k0_t2 : Fin (k0_t2_loop i).trips) : Fin 4 → Nat :=
  let c0_194 : Index := 0#32
  let c3_195 : Index := 3#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let v325 : Index := Scalar.indexCast arg15
  let c0_196 : Index := 0#32
  ![0, 3, v325.toNat, 0]
def k0_off23 (i : grid0.Coords) (k0_t2 : Fin (k0_t2_loop i).trips) : Fin 3 → Nat :=
  let c2_204 : Index := 2#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v345 : Index := Scalar.indexCast v216
  let c0_205 : Index := 0#32
  ![2, v345.toNat, 0]
def k0_off24 (i : grid0.Coords) (k0_t2 : Fin (k0_t2_loop i).trips) : Fin 3 → Nat :=
  let c3_213 : Index := 3#32
  let c0_i32_16 : BitVec 32 := 0#32
  let arg2 : BitVec 32 := BitVec.ofNat 32 (i 2).val
  let v17 : BitVec 32 := Scalar.subi arg2 c0_i32_16
  let c1_i32 : BitVec 32 := 1#32
  let v19 : BitVec 32 := Scalar.divsi v17 c1_i32
  let v20 : BitVec 32 := Scalar.muli v19 c1_i32
  let v21 : BitVec 32 := Scalar.addi c0_i32_16 v20
  let c1_i32_18 : BitVec 32 := 1#32
  let arg15 : BitVec 32 := Scf.iv v21 c1_i32_18 k0_t2
  let c512_i32_129 : BitVec 32 := 512#32
  let v215 : BitVec 32 := Scalar.muli arg15 c512_i32_129
  let v216 : BitVec 32 := v215
  let v357 : Index := Scalar.indexCast v216
  let c0_214 : Index := 0#32
  ![3, v357.toNat, 0]
def k0_mult3 (i : grid0.Coords) : BitVec 32 :=
  let arg2 : BitVec 32 := BitVec.ofNat 32 (i 2).val
  let c512_i32 : BitVec 32 := 512#32
  let v22 : BitVec 32 := Scalar.muli arg2 c512_i32
  v22
def k0_off25 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let v29 : Index := Scalar.indexCast v23
  let c0_21 : Index := 0#32
  ![v29.toNat, 0]
def k0_off26 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let v35 : Index := Scalar.indexCast v23
  let c128_24 : Index := 128#32
  ![v35.toNat, 128]
def k0_off27 (i : grid0.Coords) : Fin 4 → Nat :=
  let c0_26 : Index := 0#32
  let c0_27 : Index := 0#32
  let arg2 : BitVec 32 := BitVec.ofNat 32 (i 2).val
  let v39 : Index := Scalar.indexCast arg2
  let c0_28 : Index := 0#32
  ![0, 0, v39.toNat, 0]
def k0_off28 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let v63 : Index := Scalar.indexCast v23
  let c256_38 : Index := 256#32
  ![v63.toNat, 256]
def k0_off29 (i : grid0.Coords) : Fin 4 → Nat :=
  let c0_40 : Index := 0#32
  let c1 : Index := 1#32
  let arg2 : BitVec 32 := BitVec.ofNat 32 (i 2).val
  let v67 : Index := Scalar.indexCast arg2
  let c0_41 : Index := 0#32
  ![0, 1, v67.toNat, 0]
def k0_off30 (i : grid0.Coords) : Fin 3 → Nat :=
  let c0_50 : Index := 0#32
  let arg2 : BitVec 32 := BitVec.ofNat 32 (i 2).val
  let c512_i32 : BitVec 32 := 512#32
  let v22 : BitVec 32 := Scalar.muli arg2 c512_i32
  let v23 : BitVec 32 := v22
  let v89 : Index := Scalar.indexCast v23
  let c0_51 : Index := 0#32
  ![0, v89.toNat, 0]
def k0_off31 (i : grid0.Coords) : Fin 2 → Nat :=
  let arg2 : BitVec 32 := BitVec.ofNat 32 (i 2).val
  let c512_i32 : BitVec 32 := 512#32
  let v22 : BitVec 32 := Scalar.muli arg2 c512_i32
  let v23 : BitVec 32 := v22
  let v103 : Index := Scalar.indexCast v23
  let c384_60 : Index := 384#32
  ![v103.toNat, 384]
def k0_off32 (i : grid0.Coords) : Fin 4 → Nat :=
  let c0_62 : Index := 0#32
  let c2 : Index := 2#32
  let arg2 : BitVec 32 := BitVec.ofNat 32 (i 2).val
  let v107 : Index := Scalar.indexCast arg2
  let c0_63 : Index := 0#32
  ![0, 2, v107.toNat, 0]
def k0_off33 (i : grid0.Coords) : Fin 3 → Nat :=
  let c1_72 : Index := 1#32
  let arg2 : BitVec 32 := BitVec.ofNat 32 (i 2).val
  let c512_i32 : BitVec 32 := 512#32
  let v22 : BitVec 32 := Scalar.muli arg2 c512_i32
  let v23 : BitVec 32 := v22
  let v129 : Index := Scalar.indexCast v23
  let c0_73 : Index := 0#32
  ![1, v129.toNat, 0]
def k0_off34 (i : grid0.Coords) : Fin 4 → Nat :=
  let c0_81 : Index := 0#32
  let c3 : Index := 3#32
  let arg2 : BitVec 32 := BitVec.ofNat 32 (i 2).val
  let v141 : Index := Scalar.indexCast arg2
  let c0_82 : Index := 0#32
  ![0, 3, v141.toNat, 0]
def k0_off35 (i : grid0.Coords) : Fin 3 → Nat :=
  let c2_91 : Index := 2#32
  let arg2 : BitVec 32 := BitVec.ofNat 32 (i 2).val
  let c512_i32 : BitVec 32 := 512#32
  let v22 : BitVec 32 := Scalar.muli arg2 c512_i32
  let v23 : BitVec 32 := v22
  let v163 : Index := Scalar.indexCast v23
  let c0_92 : Index := 0#32
  ![2, v163.toNat, 0]
def k0_off36 (i : grid0.Coords) : Fin 3 → Nat :=
  let c3_100 : Index := 3#32
  let arg2 : BitVec 32 := BitVec.ofNat 32 (i 2).val
  let c512_i32 : BitVec 32 := 512#32
  let v22 : BitVec 32 := Scalar.muli arg2 c512_i32
  let v23 : BitVec 32 := v22
  let v175 : Index := Scalar.indexCast v23
  let c0_101 : Index := 0#32
  ![3, v175.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c0_i32 : BitVec 32 := 0#32
  let c0_i32_1 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let v3 : BitVec 32 := Scalar.addi v2 arg2
  let c0_i32 : BitVec 32 := 0#32
  let c0_i32_1 : BitVec 32 := 0#32
  ![v3.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x4096x12288 : Shape := ⟨3, ![2, 4096, 12288]⟩
abbrev S2x32x4096 : Shape := ⟨3, ![2, 32, 4096]⟩
abbrev S8192x4096 : Shape := ⟨2, ![8192, 4096]⟩
abbrev S4096x4096 : Shape := ⟨2, ![4096, 4096]⟩
abbrev S2x4096x4096 : Shape := ⟨3, ![2, 4096, 4096]⟩
abbrev S2x4096x32x128 : Shape := ⟨4, ![2, 4096, 32, 128]⟩
abbrev S2x32x4096x128 : Shape := ⟨4, ![2, 32, 4096, 128]⟩
abbrev S2x32x4096x4096 : Shape := ⟨4, ![2, 32, 4096, 4096]⟩
abbrev S_ : Shape := ⟨0, ![]⟩
abbrev S2x32x4096x1 : Shape := ⟨4, ![2, 32, 4096, 1]⟩
abbrev S2x32x1x4096 : Shape := ⟨4, ![2, 32, 1, 4096]⟩
abbrev S4096 : Shape := ⟨1, ![4096]⟩
abbrev S4096x1 : Shape := ⟨2, ![4096, 1]⟩
abbrev S1x4096 : Shape := ⟨2, ![1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x12288, .f32⟩
  | .hbm, ⟨1, _⟩ => ⟨S2x32x4096, .f32⟩
  | .hbm, ⟨2, _⟩ => ⟨S8192x4096, .f32⟩
  | .hbm, ⟨3, _⟩ => ⟨S4096x4096, .f32⟩
  | .hbm, ⟨4, _⟩ => ⟨S2x4096x4096, .f32⟩
  | .hbm, ⟨5, _⟩ => ⟨S2x4096x4096, .f32⟩
  | .hbm, ⟨6, _⟩ => ⟨S2x4096x4096, .f32⟩
  | .hbm, ⟨7, _⟩ => ⟨S2x4096x32x128, .f32⟩
  | .hbm, ⟨8, _⟩ => ⟨S2x32x4096x128, .f32⟩
  | .hbm, ⟨9, _⟩ => ⟨S2x4096x32x128, .f32⟩
  | .hbm, ⟨10, _⟩ => ⟨S2x32x4096x128, .f32⟩
  | .hbm, ⟨11, _⟩ => ⟨S2x4096x32x128, .f32⟩
  | .hbm, ⟨12, _⟩ => ⟨S2x32x4096x128, .f32⟩
  | .hbm, ⟨13, _⟩ => ⟨S2x32x4096x4096, .f32⟩
  | .hbm, ⟨14, _⟩ => ⟨S_, .f32⟩
  | .hbm, ⟨15, _⟩ => ⟨S2x32x4096x4096, .f32⟩
  | .hbm, ⟨16, _⟩ => ⟨S2x32x4096x4096, .f32⟩
  | .hbm, ⟨17, _⟩ => ⟨S2x32x4096x1, .f32⟩
  | .hbm, ⟨18, _⟩ => ⟨S2x32x4096x4096, .f32⟩
  | .hbm, ⟨19, _⟩ => ⟨S2x32x4096x4096, .f32⟩
  | .hbm, ⟨20, _⟩ => ⟨S2x32x1x4096, .f32⟩
  | .hbm, ⟨21, _⟩ => ⟨S2x32x4096x4096, .f32⟩
  | .hbm, ⟨22, _⟩ => ⟨S2x32x4096x4096, .f32⟩
  | .hbm, ⟨23, _⟩ => ⟨S4096, .i32⟩
  | .hbm, ⟨24, _⟩ => ⟨S4096x1, .i32⟩
  | .hbm, ⟨25, _⟩ => ⟨S4096, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S2x32x4096x4096, .i1⟩
  | .hbm, ⟨33, _⟩ => ⟨S2x32x4096x4096, .f32⟩
  | .hbm, ⟨34, _⟩ => ⟨S2x32x4096x4096, .f32⟩
  | .hbm, ⟨35, _⟩ => ⟨S_, .f32⟩
  | .hbm, ⟨36, _⟩ => ⟨S2x32x4096, .f32⟩
  | .hbm, ⟨37, _⟩ => ⟨S_, .f32⟩
  | .hbm, ⟨38, _⟩ => ⟨S2x32x4096, .f32⟩
  | .hbm, ⟨39, _⟩ => ⟨S2x32x4096, .f32⟩
  | .hbm, ⟨40, _⟩ => ⟨S2x32x4096x1, .f32⟩
  | .hbm, ⟨41, _⟩ => ⟨S2x32x4096x4096, .f32⟩
  | .hbm, ⟨42, _⟩ => ⟨S2x32x4096x4096, .f32⟩
  | .hbm, ⟨43, _⟩ => ⟨S2x32x4096x4096, .f32⟩
  | .hbm, ⟨44, _⟩ => ⟨S_, .f32⟩
  | .hbm, ⟨45, _⟩ => ⟨S2x32x4096, .f32⟩
  | .hbm, ⟨46, _⟩ => ⟨S2x32x4096x1, .f32⟩
  | .hbm, ⟨47, _⟩ => ⟨S2x32x4096x4096, .f32⟩
  | .hbm, ⟨48, _⟩ => ⟨S2x32x4096x4096, .f32⟩
  | .hbm, ⟨49, _⟩ => ⟨S2x32x4096x128, .f32⟩
  | .hbm, ⟨50, _⟩ => ⟨S2x4096x32x128, .f32⟩
  | .hbm, ⟨51, _⟩ => ⟨S8192x4096, .f32⟩
  | .hbm, ⟨52, _⟩ => ⟨S8192x4096, .bf16⟩
  | .hbm, ⟨53, _⟩ => ⟨S8192x4096, .bf16⟩
  | .hbm, ⟨54, _⟩ => ⟨S4096x4096, .bf16⟩
  | _, _ => ⟨S2x4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel2.lean ====
abbrev S8192x8192 : Shape := ⟨2, ![8192, 8192]⟩
abbrev S8192x4096 : Shape := ⟨2, ![8192, 4096]⟩
abbrev S4096x4096 : Shape := ⟨2, ![4096, 4096]⟩
abbrev S8192x256 : Shape := ⟨2, ![8192, 256]⟩
abbrev S1024x8192 : Shape := ⟨2, ![1024, 8192]⟩
abbrev S1024x4096 : Shape := ⟨2, ![1024, 4096]⟩
abbrev S4096x256 : Shape := ⟨2, ![4096, 256]⟩
abbrev S1024x256 : Shape := ⟨2, ![1024, 256]⟩
abbrev S32x4096 : Shape := ⟨2, ![32, 4096]⟩

abbrev nBuf : Space → Nat
  | .hbm => 8
  | .vmem => 16
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .bf16⟩
  | .hbm, ⟨3, _⟩ => ⟨S4096x4096, .bf16⟩
  | .hbm, ⟨4, _⟩ => ⟨S8192x8192, .f32⟩
  | .hbm, ⟨5, _⟩ => ⟨S4096x4096, .f32⟩
  | .hbm, ⟨6, _⟩ => ⟨S8192x4096, .bf16⟩
  | .hbm, ⟨7, _⟩ => ⟨S4096x4096, .bf16⟩
  | .local _ .vmem, ⟨0, _⟩ => ⟨S8192x256, .bf16⟩
  | .local _ .vmem, ⟨1, _⟩ => ⟨S8192x256, .bf16⟩
  | .local _ .vmem, ⟨2, _⟩ => ⟨S1024x8192, .bf16⟩
  | .local _ .vmem, ⟨3, _⟩ => ⟨S1024x4096, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S32x4096, .f32⟩
  | .local _ .vmem, ⟨11, _⟩ => ⟨S32x4096, .f32⟩
  | .local _ .vmem, ⟨12, _⟩ => ⟨S1024x256, .bf16⟩
  | .local _ .vmem, ⟨13, _⟩ => ⟨S1024x256, .bf16⟩
  | .local _ .vmem, ⟨14, _⟩ => ⟨S32x4096, .bf16⟩
  | .local _ .vmem, ⟨15, _⟩ => ⟨S32x4096, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8192x8192 : Shape := ⟨2, ![8192, 8192]⟩
abbrev S8192x4096 : Shape := ⟨2, ![8192, 4096]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .bf16⟩
  | .hbm, ⟨3, _⟩ => ⟨S4096x4096, .bf16⟩
  | .hbm, ⟨4, _⟩ => ⟨S8192x8192, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .bf16⟩
  | .hbm, ⟨14, _⟩ => ⟨S4096x4096, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S1024x11008 : Shape := ⟨2, ![1024, 11008]⟩
abbrev S11008x256 : Shape := ⟨2, ![11008, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x4096, .f32⟩
  | .local _ .vmem, ⟨0, _⟩ => ⟨S1024x11008, .bf16⟩
  | .local _ .vmem, ⟨1, _⟩ => ⟨S11008x256, .bf16⟩
  | .local _ .vmem, ⟨2, _⟩ => ⟨S11008x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S8192x4096 : Shape := ⟨2, ![8192, 4096]⟩
abbrev S12288x4096 : Shape := ⟨2, ![12288, 4096]⟩
abbrev S8192x12288 : Shape := ⟨2, ![8192, 12288]⟩
abbrev S1024x4096 : Shape := ⟨2, ![1024, 4096]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S12288x4096, .bf16⟩
  | .hbm, ⟨2, _⟩ => ⟨S8192x4096, .bf16⟩
  | .hbm, ⟨3, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S12288x4096 : Shape := ⟨2, ![12288, 4096]⟩
abbrev S8192x12288 : Shape := ⟨2, ![8192, 12288]⟩
abbrev S12288 : Shape := ⟨1, ![12288]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S12288x4096, .bf16⟩
  | .hbm, ⟨2, _⟩ => ⟨S8192x12288, .f32⟩
  | .hbm, ⟨3, _⟩ => ⟨S12288, .i32⟩
  | .hbm, ⟨4, _⟩ => ⟨S_, .i32⟩
  | .hbm, ⟨5, _⟩ => ⟨S12288, .i32⟩
  | .hbm, ⟨6, _⟩ => ⟨S12288, .i1⟩
  | .hbm, ⟨7, _⟩ => ⟨S_, .f32⟩
  | .hbm, ⟨8, _⟩ => ⟨S8192x12288, .f32⟩
  | .hbm, ⟨9, _⟩ => ⟨S8192x12288, .f32⟩
  | .hbm, ⟨10, _⟩ => ⟨S8192x12288, .i1⟩
  | .hbm, ⟨11, _⟩ => ⟨S8192x12288, .f32⟩
  | .hbm, ⟨12, _⟩ => ⟨S8192x12288, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S8192x4096 : Shape := ⟨2, ![8192, 4096]⟩
abbrev S2x4096 : Shape := ⟨2, ![2, 4096]⟩
abbrev S1x8192 : Shape := ⟨2, ![1, 8192]⟩
abbrev S8192x8192 : Shape := ⟨2, ![8192, 8192]⟩
abbrev S1024x4096 : Shape := ⟨2, ![1024, 4096]⟩
abbrev S1x1024 : Shape := ⟨2, ![1, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S2x4096, .f32⟩
  | .hbm, ⟨3, _⟩ => ⟨S8192x4096, .bf16⟩
  | .hbm, ⟨4, _⟩ => ⟨S1x8192, .f32⟩
  | .hbm, ⟨5, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x4096 : Shape := ⟨2, ![8192, 4096]⟩
abbrev S2x4096 : Shape := ⟨2, ![2, 4096]⟩
abbrev S8192x8192 : Shape := ⟨2, ![8192, 8192]⟩
abbrev S8192 : Shape := ⟨1, ![8192]⟩
abbrev S1x8192 : Shape := ⟨2, ![1, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S2x4096, .f32⟩
  | .hbm, ⟨3, _⟩ => ⟨S8192x8192, .f32⟩
  | .hbm, ⟨4, _⟩ => ⟨S8192, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S8192x4096 : Shape := ⟨2, ![8192, 4096]⟩
abbrev S18560x4096 : Shape := ⟨2, ![18560, 4096]⟩
abbrev S39072x4096 : Shape := ⟨2, ![39072, 4096]⟩
abbrev S8192x18432 : Shape := ⟨2, ![8192, 18432]⟩
abbrev S12288x4096 : Shape := ⟨2, ![12288, 4096]⟩
abbrev S1024x4096 : Shape := ⟨2, ![1024, 4096]⟩
abbrev S96x4096 : Shape := ⟨2, ![96, 4096]⟩
abbrev S64x4096 : Shape := ⟨2, ![64, 4096]⟩
abbrev S1024x1024 : Shape := ⟨2, ![1024, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S18560x4096, .bf16⟩
  | .hbm, ⟨2, _⟩ => ⟨S39072x4096, .f32⟩
  | .hbm, ⟨3, _⟩ => ⟨S8192x4096, .bf16⟩
  | .hbm, ⟨4, _⟩ => ⟨S8192x18432, .f32⟩
  | .hbm, ⟨5, _⟩ => ⟨S12288x4096, .bf16⟩
  | .hbm, ⟨6, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S96x4096, .f32⟩
  | .local _ .vmem, ⟨4, _⟩ => ⟨S96x4096, .f32⟩
  | .local _ .vmem, ⟨5, _⟩ => ⟨S64x4096, .f32⟩
  | .local _ .vmem, ⟨6, _⟩ => ⟨S64x4096, .f32⟩
  | .local _ .vmem, ⟨7, _⟩ => ⟨S1024x1024, .f32⟩
  | .local _ .vmem, ⟨8, _⟩ => ⟨S1024x1024, .f32⟩
  | .local _ .vmem, ⟨9, _⟩ => ⟨S96x4096, .bf16⟩
  | .local _ .vmem, ⟨10, _⟩ => ⟨S96x4096, .bf16⟩
  | .local _ .vmem, ⟨11, _⟩ => ⟨S64x4096, .bf16⟩
  | .local _ .vmem, ⟨12, _⟩ => ⟨S64x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 18], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def k0_mult2 (i : grid0.Coords) : BitVec 32 :=
  let c18560_i32 : BitVec 32 := 18560#32
  let arg0 : BitVec 32 := BitVec.ofNat 32 (i 0).val
  let c18_i32 : BitVec 32 := 18#32
  let v0 : BitVec 32 := Scalar.muli arg0 c18_i32
  let arg1 : BitVec 32 := BitVec.ofNat 32 (i 1).val
  let v1 : BitVec 32 := Scalar.addi v0 arg1
  let c127_i32 : BitVec 32 := 127#32
  let v2 : BitVec 32 := Scalar.minsi v1 c127_i32
  let c96_i32 : BitVec 32 := 96#32
  let v3 : BitVec 32 := Scalar.muli v2 c96_i32
  let v4 : BitVec 32 := Scalar.addi c18560_i32 v3
  v4
def k0_mult3 (i : grid0.Coords) : BitVec 32 :=
  let c30880_i32 : BitVec 32 := 30880#32
  let arg0 : BitVec 32 := BitVec.ofNat 32 (i 0).val
  let c18_i32 : BitVec 32 := 18#32
  let v0 : BitVec 32 := Scalar.muli arg0 c18_i32
  let arg1 : BitVec 32 := BitVec.ofNat 32 (i 1).val
  let v1 : BitVec 32 := Scalar.addi v0 arg1
  let c127_i32 : BitVec 32 := 127#32
  let v2 : BitVec 32 := Scalar.minsi v1 c127_i32
  let c64_i32 : BitVec 32 := 64#32
  let v3 : BitVec 32 := Scalar.muli v2 c64_i32
  let v4 : BitVec 32 := Scalar.addi c30880_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c96_i32 : BitVec 32 := 96#32
  let v3 : BitVec 32 := Scalar.muli v2 c96_i32
  let c18560_i32 : BitVec 32 := 18560#32
  let v4 : BitVec 32 := Scalar.addi c18560_i32 v3
  let v5 : BitVec 32 := v4
  let c0_i32 : BitVec 32 := 0#32
  let c0_i32_0 : BitVec 32 := 0#32
  ![v5.toNat, c0_i32.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c64_i32 : BitVec 32 := 64#32
  let v3 : BitVec 32 := Scalar.muli v2 c64_i32
  let c30880_i32 : BitVec 32 := 30880#32
  let v4 : BitVec 32 := Scalar.addi c30880_i32 v3
  let v5 : BitVec 32 := v4
  let c0_i32 : BitVec 32 := 0#32
  let c0_i32_0 : BitVec 32 := 0#32
  ![v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.muli arg0 c18_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S96x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S96x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8192x4096 : Shape := ⟨2, ![8192, 4096]⟩
abbrev S18560x4096 : Shape := ⟨2, ![18560, 4096]⟩
abbrev S39072x4096 : Shape := ⟨2, ![39072, 4096]⟩
abbrev S18432x4096 : Shape := ⟨2, ![18432, 4096]⟩
abbrev S8192x18432 : Shape := ⟨2, ![8192, 18432]⟩
abbrev S12288x4096 : Shape := ⟨2, ![12288, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S18560x4096, .bf16⟩
  | .hbm, ⟨2, _⟩ => ⟨S39072x4096, .f32⟩
  | .hbm, ⟨3, _⟩ => ⟨S18432x4096, .bf16⟩
  | .hbm, ⟨4, _⟩ => ⟨S8192x18432, .f32⟩
  | .hbm, ⟨5, _⟩ => ⟨S12288x4096, .f32⟩
  | .hbm, ⟨6, _⟩ => ⟨S12288x4096, .bf16⟩
  | .hbm, ⟨7, _⟩ => ⟨S8192x4096, .f32⟩
  | .hbm, ⟨8, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x4096 : Shape := ⟨2, ![8192, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S1x22016 : Shape := ⟨2, ![1, 22016]⟩
abbrev S8192x11008 : Shape := ⟨2, ![8192, 11008]⟩
abbrev S1024x4096 : Shape := ⟨2, ![1024, 4096]⟩
abbrev S16x4096 : Shape := ⟨2, ![16, 4096]⟩
abbrev S4096x256 : Shape := ⟨2, ![4096, 256]⟩
abbrev S3x256 : Shape := ⟨2, ![3, 256]⟩
abbrev S1x256 : Shape := ⟨2, ![1, 256]⟩
abbrev S32x4096 : Shape := ⟨2, ![32, 4096]⟩
abbrev S1024x256 : Shape := ⟨2, ![1024, 256]⟩
abbrev S2x4096x256 : Shape := ⟨3, ![2, 4096, 256]⟩
abbrev S1x4096x256 : Shape := ⟨3, ![1, 4096, 256]⟩
abbrev S16x256 : Shape := ⟨2, ![16, 256]⟩
abbrev S32x256 : Shape := ⟨2, ![32, 256]⟩

abbrev nBuf : Space → Nat
  | .hbm => 8
  | .vmem => 23
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S11008x4096, .f32⟩
  | .hbm, ⟨5, _⟩ => ⟨S1x22016, .f32⟩
  | .hbm, ⟨6, _⟩ => ⟨S8192x11008, .bf16⟩
  | .hbm, ⟨7, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S16x4096, .bf16⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S32x4096, .f32⟩
  | .local _ .vmem, ⟨17, _⟩ => ⟨S32x4096, .f32⟩
  | .local _ .vmem, ⟨18, _⟩ => ⟨S1024x256, .bf16⟩
  | .local _ .vmem, ⟨19, _⟩ => ⟨S1024x256, .bf16⟩
  | .local _ .vmem, ⟨20, _⟩ => ⟨S32x4096, .bf16⟩
  | .local _ .vmem, ⟨21, _⟩ => ⟨S32x4096, .bf16⟩
  | .local _ .vmem, ⟨22, _⟩ => ⟨S2x4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S8192x4096 : Shape := ⟨2, ![8192, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S8192x22016 : Shape := ⟨2, ![8192, 22016]⟩
abbrev S2x4096x22016 : Shape := ⟨3, ![2, 4096, 22016]⟩
abbrev S_ : Shape := ⟨0, ![]⟩
abbrev S2x4098x22016 : Shape := ⟨3, ![2, 4098, 22016]⟩
abbrev S1x22016 : Shape := ⟨2, ![1, 22016]⟩
abbrev S1x1x22016 : Shape := ⟨3, ![1, 1, 22016]⟩
abbrev S2x4096x11008 : Shape := ⟨3, ![2, 4096, 11008]⟩
abbrev S8192x11008 : Shape := ⟨2, ![8192, 11008]⟩

abbrev nBuf : Space → Nat
  | .hbm => 48
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x22016, .f32⟩
  | .hbm, ⟨2, _⟩ => ⟨S3x22016, .f32⟩
  | .hbm, ⟨3, _⟩ => ⟨S22016, .f32⟩
  | .hbm, ⟨4, _⟩ => ⟨S11008x4096, .f32⟩
  | .hbm, ⟨5, _⟩ => ⟨S8192x22016, .f32⟩
  | .hbm, ⟨6, _⟩ => ⟨S2x4096x22016, .f32⟩
  | .hbm, ⟨7, _⟩ => ⟨S_, .i32⟩
  | .hbm, ⟨8, _⟩ => ⟨S_, .f32⟩
  | .hbm, ⟨9, _⟩ => ⟨S2x4098x22016, .f32⟩
  | .hbm, ⟨10, _⟩ => ⟨S1x22016, .f32⟩
  | .hbm, ⟨11, _⟩ => ⟨S22016, .f32⟩
  | .hbm, ⟨12, _⟩ => ⟨S2x4096x22016, .f32⟩
  | .hbm, ⟨13, _⟩ => ⟨S1x1x22016, .f32⟩
  | .hbm, ⟨14, _⟩ => ⟨S2x4096x22016, .f32⟩
  | .hbm, ⟨15, _⟩ => ⟨S2x4096x22016, .f32⟩
  | .hbm, ⟨16, _⟩ => ⟨S1x1x22016, .f32⟩
  | .hbm, ⟨17, _⟩ => ⟨S2x4096x22016, .f32⟩
  | .hbm, ⟨18, _⟩ => ⟨S2x4096x22016, .f32⟩
  | .hbm, ⟨19, _⟩ => ⟨S1x22016, .f32⟩
  | .hbm, ⟨20, _⟩ => ⟨S22016, .f32⟩
  | .hbm, ⟨21, _⟩ => ⟨S2x4096x22016, .f32⟩
  | .hbm, ⟨22, _⟩ => ⟨S1x1x22016, .f32⟩
  | .hbm, ⟨23, _⟩ => ⟨S2x4096x22016, .f32⟩
  | .hbm, ⟨24, _⟩ => ⟨S2x4096x22016, .f32⟩
  | .hbm, ⟨25, _⟩ => ⟨S2x4096x22016, .f32⟩
  | .hbm, ⟨26, _⟩ => ⟨S1x22016, .f32⟩
  | .hbm, ⟨27, _⟩ => ⟨S22016, .f32⟩
  | .hbm, ⟨28, _⟩ => ⟨S2x4096x22016, .f32⟩
  | .hbm, ⟨29, _⟩ => ⟨S1x1x22016, .f32⟩
  | .hbm, ⟨30, _⟩ => ⟨S2x4096x22016, .f32⟩
  | .hbm, ⟨31, _⟩ => ⟨S2x4096x22016, .f32⟩
  | .hbm, ⟨32, _⟩ => ⟨S2x4096x22016, .f32⟩
  | .hbm, ⟨33, _⟩ => ⟨S2x4096x11008, .f32⟩
  | .hbm, ⟨34, _⟩ => ⟨S2x4096x11008, .f32⟩
  | .hbm, ⟨35, _⟩ => ⟨S2x4096x11008, .f32⟩
  | .hbm, ⟨36, _⟩ => ⟨S2x4096x11008, .f32⟩
  | .hbm, ⟨37, _⟩ => ⟨S_, .f32⟩
  | .hbm, ⟨38, _⟩ => ⟨S2x4096x11008, .f32⟩
  | .hbm, ⟨39, _⟩ => ⟨S2x4096x11008, .f32⟩
  | .hbm, ⟨40, _⟩ => ⟨S_, .f32⟩
  | .hbm, ⟨41, _⟩ => ⟨S2x4096x11008, .f32⟩
  | .hbm, ⟨42, _⟩ => ⟨S2x4096x11008, .f32⟩
  | .hbm, ⟨43, _⟩ => ⟨S2x4096x11008, .f32⟩
  | .hbm, ⟨44, _⟩ => ⟨S2x4096x11008, .f32⟩
  | .hbm, ⟨45, _⟩ => ⟨S8192x11008, .f32⟩
  | .hbm, ⟨46, _⟩ => ⟨S8192x11008, .bf16⟩
  | .hbm, ⟨47, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel10.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S1x4096, .f32⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel11.lean ====
abbrev S39072x4096 : Shape := ⟨2, ![39072, 4096]⟩
abbrev S18560x4096 : Shape := ⟨2, ![18560, 4096]⟩
abbrev S640x4096 : Shape := ⟨2, ![640, 4096]⟩

abbrev nBuf : Space → Nat
  | .hbm => 2
  | .vmem => 4
  | .smem => 0
  | _ => 0

abbrev bufTy : (tb : Table) → Fin (tcTables nBuf tb) → BufTy
  | .hbm, ⟨0, _⟩ => ⟨S39072x4096, .f32⟩
  | .hbm, ⟨1, _⟩ => ⟨S18560x4096, .bf16⟩
  | .local _ .vmem, ⟨0, _⟩ => ⟨S640x4096, .f32⟩
  | .local _ .vmem, ⟨1, _⟩ => ⟨S640x4096, .f32⟩
  | .local _ .vmem, ⟨2, _⟩ => ⟨S640x4096, .bf16⟩
  | .local _ .vmem, ⟨3, _⟩ => ⟨S640x4096, .bf16⟩
  | _, _ => ⟨S39072x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![29], ![false]⟩

def k0_mult1 (i : grid0.Coords) : BitVec 32 :=
  let c0_i32 : BitVec 32 := 0#32
  let arg0 : BitVec 32 := BitVec.ofNat 32 (i 0).val
  let c640_i32 : BitVec 32 := 640#32
  let v0 : BitVec 32 := Scalar.muli arg0 c640_i32
  let v1 : BitVec 32 := Scalar.addi c0_i32 v0
  v1
def cc0_transform_0 (i : grid0.Coords) : Fin 2 → Nat :=
  let arg0 : BitVec 32 := BitVec.ofNat 32 (i 0).val
  let c640_i32 : BitVec 32 := 640#32
  let v0 : BitVec 32 := Scalar.muli arg0 c640_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference11Ideal.lean ====
abbrev S39072x4096 : Shape := ⟨2, ![39072, 4096]⟩
abbrev S18560x4096 : Shape := ⟨2, ![18560, 4096]⟩

abbrev nBuf : Space → Nat
  | .hbm => 3
  | .vmem => 0
  | .smem => 0
  | _ => 0

abbrev bufTy : (tb : Table) → Fin (tcTables nBuf tb) → BufTy
  | .hbm, ⟨0, _⟩ => ⟨S39072x4096, .f32⟩
  | .hbm, ⟨1, _⟩ => ⟨S18560x4096, .f32⟩
  | .hbm, ⟨2, _⟩ => ⟨S18560x4096, .bf16⟩
  | _, _ => ⟨S39072x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel12.lean ====
abbrev S39072x4096 : Shape := ⟨2, ![39072, 4096]⟩
abbrev S32x4096 : Shape := ⟨2, ![32, 4096]⟩

abbrev nBuf : Space → Nat
  | .hbm => 2
  | .vmem => 2
  | .smem => 0
  | _ => 0

abbrev bufTy : (tb : Table) → Fin (tcTables nBuf tb) → BufTy
  | .hbm, ⟨0, _⟩ => ⟨S39072x4096, .f32⟩
  | .hbm, ⟨1, _⟩ => ⟨S32x4096, .bf16⟩
  | .local _ .vmem, ⟨0, _⟩ => ⟨S32x4096, .f32⟩
  | .local _ .vmem, ⟨1, _⟩ => ⟨S32x4096, .bf16⟩
  | _, _ => ⟨S39072x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def k0_mult1 (i : grid0.Coords) : BitVec 32 :=
  let c30848_i32 : BitVec 32 := 30848#32
  let arg0 : BitVec 32 := BitVec.ofNat 32 (i 0).val
  let c32_i32 : BitVec 32 := 32#32
  let v0 : BitVec 32 := Scalar.muli arg0 c32_i32
  let v1 : BitVec 32 := Scalar.addi c30848_i32 v0
  v1
def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c30848_i32 : BitVec 32 := 30848#32
  let v1 : BitVec 32 := Scalar.addi c30848_i32 v0
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference12Ideal.lean ====
abbrev S39072x4096 : Shape := ⟨2, ![39072, 4096]⟩
abbrev S32x4096 : Shape := ⟨2, ![32, 4096]⟩

abbrev nBuf : Space → Nat
  | .hbm => 3
  | .vmem => 0
  | .smem => 0
  | _ => 0

abbrev bufTy : (tb : Table) → Fin (tcTables nBuf tb) → BufTy
  | .hbm, ⟨0, _⟩ => ⟨S39072x4096, .f32⟩
  | .hbm, ⟨1, _⟩ => ⟨S32x4096, .f32⟩
  | .hbm, ⟨2, _⟩ => ⟨S32x4096, .bf16⟩
  | _, _ => ⟨S39072x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel13.lean ====
abbrev S8192x4096 : Shape := ⟨2, ![8192, 4096]⟩
abbrev S256x4096 : Shape := ⟨2, ![256, 4096]⟩
abbrev S128 : Shape := ⟨1, ![128]⟩
abbrev S32 : Shape := ⟨1, ![32]⟩
abbrev S_ : Shape := ⟨0, ![]⟩
abbrev S96 : Shape := ⟨1, ![96]⟩
abbrev S1x128 : Shape := ⟨2, ![1, 128]⟩
abbrev S8192x128 : Shape := ⟨2, ![8192, 128]⟩
abbrev S128x8192 : Shape := ⟨2, ![128, 8192]⟩
abbrev S2x32x4096 : Shape := ⟨3, ![2, 32, 4096]⟩
abbrev S128x4096 : Shape := ⟨2, ![128, 4096]⟩
abbrev S128x128 : Shape := ⟨2, ![128, 128]⟩
abbrev S1x32x128 : Shape := ⟨3, ![1, 32, 128]⟩
abbrev S128x256 : Shape := ⟨2, ![128, 256]⟩
abbrev S32x128 : Shape := ⟨2, ![32, 128]⟩

abbrev nBuf : Space → Nat
  | .hbm => 16
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S256x4096, .bf16⟩
  | .hbm, ⟨2, _⟩ => ⟨S128, .f32⟩
  | .hbm, ⟨3, _⟩ => ⟨S128, .f32⟩
  | .hbm, ⟨4, _⟩ => ⟨S32, .f32⟩
  | .hbm, ⟨5, _⟩ => ⟨S_, .f32⟩
  | .hbm, ⟨6, _⟩ => ⟨S96, .f32⟩
  | .hbm, ⟨7, _⟩ => ⟨S8192x4096, .bf16⟩
  | .hbm, ⟨8, _⟩ => ⟨S1x128, .f32⟩
  | .hbm, ⟨9, _⟩ => ⟨S1x128, .f32⟩
  | .hbm, ⟨10, _⟩ => ⟨S128, .f32⟩
  | .hbm, ⟨11, _⟩ => ⟨S1x128, .f32⟩
  | .hbm, ⟨12, _⟩ => ⟨S8192x128, .f32⟩
  | .hbm, ⟨13, _⟩ => ⟨S128x8192, .f32⟩
  | .hbm, ⟨14, _⟩ => ⟨S128x8192, .f32⟩
  | .hbm, ⟨15, _⟩ => ⟨S2x32x4096, .f32⟩
  | .local _ .vmem, ⟨0, _⟩ => ⟨S128x4096, .bf16⟩
  | .local _ .vmem, ⟨1, _⟩ => ⟨S128x4096, .bf16⟩
  | .local _ .vmem, ⟨2, _⟩ => ⟨S256x4096, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x32x128, .f32⟩
  | .local _ .vmem, ⟨13, _⟩ => ⟨S1x32x128, .f32⟩
  | .local _ .vmem, ⟨14, _⟩ => ⟨S1x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8192x4096 : Shape := ⟨2, ![8192, 4096]⟩
abbrev S256x4096 : Shape := ⟨2, ![256, 4096]⟩
abbrev S128 : Shape := ⟨1, ![128]⟩
abbrev S32 : Shape := ⟨1, ![32]⟩
abbrev S8192x256 : Shape := ⟨2, ![8192, 256]⟩
abbrev S8192x128 : Shape := ⟨2, ![8192, 128]⟩
abbrev S1x128 : Shape := ⟨2, ![1, 128]⟩
abbrev S_ : Shape := ⟨0, ![]⟩
abbrev S64x128x128 : Shape := ⟨3, ![64, 128, 128]⟩
abbrev S8192x32 : Shape := ⟨2, ![8192, 32]⟩
abbrev S1x32 : Shape := ⟨2, ![1, 32]⟩
abbrev S2x4096x32 : Shape := ⟨3, ![2, 4096, 32]⟩
abbrev S2x32x4096 : Shape := ⟨3, ![2, 32, 4096]⟩
abbrev S128x8192 : Shape := ⟨2, ![128, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S256x4096, .bf16⟩
  | .hbm, ⟨2, _⟩ => ⟨S128, .f32⟩
  | .hbm, ⟨3, _⟩ => ⟨S128, .f32⟩
  | .hbm, ⟨4, _⟩ => ⟨S32, .f32⟩
  | .hbm, ⟨5, _⟩ => ⟨S256x4096, .f32⟩
  | .hbm, ⟨6, _⟩ => ⟨S8192x256, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .i1⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S128, .f32⟩
  | .hbm, ⟨26, _⟩ => ⟨S128, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S64x128x128, .f32⟩
  | .hbm, ⟨31, _⟩ => ⟨S_, .f32⟩
  | .hbm, ⟨32, _⟩ => ⟨S_, .f32⟩
  | .hbm, ⟨33, _⟩ => ⟨S64x128x128, .f32⟩
  | .hbm, ⟨34, _⟩ => ⟨S8192x128, .f32⟩
  | .hbm, ⟨35, _⟩ => ⟨S8192x32, .f32⟩
  | .hbm, ⟨36, _⟩ => ⟨S1x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .i1⟩
  | .hbm, ⟨46, _⟩ => ⟨S8192x32, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S2x4096x32, .f32⟩
  | .hbm, ⟨56, _⟩ => ⟨S_, .f32⟩
  | .hbm, ⟨57, _⟩ => ⟨S_, .f32⟩
  | .hbm, ⟨58, _⟩ => ⟨S2x4096x32, .f32⟩
  | .hbm, ⟨59, _⟩ => ⟨S2x32x4096, .f32⟩
  | .hbm, ⟨60, _⟩ => ⟨S128x8192, .f32⟩
  | .hbm, ⟨61, _⟩ => ⟨S128x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_call0_cst : Ref sig .tc := ⟨.hbm, 31, rfl⟩
abbrev main_call1_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call2_v0 : Ref sig .tc := ⟨.hbm, 39, rfl⟩
abbrev main_call2_call0_cst : Ref sig .tc := ⟨.hbm, 40, rfl⟩
abbrev main_call2_call0_v0 : Ref sig .tc := ⟨.hbm, 41, rfl⟩
abbrev main_call2_call0_v1 : Ref sig .tc := ⟨.hbm, 42, rfl⟩
abbrev main_call2_call0_v2 : Ref sig .tc := ⟨.hbm, 43, rfl⟩
abbrev main_call2_call0_v3 : Ref sig .tc := ⟨.hbm, 44, rfl⟩
abbrev main_call2_call0_v4 : Ref sig .tc := ⟨.hbm, 45, rfl⟩
abbrev main_call2_call0_v5 : Ref sig .tc := ⟨.hbm, 46, rfl⟩
abbrev main_call2_call0_v6 : Ref sig .tc := ⟨.hbm, 47, rfl⟩
abbrev main_call2_call0_v7 : Ref sig .tc := ⟨.hbm, 48, rfl⟩
abbrev main_call2_call0_v8 : Ref sig .tc := ⟨.hbm, 49, rfl⟩
abbrev main_call2_call0_v9 : Ref sig .tc := ⟨.hbm, 50, rfl⟩
abbrev main_call2_call0_v10 : Ref sig .tc := ⟨.hbm, 51, rfl⟩
abbrev main_call2_call0_v11 : Ref sig .tc := ⟨.hbm, 52, rfl⟩
abbrev main_call2_v1 : Ref sig .tc := ⟨.hbm, 53, rfl⟩
abbrev main_v19 : Ref sig .tc := ⟨.hbm, 54, rfl⟩
abbrev main_v20 : Ref sig .tc := ⟨.hbm, 55, rfl⟩
abbrev main_call3_call0_cst : Ref sig .tc := ⟨.hbm, 56, rfl⟩
abbrev main_call3_call0_v0 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]
-- ==== Proof.Trip.lean ====
/-
  One trip of the loop over the earlier blocks, head by head: what the two scratch buffers hold after it is the block
  step of what they held before.
-/
module

public import proofs.«01_k».proof.Proof.Gen.KernelIdeal.Value
public import Idealize.ShloMosaic.Lib.VecWindow

@[expose] public section

set_option maxRecDepth 16384

noncomputable section

open Cert.KernelIdeal Cert.KernelIdeal.Gen Idealize.ShloMosaic Idealize.ShloMosaic.TcCoe Idealize.SL.Sem

namespace Cert.Proof.Fox

variable {F : FTy → Type} [FloatOps F]

/-- The queries of head `h`. -/
abbrev qW (x : Vec F S512x512 .bf16) (h : Fin 4) : Vec F S512x128 .bf16 :=
  VecWindow.window x ![0, 128 * h.val] S512x128.size fun a => by
    fin_cases a <;> simp [S512x512, S512x128] <;> omega
/-- Block `k` of the keys of head `h`. -/
abbrev kW (x : Vec F S4096x512 .bf16) (h : Fin 4) (k : ℕ) (hk : k < 8) : Vec F S512x128 .bf16 :=
  VecWindow.window x ![512 * k, 128 * h.val] S512x128.size fun a => by
    fin_cases a <;> simp [S4096x512, S512x128] <;> omega
/-- Block `k` of the forget gates' sums of head `h`. -/
abbrev fW (x : Vec F S1x4x8x512 .f32) (h : Fin 4) (k : ℕ) (hk : k < 8) : Vec F S1x1x1x512 .f32 :=
  VecWindow.window x ![0, h.val, k, 0] S1x1x1x512.size fun a => by
    fin_cases a <;> simp [S1x4x8x512, S1x1x1x512] <;> omega
/-- Block `k` of the values of head `h`, a column of ones after each. -/
abbrev vW (x : Vec F S4x4096x256 .bf16) (h : Fin 4) (k : ℕ) (hk : k < 8) : Vec F S1x512x256 .bf16 :=
  VecWindow.window x ![h.val, 512 * k, 0] S1x512x256.size fun a => by
    fin_cases a <;> simp [S4x4096x256, S1x512x256] <;> omega
/-- The running maxima of head `h`. -/
abbrev mW (x : Vec F S4x512x128 .f32) (h : Fin 4) : Vec F S1x512x128 .f32 :=
  VecWindow.window x ![h.val, 0, 0] S1x512x128.size fun a => by
    fin_cases a <;> simp [S4x512x128, S1x512x128] <;> omega
/-- The running weighted sums of head `h`. -/
abbrev aW (x : Vec F S4x512x256 .f32) (h : Fin 4) : Vec F S1x512x256 .f32 :=
  VecWindow.window x ![h.val, 0, 0] S1x512x256.size fun a => by
    fin_cases a <;> simp [S4x512x256, S1x512x256] <;> omega

/-- The block step of the maximum. -/
abbrev stepM (q k : Vec F S512x128 .bf16) (f : Vec F S1x1x1x512 .f32) (m : Vec F S1x512x128 .f32) : Vec F S1x512x128 .f32 := k0_pay12 q k f m
/-- The block step of the weighted sum. -/
abbrev stepA (q k : Vec F S512x128 .bf16) (f : Vec F S1x1x1x512 .f32) (va : Vec F S1x512x256 .bf16) (m : Vec F S1x512x128 .f32) (a : Vec F S1x512x256 .f32) :
    Vec F S1x512x256 .f32 := k0_pay23 (k0_pay13 q k f m) (k0_pay14 q k f m) va a

/-- Four windows written one after the other, the last head first: the window of each head is its own. -/
theorem mW_puts (x : Vec F S4x512x128 .f32) (w : Fin 4 → Vec F S1x512x128 .f32) (h : Fin 4) :
    mW (VecWindow.put (VecWindow.put (VecWindow.put (VecWindow.put x ![0, 0, 0] S1x512x128.size (w 0)) ![1, 0, 0] S1x512x128.size (w 1))
      ![2, 0, 0] S1x512x128.size (w 2)) ![3, 0, 0] S1x512x128.size (w 3)) h = w h := by
  fin_cases h
  · refine (VecWindow.window_put_of_disjoint _ _ _ _ _ _ _ 0 (.inl (by decide))).trans ((VecWindow.window_put_of_disjoint _ _ _ _ _ _ _ 0 (.inl (by decide))).trans
      ((VecWindow.window_put_of_disjoint _ _ _ _ _ _ _ 0 (.inl (by decide))).trans (VecWindow.window_put_same _ _ _ _ _)))
  · refine (VecWindow.window_put_of_disjoint _ _ _ _ _ _ _ 0 (.inl (by decide))).trans ((VecWindow.window_put_of_disjoint _ _ _ _ _ _ _ 0 (.inl (by decide))).trans
      (VecWindow.window_put_same _ _ _ _ _))
  · exact (VecWindow.window_put_of_disjoint _ _ _ _ _ _ _ 0 (.inl (by decide))).trans (VecWindow.window_put_same _ _ _ _ _)
  · exact VecWindow.window_put_same _ _ _ _ _

theorem aW_puts (x : Vec F S4x512x256 .f32) (w : Fin 4 → Vec F S1x512x256 .f32) (h : Fin 4) :
    aW (VecWindow.put (VecWindow.put (VecWindow.put (VecWindow.put x ![0, 0, 0] S1x512x256.size (w 0)) ![1, 0, 0] S1x512x256.size (w 1))
      ![2, 0, 0] S1x512x256.size (w 2)) ![3, 0, 0] S1x512x256.size (w 3)) h = w h := by
  fin_cases h
  · refine (VecWindow.window_put_of_disjoint _ _ _ _ _ _ _ 0 (.inl (by decide))).trans ((VecWindow.window_put_of_disjoint _ _ _ _ _ _ _ 0 (.inl (by decide))).trans
      ((VecWindow.window_put_of_disjoint _ _ _ _ _ _ _ 0 (.inl (by decide))).trans (VecWindow.window_put_same _ _ _ _ _)))
  · refine (VecWindow.window_put_of_disjoint _ _ _ _ _ _ _ 0 (.inl (by decide))).trans ((VecWindow.window_put_of_disjoint _ _ _ _ _ _ _ 0 (.inl (by decide))).trans
      (VecWindow.window_put_same _ _ _ _ _))
  · exact (VecWindow.window_put_of_disjoint _ _ _ _ _ _ _ 0 (.inl (by decide))).trans (VecWindow.window_put_same _ _ _ _ _)
  · exact VecWindow.window_put_same _ _ _ _ _

variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x8x512 .f32) (harg6 : arg6.IsWhole) (arg7 : Memref sig .tc .vmem S64x4096 .f32) (harg7 : arg7.IsWhole) (arg8 : Memref sig .tc .vmem S32x4096 .f32) (harg8 : arg8.IsWhole) (arg9 : Memref sig .tc .vmem S512x512 .bf16) (harg9 : arg9.IsWhole) (arg10 : Memref sig .tc .vmem S64x4096 .bf16) (harg10 : arg10.IsWhole) (arg11 : Memref sig .tc .vmem S32x4096 .bf16) (harg11 : arg11.IsWhole) (arg12 : Memref sig .tc .vmem S4x4096x256 .bf16) (harg12 : arg12.IsWhole) (arg13 : Memref sig .tc .vmem S4x512x128 .f32) (harg13 : arg13.IsWhole) (arg14 : Memref sig .tc .vmem S4x512x256 .f32) (harg14 : arg14.IsWhole)
variable (X_arg3 : BufTy.Contents (Elt F) arg3.view.ty) (X_arg4 : BufTy.Contents (Elt F) arg4.view.ty) (X_arg6 : BufTy.Contents (Elt F) arg6.view.ty)
  (X_arg12 : BufTy.Contents (Elt F) arg12.view.ty)

theorem stepM_congr {q q' k k' : Vec F S512x128 .bf16} {f f' : Vec F S1x1x1x512 .f32} {m m' : Vec F S1x512x128 .f32} (hq : q = q') (hk : k = k') (hf : f = f')
    (hm : m = m') : stepM q k f m = stepM q' k' f' m' := by rw [hq, hk, hf, hm]

theorem stepA_congr {q q' k k' : Vec F S512x128 .bf16} {f f' : Vec F S1x1x1x512 .f32} {m m' : Vec F S1x512x128 .f32} {va va' : Vec F S1x512x256 .bf16}
    {a a' : Vec F S1x512x256 .f32} (hq : q = q') (hk : k = k') (hf : f = f') (hv : va = va') (hm : m = m') (ha : a = a') :
    stepA q k f va m a = stepA q' k' f' va' m' a' := by rw [hq, hk, hf, hm, hv, ha]

/-- A load of `size` at `off`. -/
abbrev loadAt {sig : RefSig} {κ : Kind} {sp : Space} {s : Shape} {e : EltTy} (v : View sig κ sp s e) (X : BufTy.Contents (Elt F) v.ty) (size off : Fin s.rank → ℕ)
    (inb : ∀ a, off a + size a ≤ s.size a) : Vec F ⟨s.rank, size⟩ e := v.readAt (Elt F) (Rect.unit off size inb).toLoadRect X

theorem trip_m (k : Fin (k0_t1_loop i).trips) (f13 : BufTy.Contents (Elt F) arg13.view.ty) (f14 : BufTy.Contents (Elt F) arg14.view.ty) (h : Fin 4) (hk : k.val < 8) :
    mW (arg13.view.read (Elt F) (arg13.view.writes (Elt F) f13 (tripL_k0_t1 𝒱 c bd i arg3 harg3 arg4 harg4 arg5 harg5 arg6 harg6 arg7 harg7 arg8 harg8 arg9 harg9 arg10 harg10 arg11 harg11 arg12 harg12 arg13 harg13 arg14 harg14 X_arg3 X_arg4 X_arg6 X_arg12 k f13 f14).1)) h
      = stepM (qW (arg3.view.read (Elt F) X_arg3) h) (kW (arg4.view.read (Elt F) X_arg4) h k hk) (fW (arg6.view.read (Elt F) X_arg6) h k hk)
          (mW (arg13.view.read (Elt F) f13) h) := by
  unfold tripL_k0_t1 trip_k0_t1
  dsimp only
  rw [View.read_writes_cons_put _ _ _ _ _ rfl, View.read_writes_cons_put _ _ _ _ _ rfl, View.read_writes_cons_put _ _ _ _ _ rfl,
    View.read_writes_cons_put _ _ _ _ _ rfl, View.writes_nil]
  refine (mW_puts _ ![_, _, _, _] h).trans ?_
  obtain rfl | rfl | rfl | rfl : h = 0 ∨ h = 1 ∨ h = 2 ∨ h = 3 := by omega
  · refine Eq.trans (b := stepM (loadAt arg3.view X_arg3 S512x128.size ![0, 0] inb_S512x512_S512x128_0_0) (loadAt arg4.view X_arg4 S512x128.size (k0_off1 i k) (k0_off1_inb i k)) (loadAt arg6.view X_arg6 S1x1x1x512.size (k0_off3 i k) (k0_off3_inb i k)) (mW (arg13.view.read (Elt F) f13) 0)) rfl
      (stepM_congr rfl (View.readAt_unit _ _ _ (k0_off1_eq i k) _) (View.readAt_unit _ _ _ (k0_off3_eq i k) _) rfl)
  · refine Eq.trans (b := stepM (loadAt arg3.view X_arg3 S512x128.size ![0, 128] inb_S512x512_S512x128_0_128) (loadAt arg4.view X_arg4 S512x128.size (k0_off2 i k) (k0_off2_inb i k)) (loadAt arg6.view X_arg6 S1x1x1x512.size (k0_off5 i k) (k0_off5_inb i k)) (mW (arg13.view.read (Elt F) f13) 1)) rfl
      (stepM_congr rfl (View.readAt_unit _ _ _ (k0_off2_eq i k) _) (View.readAt_unit _ _ _ (k0_off5_eq i k) _) rfl)
  · refine Eq.trans (b := stepM (loadAt arg3.view X_arg3 S512x128.size ![0, 256] inb_S512x512_S512x128_0_256) (loadAt arg4.view X_arg4 S512x128.size (k0_off4 i k) (k0_off4_inb i k)) (loadAt arg6.view X_arg6 S1x1x1x512.size (k0_off8 i k) (k0_off8_inb i k)) (mW (arg13.view.read (Elt F) f13) 2)) rfl
      (stepM_congr rfl (View.readAt_unit _ _ _ (k0_off4_eq i k) _) (View.readAt_unit _ _ _ (k0_off8_eq i k) _) rfl)
  · refine Eq.trans (b := stepM (loadAt arg3.view X_arg3 S512x128.size ![0, 384] inb_S512x512_S512x128_0_384) (loadAt arg4.view X_arg4 S512x128.size (k0_off7 i k) (k0_off7_inb i k)) (loadAt arg6.view X_arg6 S1x1x1x512.size (k0_off10 i k) (k0_off10_inb i k)) (mW (arg13.view.read (Elt F) f13) 3)) rfl
      (stepM_congr rfl (View.readAt_unit _ _ _ (k0_off7_eq i k) _) (View.readAt_unit _ _ _ (k0_off10_eq i k) _) rfl)

theorem trip_a (k : Fin (k0_t1_loop i).trips) (f13 : BufTy.Contents (Elt F) arg13.view.ty) (f14 : BufTy.Contents (Elt F) arg14.view.ty) (h : Fin 4) (hk : k.val < 8) :
    aW (arg14.view.read (Elt F) (arg14.view.writes (Elt F) f14 (tripL_k0_t1 𝒱 c bd i arg3 harg3 arg4 harg4 arg5 harg5 arg6 harg6 arg7 harg7 arg8 harg8 arg9 harg9 arg10 harg10 arg11 harg11 arg12 harg12 arg13 harg13 arg14 harg14 X_arg3 X_arg4 X_arg6 X_arg12 k f13 f14).2)) h
      = stepA (qW (arg3.view.read (Elt F) X_arg3) h) (kW (arg4.view.read (Elt F) X_arg4) h k hk) (fW (arg6.view.read (Elt F) X_arg6) h k hk)
          (vW (arg12.view.read (Elt F) X_arg12) h k hk) (mW (arg13.view.read (Elt F) f13) h) (aW (arg14.view.read (Elt F) f14) h) := by
  unfold tripL_k0_t1 trip_k0_t1
  dsimp only
  rw [View.read_writes_cons_put _ _ _ _ _ rfl, View.read_writes_cons_put _ _ _ _ _ rfl, View.read_writes_cons_put _ _ _ _ _ rfl,
    View.read_writes_cons_put _ _ _ _ _ rfl, View.writes_nil]
  refine (aW_puts _ ![_, _, _, _] h).trans ?_
  obtain rfl | rfl | rfl | rfl : h = 0 ∨ h = 1 ∨ h = 2 ∨ h = 3 := by omega
  · refine Eq.trans (b := stepA (loadAt arg3.view X_arg3 S512x128.size ![0, 0] inb_S512x512_S512x128_0_0) (loadAt arg4.view X_arg4 S512x128.size (k0_off1 i k) (k0_off1_inb i k)) (loadAt arg6.view X_arg6 S1x1x1x512.size (k0_off3 i k) (k0_off3_inb i k))
        (loadAt arg12.view X_arg12 S1x512x256.size (k0_off6 i k) (k0_off6_inb i k)) (mW (arg13.view.read (Elt F) f13) 0) (aW (arg14.view.read (Elt F) f14) 0)) rfl
      (stepA_congr rfl (View.readAt_unit _ _ _ (k0_off1_eq i k) _) (View.readAt_unit _ _ _ (k0_off3_eq i k) _) (View.readAt_unit _ _ _ (k0_off6_eq i k) _) rfl rfl)
  · refine Eq.trans (b := stepA (loadAt arg3.view X_arg3 S512x128.size ![0, 128] inb_S512x512_S512x128_0_128) (loadAt arg4.view X_arg4 S512x128.size (k0_off2 i k) (k0_off2_inb i k)) (loadAt arg6.view X_arg6 S1x1x1x512.size (k0_off5 i k) (k0_off5_inb i k))
        (loadAt arg12.view X_arg12 S1x512x256.size (k0_off9 i k) (k0_off9_inb i k)) (mW (arg13.view.read (Elt F) f13) 1) (aW (arg14.view.read (Elt F) f14) 1)) rfl
      (stepA_congr rfl (View.readAt_unit _ _ _ (k0_off2_eq i k) _) (View.readAt_unit _ _ _ (k0_off5_eq i k) _) (View.readAt_unit _ _ _ (k0_off9_eq i k) _) rfl rfl)
  · refine Eq.trans (b := stepA (loadAt arg3.view X_arg3 S512x128.size ![0, 256] inb_S512x512_S512x128_0_256) (loadAt arg4.view X_arg4 S512x128.size (k0_off4 i k) (k0_off4_inb i k)) (loadAt arg6.view X_arg6 S1x1x1x512.size (k0_off8 i k) (k0_off8_inb i k))
        (loadAt arg12.view X_arg12 S1x512x256.size (k0_off11 i k) (k0_off11_inb i k)) (mW (arg13.view.read (Elt F) f13) 2) (aW (arg14.view.read (Elt F) f14) 2)) rfl
      (stepA_congr rfl (View.readAt_unit _ _ _ (k0_off4_eq i k) _) (View.readAt_unit _ _ _ (k0_off8_eq i k) _) (View.readAt_unit _ _ _ (k0_off11_eq i k) _) rfl rfl)
  · refine Eq.trans (b := stepA (loadAt arg3.view X_arg3 S512x128.size ![0, 384] inb_S512x512_S512x128_0_384) (loadAt arg4.view X_arg4 S512x128.size (k0_off7 i k) (k0_off7_inb i k)) (loadAt arg6.view X_arg6 S1x1x1x512.size (k0_off10 i k) (k0_off10_inb i k))
        (loadAt arg12.view X_arg12 S1x512x256.size (k0_off12 i k) (k0_off12_inb i k)) (mW (arg13.view.read (Elt F) f13) 3) (aW (arg14.view.read (Elt F) f14) 3)) rfl
      (stepA_congr rfl (View.readAt_unit _ _ _ (k0_off7_eq i k) _) (View.readAt_unit _ _ _ (k0_off10_eq i k) _) (View.readAt_unit _ _ _ (k0_off12_eq i k) _) rfl rfl)

end Cert.Proof.Fox
-- ==== Proof.Loop.lean ====
/-
  The loop over the earlier blocks and the block that holds the rows' own positions: what the buffer of weighted sums
  holds, head by head, when the rows are divided out.
-/
module

public import proofs.«01_k».proof.Proof.Trip

@[expose] public section

set_option maxRecDepth 16384

noncomputable section

open Cert.KernelIdeal Cert.KernelIdeal.Gen Idealize.ShloMosaic Idealize.ShloMosaic.TcCoe Idealize.SL.Sem

namespace Cert.Proof.Fox

variable {F : FTy → Type} [FloatOps F]

/-- The step of the maximum at the rows' own block. -/
abbrev dstepM (q k : Vec F S512x128 .bf16) (f : Vec F S1x1x1x512 .f32) (m : Vec F S1x512x128 .f32) : Vec F S1x512x128 .f32 :=
  k0_pay85 kernelRun0_B.sl.v24 kernelRun0_B.sl.v25 q k f m
/-- The step of the weighted sum at the rows' own block. -/
abbrev dstepA (q k : Vec F S512x128 .bf16) (f : Vec F S1x1x1x512 .f32) (va : Vec F S1x512x256 .bf16) (m : Vec F S1x512x128 .f32) (a : Vec F S1x512x256 .f32) :
    Vec F S1x512x256 .f32 :=
  k0_pay23 (k0_pay86 kernelRun0_B.sl.v24 kernelRun0_B.sl.v25 q k f m) (k0_pay87 kernelRun0_B.sl.v24 kernelRun0_B.sl.v25 q k f m) va a

theorem dstepA_congr {q q' k k' : Vec F S512x128 .bf16} {f f' : Vec F S1x1x1x512 .f32} {m m' : Vec F S1x512x128 .f32} {va va' : Vec F S1x512x256 .bf16}
    {a a' : Vec F S1x512x256 .f32} (hq : q = q') (hk : k = k') (hf : f = f') (hv : va = va') (hm : m = m') (ha : a = a') :
    dstepA q k f va m a = dstepA q' k' f' va' m' a' := by rw [hq, hk, hf, hm, hv, ha]

theorem i2_lt (i : grid0.Coords) : (i 2).val < 8 := (i 2).isLt

theorem t1_trips : ∀ i : grid0.Coords, (k0_t1_loop i).trips = (i 2).val := by decide +kernel

theorem t2_trips (i : grid0.Coords) : (k0_t2_loop i).trips = 0 := Nat.le_zero.mp (k0_t2_abs i).2.1

variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x8x512 .f32) (harg6 : arg6.IsWhole) (arg7 : Memref sig .tc .vmem S64x4096 .f32) (harg7 : arg7.IsWhole) (arg8 : Memref sig .tc .vmem S32x4096 .f32) (harg8 : arg8.IsWhole) (arg9 : Memref sig .tc .vmem S512x512 .bf16) (harg9 : arg9.IsWhole) (arg10 : Memref sig .tc .vmem S64x4096 .bf16) (harg10 : arg10.IsWhole) (arg11 : Memref sig .tc .vmem S32x4096 .bf16) (harg11 : arg11.IsWhole) (arg12 : Memref sig .tc .vmem S4x4096x256 .bf16) (harg12 : arg12.IsWhole) (arg13 : Memref sig .tc .vmem S4x512x128 .f32) (harg13 : arg13.IsWhole) (arg14 : Memref sig .tc .vmem S4x512x256 .f32) (harg14 : arg14.IsWhole)
variable (x0 : Vec F S512x512 .bf16) (x1 : Vec F S4096x512 .bf16) (x3 : Vec F S1x4x8x512 .f32)

/-- The maxima when the loop begins. -/
abbrev start13 : BufTy.Contents (Elt F) arg13.view.ty := arg13.view.writes (Elt F) arg13.view.junk (kernelRun0_B.sl.HS1_1 (F := F))
/-- The weighted sums when the loop begins. -/
abbrev start14 : BufTy.Contents (Elt F) arg14.view.ty := arg14.view.writes (Elt F) arg14.view.junk (kernelRun0_B.sl.HS2_1 (F := F))

/-- What the loop's first `n` trips store. -/
abbrev loopL (X12 : BufTy.Contents (Elt F) arg12.view.ty) (n : ℕ) : List (View.Piece (Elt F) S4x512x128 .f32) × List (View.Piece (Elt F) S4x512x256 .f32) :=
  pb_k0_t1 (F := F) Variants.none c none i arg3 harg3 arg4 harg4 arg5 harg5 arg6 harg6 arg7 harg7 arg8 harg8 arg9 harg9 arg10 harg10 arg11 harg11 arg12 harg12 arg13 harg13 arg14 harg14 (harg3.unread x0) (harg4.unread x1) (harg6.unread x3) X12 (start13 arg13) (start14 arg14) n

/-- The maxima after `n` trips of the loop. -/
abbrev loopM (X12 : BufTy.Contents (Elt F) arg12.view.ty) (n : ℕ) : Vec F S4x512x128 .f32 :=
  arg13.view.read (Elt F) (arg13.view.writes (Elt F) (start13 arg13) (loopL c i arg3 harg3 arg4 harg4 arg5 harg5 arg6 harg6 arg7 harg7 arg8 harg8 arg9 harg9 arg10 harg10 arg11 harg11 arg12 harg12 arg13 harg13 arg14 harg14 x0 x1 x3 X12 n).1)
/-- The weighted sums after `n` trips of the loop. -/
abbrev loopA (X12 : BufTy.Contents (Elt F) arg12.view.ty) (n : ℕ) : Vec F S4x512x256 .f32 :=
  arg14.view.read (Elt F) (arg14.view.writes (Elt F) (start14 arg14) (loopL c i arg3 harg3 arg4 harg4 arg5 harg5 arg6 harg6 arg7 harg7 arg8 harg8 arg9 harg9 arg10 harg10 arg11 harg11 arg12 harg12 arg13 harg13 arg14 harg14 x0 x1 x3 X12 n).2)

theorem i_read {sig : RefSig} {κ : Kind} {sp : Space} {s : Shape} {e : EltTy} (v : View sig κ sp s e) (f : BufTy.Contents (Elt F) v.ty) {x : Vec F s e}
    (hx : v.read (Elt F) f = x) {off off' size : Fin s.rank → ℕ} (inb : ∀ a, off a + size a ≤ s.size a) (h : off = off') (inb' : ∀ a, off' a + size a ≤ s.size a) :
    loadAt v f size off inb = VecWindow.window x off' size inb' := by
  subst hx; exact View.readAt_unit v f inb h inb'

theorem acc_B (xs0 : Vec F S4x4096x256 .bf16) (h : Fin 4) :
    aW (arg14.view.read (Elt F) (arg14.view.writes (Elt F) arg14.view.junk (kernelRun0_B.sl.HS2_4 c i arg3 harg3 arg4 harg4 arg5 harg5 arg6 harg6 arg7 harg7 arg8 harg8 arg9 harg9 arg10 harg10 arg11 harg11 arg12 harg12 arg13 harg13 arg14 harg14 x0 x1 x3 xs0))) h
      = dstepA (qW x0 h) (kW x1 h (i 2).val (i2_lt i)) (fW x3 h (i 2).val (i2_lt i)) (vW xs0 h (i 2).val (i2_lt i))
          (mW (loopM c i arg3 harg3 arg4 harg4 arg5 harg5 arg6 harg6 arg7 harg7 arg8 harg8 arg9 harg9 arg10 harg10 arg11 harg11 arg12 harg12 arg13 harg13 arg14 harg14 x0 x1 x3 (harg12.unread xs0) (i 2).val) h) (aW (loopA c i arg3 harg3 arg4 harg4 arg5 harg5 arg6 harg6 arg7 harg7 arg8 harg8 arg9 harg9 arg10 harg10 arg11 harg11 arg12 harg12 arg13 harg13 arg14 harg14 x0 x1 x3 (harg12.unread xs0) (i 2).val) h) := by
  have e2 : Scf.trips (k0_t2_loop i).lb (k0_t2_loop i).ub (k0_t2_loop i).st = 0 := t2_trips i
  have e1 : Scf.trips (k0_t1_loop i).lb (k0_t1_loop i).ub (k0_t1_loop i).st = (i 2).val := t1_trips i
  unfold kernelRun0_B.sl.HS2_4 kernelRun0_B.sl.HS2_3 kernelRun0_B.sl.HS2_2
  rw [View.read_writes_cons_put _ _ _ _ _ rfl, View.read_writes_cons_put _ _ _ _ _ rfl, View.read_writes_cons_put _ _ _ _ _ rfl]
  unfold kernelRun0_B.sl.HS2_1_1
  rw [View.read_writes_cons_put _ _ _ _ _ rfl]
  refine (aW_puts _ ![_, _, _, _] h).trans ?_
  obtain rfl | rfl | rfl | rfl : h = 0 ∨ h = 1 ∨ h = 2 ∨ h = 3 := by omega
  · refine Eq.trans (b := dstepA (loadAt arg3.view (harg3.unread x0) S512x128.size ![0, 0] inb_S512x512_S512x128_0_0)
      (loadAt arg4.view (harg4.unread x1) S512x128.size (k0_off25 i) (k0_off25_inb i)) (loadAt arg6.view (harg6.unread x3) S1x1x1x512.size (k0_off27 i) (k0_off27_inb i))
      (loadAt arg12.view (harg12.unread xs0) S1x512x256.size (k0_off30 i) (k0_off30_inb i))
      (kernelRun0_B.sl.v46 c i arg3 harg3 arg4 harg4 arg5 harg5 arg6 harg6 arg7 harg7 arg8 harg8 arg9 harg9 arg10 harg10 arg11 harg11 arg12 harg12 arg13 harg13 arg14 harg14 x0 x1 x3 xs0) (kernelRun0_B.sl.v94 c i arg3 harg3 arg4 harg4 arg5 harg5 arg6 harg6 arg7 harg7 arg8 harg8 arg9 harg9 arg10 harg10 arg11 harg11 arg12 harg12 arg13 harg13 arg14 harg14 x0 x1 x3 xs0)) rfl
      (dstepA_congr (i_read _ _ (harg3.read_unread _) _ rfl _) (i_read _ _ (harg4.read_unread _) _ (k0_off25_eq i) _) (i_read _ _ (harg6.read_unread _) _ (k0_off27_eq i) _)
        (i_read _ _ (harg12.read_unread _) _ (k0_off30_eq i) _) ?_ ?_)
    · unfold kernelRun0_B.sl.v46 View.readCov
      rw [View.readAt_unit _ _ _ rfl (by decide)]; rw [View.writes_append, View.writes_append, e2, e1, pb_k0_t2.eq_1]; dsimp only; rw [View.writes_nil]; rfl
    · unfold kernelRun0_B.sl.v94 View.readCov
      rw [View.readAt_unit _ _ _ rfl (by decide)]; rw [View.writes_append, View.writes_append, e2, e1, pb_k0_t2.eq_1]; dsimp only; rw [View.writes_nil]; rfl
  · refine Eq.trans (b := dstepA (loadAt arg3.view (harg3.unread x0) S512x128.size ![0, 128] inb_S512x512_S512x128_0_128)
      (loadAt arg4.view (harg4.unread x1) S512x128.size (k0_off26 i) (k0_off26_inb i)) (loadAt arg6.view (harg6.unread x3) S1x1x1x512.size (k0_off29 i) (k0_off29_inb i))
      (loadAt arg12.view (harg12.unread xs0) S1x512x256.size (k0_off33 i) (k0_off33_inb i))
      (kernelRun0_B.sl.v74 c i arg3 harg3 arg4 harg4 arg5 harg5 arg6 harg6 arg7 harg7 arg8 harg8 arg9 harg9 arg10 harg10 arg11 harg11 arg12 harg12 arg13 harg13 arg14 harg14 x0 x1 x3 xs0) (kernelRun0_B.sl.v134 c i arg3 harg3 arg4 harg4 arg5 harg5 arg6 harg6 arg7 harg7 arg8 harg8 arg9 harg9 arg10 harg10 arg11 harg11 arg12 harg12 arg13 harg13 arg14 harg14 x0 x1 x3 xs0)) rfl
      (dstepA_congr (i_read _ _ (harg3.read_unread _) _ rfl _) (i_read _ _ (harg4.read_unread _) _ (k0_off26_eq i) _) (i_read _ _ (harg6.read_unread _) _ (k0_off29_eq i) _)
        (i_read _ _ (harg12.read_unread _) _ (k0_off33_eq i) _) ?_ ?_)
    · unfold kernelRun0_B.sl.v74 kernelRun0_B.sl.HS1_1_1 View.readCov
      rw [View.readAt_unit _ _ _ rfl (by decide)]
      rw [View.read_writes_cons_put _ _ _ _ _ rfl]
      refine (VecWindow.window_put_of_disjoint _ _ _ _ _ _ _ 0 (.inr (by decide))).trans ?_
      rw [View.writes_append, View.writes_append, e2, e1, pb_k0_t2.eq_1]; dsimp only; rw [View.writes_nil]; rfl
    · unfold kernelRun0_B.sl.v134 kernelRun0_B.sl.HS2_1_1 View.readCov
      rw [View.readAt_unit _ _ _ rfl (by decide)]
      rw [View.read_writes_cons_put _ _ _ _ _ rfl]
      refine (VecWindow.window_put_of_disjoint _ _ _ _ _ _ _ 0 (.inr (by decide))).trans ?_
      rw [View.writes_append, View.writes_append, e2, e1, pb_k0_t2.eq_1]; dsimp only; rw [View.writes_nil]; rfl
  · refine Eq.trans (b := dstepA (loadAt arg3.view (harg3.unread x0) S512x128.size ![0, 256] inb_S512x512_S512x128_0_256)
      (loadAt arg4.view (harg4.unread x1) S512x128.size (k0_off28 i) (k0_off28_inb i)) (loadAt arg6.view (harg6.unread x3) S1x1x1x512.size (k0_off32 i) (k0_off32_inb i))
      (loadAt arg12.view (harg12.unread xs0) S1x512x256.size (k0_off35 i) (k0_off35_inb i))
      (kernelRun0_B.sl.v114 c i arg3 harg3 arg4 harg4 arg5 harg5 arg6 harg6 arg7 harg7 arg8 harg8 arg9 harg9 arg10 harg10 arg11 harg11 arg12 harg12 arg13 harg13 arg14 harg14 x0 x1 x3 xs0) (kernelRun0_B.sl.v168 c i arg3 harg3 arg4 harg4 arg5 harg5 arg6 harg6 arg7 harg7 arg8 harg8 arg9 harg9 arg10 harg10 arg11 harg11 arg12 harg12 arg13 harg13 arg14 harg14 x0 x1 x3 xs0)) rfl
      (dstepA_congr (i_read _ _ (harg3.read_unread _) _ rfl _) (i_read _ _ (harg4.read_unread _) _ (k0_off28_eq i) _) (i_read _ _ (harg6.read_unread _) _ (k0_off32_eq i) _)
        (i_read _ _ (harg12.read_unread _) _ (k0_off35_eq i) _) ?_ ?_)
    · unfold kernelRun0_B.sl.v114 kernelRun0_B.sl.HS1_2 kernelRun0_B.sl.HS1_1_1 View.readCov
      rw [View.readAt_unit _ _ _ rfl (by decide)]
      rw [View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl
    · unfold kernelRun0_B.sl.v168 kernelRun0_B.sl.HS2_2 kernelRun0_B.sl.HS2_1_1 View.readCov
      rw [View.readAt_unit _ _ _ rfl (by decide)]
      rw [View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl
  · refine Eq.trans (b := dstepA (loadAt arg3.view (harg3.unread x0) S512x128.size ![0, 384] inb_S512x512_S512x128_0_384)
      (loadAt arg4.view (harg4.unread x1) S512x128.size (k0_off31 i) (k0_off31_inb i)) (loadAt arg6.view (harg6.unread x3) S1x1x1x512.size (k0_off34 i) (k0_off34_inb i))
      (loadAt arg12.view (harg12.unread xs0) S1x512x256.size (k0_off36 i) (k0_off36_inb i))
      (kernelRun0_B.sl.v148 c i arg3 harg3 arg4 harg4 arg5 harg5 arg6 harg6 arg7 harg7 arg8 harg8 arg9 harg9 arg10 harg10 arg11 harg11 arg12 harg12 arg13 harg13 arg14 harg14 x0 x1 x3 xs0) (kernelRun0_B.sl.v180 c i arg3 harg3 arg4 harg4 arg5 harg5 arg6 harg6 arg7 harg7 arg8 harg8 arg9 harg9 arg10 harg10 arg11 harg11 arg12 harg12 arg13 harg13 arg14 harg14 x0 x1 x3 xs0)) rfl
      (dstepA_congr (i_read _ _ (harg3.read_unread _) _ rfl _) (i_read _ _ (harg4.read_unread _) _ (k0_off31_eq i) _) (i_read _ _ (harg6.read_unread _) _ (k0_off34_eq i) _)
        (i_read _ _ (harg12.read_unread _) _ (k0_off36_eq i) _) ?_ ?_)
    · unfold kernelRun0_B.sl.v148 kernelRun0_B.sl.HS1_3 kernelRun0_B.sl.HS1_2 kernelRun0_B.sl.HS1_1_1 View.readCov
      rw [View.readAt_unit _ _ _ rfl (by decide)]
      rw [View.read_writes_cons_put _ _ _ _ _ rfl, View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl
    · unfold kernelRun0_B.sl.v180 kernelRun0_B.sl.HS2_3 kernelRun0_B.sl.HS2_2 kernelRun0_B.sl.HS2_1_1 View.readCov
      rw [View.readAt_unit _ _ _ rfl (by decide)]
      rw [View.read_writes_cons_put _ _ _ _ _ rfl, View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl

variable (x2 : Vec F S4096x512 .bf16)

/-- What the first row block of a head group fills the buffer of values with. -/
abbrev fillC (c : Dev nD) : BufTy.Contents (Elt F) arg12.view.ty :=
  arg12.view.writes (Elt F) arg12.view.junk (kernelRun0_A.sl.HS0_8 c arg5 harg5 x2)

theorem acc_A (h : Fin 4) :
    aW (arg14.view.read (Elt F) (arg14.view.writes (Elt F) arg14.view.junk (kernelRun0_A.sl.HS2_4 c i arg3 harg3 arg4 harg4 arg5 harg5 arg6 harg6 arg7 harg7 arg8 harg8 arg9 harg9 arg10 harg10 arg11 harg11 arg12 harg12 arg13 harg13 arg14 harg14 x0 x1 x2 x3))) h
      = dstepA (qW x0 h) (kW x1 h (i 2).val (i2_lt i)) (fW x3 h (i 2).val (i2_lt i)) (vW (arg12.view.read (Elt F) (fillC arg5 harg5 arg12 x2 c)) h (i 2).val (i2_lt i))
          (mW (loopM c i arg3 harg3 arg4 harg4 arg5 harg5 arg6 harg6 arg7 harg7 arg8 harg8 arg9 harg9 arg10 harg10 arg11 harg11 arg12 harg12 arg13 harg13 arg14 harg14 x0 x1 x3 (fillC arg5 harg5 arg12 x2 c) (i 2).val) h) (aW (loopA c i arg3 harg3 arg4 harg4 arg5 harg5 arg6 harg6 arg7 harg7 arg8 harg8 arg9 harg9 arg10 harg10 arg11 harg11 arg12 harg12 arg13 harg13 arg14 harg14 x0 x1 x3 (fillC arg5 harg5 arg12 x2 c) (i 2).val) h) := by
  have e2 : Scf.trips (k0_t2_loop i).lb (k0_t2_loop i).ub (k0_t2_loop i).st = 0 := t2_trips i
  have e1 : Scf.trips (k0_t1_loop i).lb (k0_t1_loop i).ub (k0_t1_loop i).st = (i 2).val := t1_trips i
  unfold kernelRun0_A.sl.HS2_4 kernelRun0_A.sl.HS2_3 kernelRun0_A.sl.HS2_2
  rw [View.read_writes_cons_put _ _ _ _ _ rfl, View.read_writes_cons_put _ _ _ _ _ rfl, View.read_writes_cons_put _ _ _ _ _ rfl]
  unfold kernelRun0_A.sl.HS2_1_1
  rw [View.read_writes_cons_put _ _ _ _ _ rfl]
  refine (aW_puts _ ![_, _, _, _] h).trans ?_
  obtain rfl | rfl | rfl | rfl : h = 0 ∨ h = 1 ∨ h = 2 ∨ h = 3 := by omega
  · refine Eq.trans (b := dstepA (loadAt arg3.view (harg3.unread x0) S512x128.size ![0, 0] inb_S512x512_S512x128_0_0)
      (loadAt arg4.view (harg4.unread x1) S512x128.size (k0_off25 i) (k0_off25_inb i)) (loadAt arg6.view (harg6.unread x3) S1x1x1x512.size (k0_off27 i) (k0_off27_inb i))
      (loadAt arg12.view (fillC arg5 harg5 arg12 x2 c) S1x512x256.size (k0_off30 i) (k0_off30_inb i))
      (kernelRun0_A.sl.v46 c i arg3 harg3 arg4 harg4 arg5 harg5 arg6 harg6 arg7 harg7 arg8 harg8 arg9 harg9 arg10 harg10 arg11 harg11 arg12 harg12 arg13 harg13 arg14 harg14 x0 x1 x2 x3) (kernelRun0_A.sl.v94 c i arg3 harg3 arg4 harg4 arg5 harg5 arg6 harg6 arg7 harg7 arg8 harg8 arg9 harg9 arg10 harg10 arg11 harg11 arg12 harg12 arg13 harg13 arg14 harg14 x0 x1 x2 x3)) rfl
      (dstepA_congr (i_read _ _ (harg3.read_unread _) _ rfl _) (i_read _ _ (harg4.read_unread _) _ (k0_off25_eq i) _) (i_read _ _ (harg6.read_unread _) _ (k0_off27_eq i) _)
        (i_read _ _ rfl _ (k0_off30_eq i) _) ?_ ?_)
    · unfold kernelRun0_A.sl.v46 View.readCov
      rw [View.readAt_unit _ _ _ rfl (by decide)]; rw [View.writes_append, View.writes_append, e2, e1, pb_k0_t2.eq_1]; dsimp only; rw [View.writes_nil]; rfl
    · unfold kernelRun0_A.sl.v94 View.readCov
      rw [View.readAt_unit _ _ _ rfl (by decide)]; rw [View.writes_append, View.writes_append, e2, e1, pb_k0_t2.eq_1]; dsimp only; rw [View.writes_nil]; rfl
  · refine Eq.trans (b := dstepA (loadAt arg3.view (harg3.unread x0) S512x128.size ![0, 128] inb_S512x512_S512x128_0_128)
      (loadAt arg4.view (harg4.unread x1) S512x128.size (k0_off26 i) (k0_off26_inb i)) (loadAt arg6.view (harg6.unread x3) S1x1x1x512.size (k0_off29 i) (k0_off29_inb i))
      (loadAt arg12.view (fillC arg5 harg5 arg12 x2 c) S1x512x256.size (k0_off33 i) (k0_off33_inb i))
      (kernelRun0_A.sl.v74 c i arg3 harg3 arg4 harg4 arg5 harg5 arg6 harg6 arg7 harg7 arg8 harg8 arg9 harg9 arg10 harg10 arg11 harg11 arg12 harg12 arg13 harg13 arg14 harg14 x0 x1 x2 x3) (kernelRun0_A.sl.v134 c i arg3 harg3 arg4 harg4 arg5 harg5 arg6 harg6 arg7 harg7 arg8 harg8 arg9 harg9 arg10 harg10 arg11 harg11 arg12 harg12 arg13 harg13 arg14 harg14 x0 x1 x2 x3)) rfl
      (dstepA_congr (i_read _ _ (harg3.read_unread _) _ rfl _) (i_read _ _ (harg4.read_unread _) _ (k0_off26_eq i) _) (i_read _ _ (harg6.read_unread _) _ (k0_off29_eq i) _)
        (i_read _ _ rfl _ (k0_off33_eq i) _) ?_ ?_)
    · unfold kernelRun0_A.sl.v74 kernelRun0_A.sl.HS1_1_1 View.readCov
      rw [View.readAt_unit _ _ _ rfl (by decide)]
      rw [View.read_writes_cons_put _ _ _ _ _ rfl]
      refine (VecWindow.window_put_of_disjoint _ _ _ _ _ _ _ 0 (.inr (by decide))).trans ?_
      rw [View.writes_append, View.writes_append, e2, e1, pb_k0_t2.eq_1]; dsimp only; rw [View.writes_nil]; rfl
    · unfold kernelRun0_A.sl.v134 kernelRun0_A.sl.HS2_1_1 View.readCov
      rw [View.readAt_unit _ _ _ rfl (by decide)]
      rw [View.read_writes_cons_put _ _ _ _ _ rfl]
      refine (VecWindow.window_put_of_disjoint _ _ _ _ _ _ _ 0 (.inr (by decide))).trans ?_
      rw [View.writes_append, View.writes_append, e2, e1, pb_k0_t2.eq_1]; dsimp only; rw [View.writes_nil]; rfl
  · refine Eq.trans (b := dstepA (loadAt arg3.view (harg3.unread x0) S512x128.size ![0, 256] inb_S512x512_S512x128_0_256)
      (loadAt arg4.view (harg4.unread x1) S512x128.size (k0_off28 i) (k0_off28_inb i)) (loadAt arg6.view (harg6.unread x3) S1x1x1x512.size (k0_off32 i) (k0_off32_inb i))
      (loadAt arg12.view (fillC arg5 harg5 arg12 x2 c) S1x512x256.size (k0_off35 i) (k0_off35_inb i))
      (kernelRun0_A.sl.v114 c i arg3 harg3 arg4 harg4 arg5 harg5 arg6 harg6 arg7 harg7 arg8 harg8 arg9 harg9 arg10 harg10 arg11 harg11 arg12 harg12 arg13 harg13 arg14 harg14 x0 x1 x2 x3) (kernelRun0_A.sl.v168 c i arg3 harg3 arg4 harg4 arg5 harg5 arg6 harg6 arg7 harg7 arg8 harg8 arg9 harg9 arg10 harg10 arg11 harg11 arg12 harg12 arg13 harg13 arg14 harg14 x0 x1 x2 x3)) rfl
      (dstepA_congr (i_read _ _ (harg3.read_unread _) _ rfl _) (i_read _ _ (harg4.read_unread _) _ (k0_off28_eq i) _) (i_read _ _ (harg6.read_unread _) _ (k0_off32_eq i) _)
        (i_read _ _ rfl _ (k0_off35_eq i) _) ?_ ?_)
    · unfold kernelRun0_A.sl.v114 kernelRun0_A.sl.HS1_2 kernelRun0_A.sl.HS1_1_1 View.readCov
      rw [View.readAt_unit _ _ _ rfl (by decide)]
      rw [View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl
    · unfold kernelRun0_A.sl.v168 kernelRun0_A.sl.HS2_2 kernelRun0_A.sl.HS2_1_1 View.readCov
      rw [View.readAt_unit _ _ _ rfl (by decide)]
      rw [View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl
  · refine Eq.trans (b := dstepA (loadAt arg3.view (harg3.unread x0) S512x128.size ![0, 384] inb_S512x512_S512x128_0_384)
      (loadAt arg4.view (harg4.unread x1) S512x128.size (k0_off31 i) (k0_off31_inb i)) (loadAt arg6.view (harg6.unread x3) S1x1x1x512.size (k0_off34 i) (k0_off34_inb i))
      (loadAt arg12.view (fillC arg5 harg5 arg12 x2 c) S1x512x256.size (k0_off36 i) (k0_off36_inb i))
      (kernelRun0_A.sl.v148 c i arg3 harg3 arg4 harg4 arg5 harg5 arg6 harg6 arg7 harg7 arg8 harg8 arg9 harg9 arg10 harg10 arg11 harg11 arg12 harg12 arg13 harg13 arg14 harg14 x0 x1 x2 x3) (kernelRun0_A.sl.v180 c i arg3 harg3 arg4 harg4 arg5 harg5 arg6 harg6 arg7 harg7 arg8 harg8 arg9 harg9 arg10 harg10 arg11 harg11 arg12 harg12 arg13 harg13 arg14 harg14 x0 x1 x2 x3)) rfl
      (dstepA_congr (i_read _ _ (harg3.read_unread _) _ rfl _) (i_read _ _ (harg4.read_unread _) _ (k0_off31_eq i) _) (i_read _ _ (harg6.read_unread _) _ (k0_off34_eq i) _)
        (i_read _ _ rfl _ (k0_off36_eq i) _) ?_ ?_)
    · unfold kernelRun0_A.sl.v148 kernelRun0_A.sl.HS1_3 kernelRun0_A.sl.HS1_2 kernelRun0_A.sl.HS1_1_1 View.readCov
      rw [View.readAt_unit _ _ _ rfl (by decide)]
      rw [View.read_writes_cons_put _ _ _ _ _ rfl, View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl
    · unfold kernelRun0_A.sl.v180 kernelRun0_A.sl.HS2_3 kernelRun0_A.sl.HS2_2 kernelRun0_A.sl.HS2_1_1 View.readCov
      rw [View.readAt_unit _ _ _ rfl (by decide)]
      rw [View.read_writes_cons_put _ _ _ _ _ rfl, View.read_writes_cons_put _ _ _ _ _ rfl, View.read_writes_cons_put _ _ _ _ _ rfl]
      refine (VecWindow.window_put_of_disjoint _ _ _ _ _ _ _ 0 (.inr (by decide))).trans ?_
      refine (VecWindow.window_put_of_disjoint _ _ _ _ _ _ _ 0 (.inr (by decide))).trans ?_
      refine (VecWindow.window_put_of_disjoint _ _ _ _ _ _ _ 0 (.inr (by decide))).trans ?_
      rw [View.writes_append, View.writes_append, e2, e1, pb_k0_t2.eq_1]; dsimp only; rw [View.writes_nil]; rfl

end Cert.Proof.Fox
-- ==== Proof.Out.lean ====
/-
  What the attention's point writes, head by head, and what the first row block of a head group leaves in the buffer of
  values: the values with a column block of ones after each head.
-/
module

public import proofs.«01_k».proof.Proof.Loop
public import Idealize.ShloMosaic.Lib.Pointwise

@[expose] public section

set_option maxRecDepth 16384

noncomputable section

open Cert.KernelIdeal Cert.KernelIdeal.Gen Idealize.ShloMosaic Idealize.ShloMosaic.TcCoe Idealize.SL.Sem

namespace Cert.Proof.Fox

variable {F : FTy → Type} [FloatOps F]

/-- A window read at an index is the vector read at the index moved by the offsets. -/
theorem window_at {α : Type} {s : Shape} (x : s.Idx → α) (off size : Fin s.rank → ℕ) (inb : ∀ a, off a + size a ≤ s.size a) (y : (Rect.unit off size inb).shape.Idx)
    (z : s.Idx) (h : ∀ a, (z a).val = off a + (y a).val) : VecWindow.window x off size inb y = x z :=
  congrArg x (funext fun a => Fin.ext (by
    have e : ((Rect.unit off size inb).emb y a).val = off a + 1 * (y a).val := rfl
    have := h a; omega))

/-- The values, a block of ones after each head's. -/
def vaug (x2 : Vec F S4096x512 .bf16) : Vec F S4x4096x256 .bf16 := fun y =>
  if h : (y 2).val < 128 then x2 (ix2 (y 1) ⟨128 * (y 0).val + (y 2).val, by have : (y 0).val < 4 := (y 0).isLt; omega⟩) else Scalar.ofBits .bf16 0x3F80#16

/-- The values of head `h` in the buffer. -/
abbrev gW (x : Vec F S4x4096x256 .bf16) (h : Fin 4) : Vec F S1x4096x128 .bf16 :=
  VecWindow.window x ![h.val, 0, 0] S1x4096x128.size fun a => by
    fin_cases a <;> simp [S4x4096x256, S1x4096x128] <;> omega
/-- The ones of head `h` in the buffer. -/
abbrev uW (x : Vec F S4x4096x256 .bf16) (h : Fin 4) : Vec F S1x4096x128 .bf16 :=
  VecWindow.window x ![h.val, 0, 128] S1x4096x128.size fun a => by
    fin_cases a <;> simp [S4x4096x256, S1x4096x128] <;> omega

theorem fill_windows {κ : Kind} {sp : Space} (v : View sig κ sp S4x4096x256 .bf16) (c : Dev nD) (arg5 : Memref sig .tc .vmem S4096x512 .bf16) (harg5 : arg5.IsWhole)
    (x2 : Vec F S4096x512 .bf16) (h : Fin 4) :
    gW (v.read (Elt F) (v.writes (Elt F) v.junk (kernelRun0_A.sl.HS0_8 c arg5 harg5 x2))) h
        = k0_pay2 (VecWindow.window x2 ![0, 128 * h.val] S4096x128.size fun a => by fin_cases a <;> simp [S4096x512, S4096x128] <;> omega)
      ∧ uW (v.read (Elt F) (v.writes (Elt F) v.junk (kernelRun0_A.sl.HS0_8 c arg5 harg5 x2))) h = k0_pay3 := by
  unfold kernelRun0_A.sl.HS0_8
  iterate 8 rw [View.read_writes_cons_put _ _ _ _ _ rfl]
  obtain rfl | rfl | rfl | rfl : h = 0 ∨ h = 1 ∨ h = 2 ∨ h = 3 := by omega
  all_goals constructor
  · exact (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 2 (.inl (by decide))).trans <| (VecWindow.window_put_same _ _ _ _ _).trans
      (congrArg (k0_pay2 (F := F)) (i_read _ _ (harg5.read_unread _) _ rfl _))
  · exact (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| VecWindow.window_put_same _ _ _ _ _
  · exact (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 2 (.inl (by decide))).trans <| (VecWindow.window_put_same _ _ _ _ _).trans
      (congrArg (k0_pay2 (F := F)) (i_read _ _ (harg5.read_unread _) _ rfl _))
  · exact (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 0 (.inl (by decide))).trans <| VecWindow.window_put_same _ _ _ _ _
  · exact (VecWindow.window_put_of_disjoint _ _ _ _ _ _ _ 0 (.inl (by decide))).trans <| (VecWindow.window_put_of_disjoint _ _ _ _ _ _ _ 0 (.inl (by decide))).trans <| (VecWindow.window_put_of_disjoint _ _ _ _ _ _ _ 2 (.inl (by decide))).trans <| (VecWindow.window_put_same _ _ _ _ _).trans
      (congrArg (k0_pay2 (F := F)) (i_read _ _ (harg5.read_unread _) _ rfl _))
  · exact (VecWindow.window_put_of_disjoint _ _ _ _ _ _ _ 0 (.inl (by decide))).trans <| (VecWindow.window_put_of_disjoint _ _ _ _ _ _ _ 0 (.inl (by decide))).trans <| VecWindow.window_put_same _ _ _ _ _
  · exact (VecWindow.window_put_of_disjoint _ _ _ _ _ _ _ 2 (.inl (by decide))).trans <| (VecWindow.window_put_same _ _ _ _ _).trans
      (congrArg (k0_pay2 (F := F)) (i_read _ _ (harg5.read_unread _) _ rfl _))
  · exact VecWindow.window_put_same _ _ _ _ _

theorem fill_read {κ : Kind} {sp : Space} (v : View sig κ sp S4x4096x256 .bf16) (c : Dev nD) (arg5 : Memref sig .tc .vmem S4096x512 .bf16) (harg5 : arg5.IsWhole)
    (x2 : Vec F S4096x512 .bf16) : v.read (Elt F) (v.writes (Elt F) v.junk (kernelRun0_A.sl.HS0_8 c arg5 harg5 x2)) = vaug x2 := by
  funext y
  obtain ⟨e1, e2⟩ := fill_windows v c arg5 harg5 x2 (y 0)
  by_cases h : (y 2).val < 128
  · have := congrFun e1 (ix3 (0 : Fin 1) (y 1) (⟨(y 2).val, h⟩ : Fin 128))
    unfold vaug
    rw [dif_pos h]
    refine Eq.trans ?_ (this.trans ?_)
    · refine (window_at _ _ _ _ _ _ fun a => ?_).symm
      fin_cases a
      · show (y 0).val = (y 0).val + 0; rfl
      · show (y 1).val = 0 + (y 1).val; omega
      · show (y 2).val = 0 + (y 2).val; omega
    · pointwise [k0_pay2]
      refine window_at _ _ _ _ _ _ fun a => ?_
      fin_cases a
      · show (y 1).val = 0 + (y 1).val; omega
      · rfl
  · have := congrFun e2 (ix3 (0 : Fin 1) (y 1) (⟨(y 2).val - 128, by have : (y 2).val < 256 := (y 2).isLt; omega⟩ : Fin 128))
    unfold vaug
    rw [dif_neg h]
    refine Eq.trans ?_ (this.trans ?_)
    · refine (window_at _ _ _ _ _ _ fun a => ?_).symm
      fin_cases a
      · show (y 0).val = (y 0).val + 0; rfl
      · show (y 1).val = 0 + (y 1).val; omega
      · show (y 2).val = 128 + ((y 2).val - 128); omega
    · rfl

/-- Four column blocks written one after the other, the last first: each is its own. -/
theorem oW_puts (x : Vec F S512x512 .bf16) (w : Fin 4 → Vec F S512x128 .bf16) (h : Fin 4) :
    qW (VecWindow.put (VecWindow.put (VecWindow.put (VecWindow.put x ![0, 0] S512x128.size (w 0)) ![0, 128] S512x128.size (w 1))
      ![0, 256] S512x128.size (w 2)) ![0, 384] S512x128.size (w 3)) h = w h := by
  fin_cases h
  · refine (VecWindow.window_put_of_disjoint _ _ _ _ _ _ _ 1 (.inl (by decide))).trans ((VecWindow.window_put_of_disjoint _ _ _ _ _ _ _ 1 (.inl (by decide))).trans
      ((VecWindow.window_put_of_disjoint _ _ _ _ _ _ _ 1 (.inl (by decide))).trans (VecWindow.window_put_same _ _ _ _ _)))
  · refine (VecWindow.window_put_of_disjoint _ _ _ _ _ _ _ 1 (.inl (by decide))).trans ((VecWindow.window_put_of_disjoint _ _ _ _ _ _ _ 1 (.inl (by decide))).trans
      (VecWindow.window_put_same _ _ _ _ _))
  · exact (VecWindow.window_put_of_disjoint _ _ _ _ _ _ _ 1 (.inl (by decide))).trans (VecWindow.window_put_same _ _ _ _ _)
  · exact VecWindow.window_put_same _ _ _ _ _

variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x8x512 .f32) (harg6 : arg6.IsWhole) (arg7 : Memref sig .tc .vmem S64x4096 .f32) (harg7 : arg7.IsWhole) (arg8 : Memref sig .tc .vmem S32x4096 .f32) (harg8 : arg8.IsWhole) (arg9 : Memref sig .tc .vmem S512x512 .bf16) (harg9 : arg9.IsWhole) (arg10 : Memref sig .tc .vmem S64x4096 .bf16) (harg10 : arg10.IsWhole) (arg11 : Memref sig .tc .vmem S32x4096 .bf16) (harg11 : arg11.IsWhole) (arg12 : Memref sig .tc .vmem S4x4096x256 .bf16) (harg12 : arg12.IsWhole) (arg13 : Memref sig .tc .vmem S4x512x128 .f32) (harg13 : arg13.IsWhole) (arg14 : Memref sig .tc .vmem S4x512x256 .f32) (harg14 : arg14.IsWhole)
variable (x0 : Vec F S512x512 .bf16) (x1 : Vec F S4096x512 .bf16) (x2 : Vec F S4096x512 .bf16) (x3 : Vec F S1x4x8x512 .f32) (x4 : Vec F S64x4096 .f32) (x5 : Vec F S32x4096 .f32)

/-- What a point writes for head `h`, the buffer of values holding `X12`. -/
abbrev headOut (X12 : BufTy.Contents (Elt F) arg12.view.ty) (h : Fin 4) : Vec F S512x128 .bf16 :=
  k0_pay115 (dstepA (qW x0 h) (kW x1 h (i 2).val (i2_lt i)) (fW x3 h (i 2).val (i2_lt i)) (vW (arg12.view.read (Elt F) X12) h (i 2).val (i2_lt i))
          (mW (loopM c i arg3 harg3 arg4 harg4 arg5 harg5 arg6 harg6 arg7 harg7 arg8 harg8 arg9 harg9 arg10 harg10 arg11 harg11 arg12 harg12 arg13 harg13 arg14 harg14 x0 x1 x3 X12 (i 2).val) h) (aW (loopA c i arg3 harg3 arg4 harg4 arg5 harg5 arg6 harg6 arg7 harg7 arg8 harg8 arg9 harg9 arg10 harg10 arg11 harg11 arg12 harg12 arg13 harg13 arg14 harg14 x0 x1 x3 X12 (i 2).val) h))

theorem out_A (hc0) (h : Fin 4) : qW (out0_A_6 c i arg3 harg3 arg4 harg4 arg5 harg5 arg6 harg6 arg7 harg7 arg8 harg8 arg9 harg9 arg10 harg10 arg11 harg11 arg12 harg12 arg13 harg13 arg14 harg14 hc0 x0 x1 x2 x3 x4 x5) h = headOut c i arg3 harg3 arg4 harg4 arg5 harg5 arg6 harg6 arg7 harg7 arg8 harg8 arg9 harg9 arg10 harg10 arg11 harg11 arg12 harg12 arg13 harg13 arg14 harg14 x0 x1 x3 (fillC arg5 harg5 arg12 x2 c) h := by
  unfold out0_A_6 kernelRun0_A
  dsimp only
  rw [View.read_writes_cons_put _ _ _ _ _ rfl, View.read_writes_cons_put _ _ _ _ _ rfl, View.read_writes_cons_put _ _ _ _ _ rfl,
    View.read_writes_cons_put _ _ _ _ _ rfl]
  refine (oW_puts _ ![_, _, _, _] h).trans ?_
  unfold headOut
  rw [← acc_A]
  obtain rfl | rfl | rfl | rfl : h = 0 ∨ h = 1 ∨ h = 2 ∨ h = 3 := by omega
  all_goals rfl

theorem out_B (hc0) (xs0 : Vec F S4x4096x256 .bf16) (h : Fin 4) :
    qW (out0_B_6 c i arg3 harg3 arg4 harg4 arg5 harg5 arg6 harg6 arg7 harg7 arg8 harg8 arg9 harg9 arg10 harg10 arg11 harg11 arg12 harg12 arg13 harg13 arg14 harg14 hc0 x0 x1 x2 x3 x4 x5 xs0) h = headOut c i arg3 harg3 arg4 harg4 arg5 harg5 arg6 harg6 arg7 harg7 arg8 harg8 arg9 harg9 arg10 harg10 arg11 harg11 arg12 harg12 arg13 harg13 arg14 harg14 x0 x1 x3 (harg12.unread xs0) h := by
  unfold out0_B_6 kernelRun0_B
  dsimp only
  rw [View.read_writes_cons_put _ _ _ _ _ rfl, View.read_writes_cons_put _ _ _ _ _ rfl, View.read_writes_cons_put _ _ _ _ _ rfl,
    View.read_writes_cons_put _ _ _ _ _ rfl]
  refine (oW_puts _ ![_, _, _, _] h).trans ?_
  unfold headOut
  rw [harg12.read_unread, ← acc_B]
  obtain rfl | rfl | rfl | rfl : h = 0 ∨ h = 1 ∨ h = 2 ∨ h = 3 := by omega
  all_goals rfl

/-- The values' scratch after the points of the two kinds. -/
theorem sout_A (hc0) : sout0_A_0 c i arg3 harg3 arg4 harg4 arg5 harg5 arg6 harg6 arg7 harg7 arg8 harg8 arg9 harg9 arg10 harg10 arg11 harg11 arg12 harg12 arg13 harg13 arg14 harg14 hc0 x0 x1 x2 x3 x4 x5 = vaug x2 := by
  unfold sout0_A_0 kernelRun0_A
  exact fill_read VS0_0 c arg5 harg5 x2

theorem sout_B (hc0) (xs0 : Vec F S4x4096x256 .bf16) : sout0_B_0 c i arg3 harg3 arg4 harg4 arg5 harg5 arg6 harg6 arg7 harg7 arg8 harg8 arg9 harg9 arg10 harg10 arg11 harg11 arg12 harg12 arg13 harg13 arg14 harg14 hc0 x0 x1 x2 x3 x4 x5 xs0 = xs0 := rfl

end Cert.Proof.Fox
-- ==== Proof.Softmax.lean ====
/-
  The running softmax over extended reals: a maximum and a weighted sum brought forward block by block are, up to a
  common factor that a quotient drops, the weighted sum over all keys seen so far.
-/
module

public import Idealize.ShloMosaic.Lib.Pointwise
public import Mathlib.Data.EReal.Inv

@[expose] public section

noncomputable section

open Idealize.ShloMosaic

namespace Cert.Proof.Fox

/-- The weight of a score `t` against a real reference point `M`. -/
def wt (t : EReal) (M : ℝ) : ℝ := (Ideal.exp (t - M)).toReal

theorem exp_bot' : Ideal.exp ⊥ = 0 := rfl
theorem exp_coe' (r : ℝ) : Ideal.exp (r : EReal) = (Real.exp r : EReal) := rfl

theorem bot_sub' (x : EReal) : (⊥ : EReal) - x = ⊥ := by
  rw [sub_eq_add_neg, EReal.bot_add]

theorem wt_bot (M : ℝ) : wt ⊥ M = 0 := by
  unfold wt; rw [bot_sub', exp_bot']; rfl

theorem wt_coe (r M : ℝ) : wt r M = Real.exp (r - M) := by
  unfold wt; rw [← EReal.coe_sub, exp_coe']; rfl

theorem exp_sub_eq (t : EReal) (ht : t ≠ ⊤) (M : ℝ) : Ideal.exp (t - M) = (wt t M : EReal) := by
  induction t with
  | bot => rw [wt_bot, bot_sub', exp_bot']; rfl
  | top => exact absurd rfl ht
  | coe r => rw [wt_coe, ← EReal.coe_sub, exp_coe']

theorem wt_nonneg (t : EReal) (ht : t ≠ ⊤) (M : ℝ) : 0 ≤ wt t M := by
  induction t with
  | bot => rw [wt_bot]
  | top => exact absurd rfl ht
  | coe r => rw [wt_coe]; positivity

theorem wt_pos (t : EReal) (ht : t ≠ ⊤) (hb : t ≠ ⊥) (M : ℝ) : 0 < wt t M := by
  induction t with
  | bot => exact absurd rfl hb
  | top => exact absurd rfl ht
  | coe r => rw [wt_coe]; positivity

/-- Moving the reference point multiplies every weight by one factor. -/
theorem wt_shift (t : EReal) (ht : t ≠ ⊤) (M N : ℝ) : wt t N = Real.exp (M - N) * wt t M := by
  induction t with
  | bot => rw [wt_bot, wt_bot, mul_zero]
  | top => exact absurd rfl ht
  | coe r => rw [wt_coe, wt_coe, ← Real.exp_add]; congr 1; ring

/-- Adding one real to the score is moving the reference point back. -/
theorem wt_add (t : EReal) (ht : t ≠ ⊤) (f M : ℝ) : wt (t + f) M = wt t (M - f) := by
  induction t with
  | bot => rw [EReal.bot_add, wt_bot, wt_bot]
  | top => exact absurd rfl ht
  | coe r => rw [← EReal.coe_add, wt_coe, wt_coe]; congr 1; ring

/-- A nonnegative real factor goes into a sum of extended reals. -/
theorem coe_mul_sum {ι : Type*} (a : ℝ) (ha : 0 ≤ a) (s : Finset ι) (f : ι → EReal) :
    (a : EReal) * ∑ j ∈ s, f j = ∑ j ∈ s, (a : EReal) * f j := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

theorem coe_sum {ι : Type*} (s : Finset ι) (f : ι → ℝ) : ((∑ j ∈ s, f j : ℝ) : EReal) = ∑ j ∈ s, (f j : EReal) := by
  classical
  induction s using Finset.induction_on with
  | empty => simp
  | insert i s hi ih => rw [Finset.sum_insert hi, Finset.sum_insert hi, EReal.coe_add, ih]

theorem coe_max (a b : ℝ) : ((max a b : ℝ) : EReal) = max (a : EReal) b :=
  EReal.coe_strictMono.monotone.map_max

/-- What the running maximum `m` and one column `A` of the running sum are after the first `n` keys: untouched at
    `n = 0`, and otherwise a real reference point with the sum of the weighted values. -/
def Inv (T V : ℕ → EReal) (n : ℕ) (m A : EReal) : Prop :=
  (m = ⊥ ∧ A = 0 ∧ n = 0) ∨ ∃ M : ℝ, m = M ∧ A = ∑ j ∈ Finset.range n, (wt (T j) M : EReal) * V j

theorem Inv.step {T V : ℕ → EReal} (hT : ∀ j, T j ≠ ⊤) {n : ℕ} {m A : EReal} (h : Inv T V n m A) (K : ℕ) (mx : EReal)
    (hx : mx ≠ ⊤) (hb : mx ≠ ⊥) :
    Inv T V (n + K) (max m mx) (Ideal.exp (m - max m mx) * A + ∑ c : Fin K, Ideal.exp (T (n + c) - max m mx) * V (n + c)) := by
  lift mx to ℝ using ⟨hx, hb⟩
  right
  rcases h with ⟨rfl, rfl, rfl⟩ | ⟨M, rfl, rfl⟩
  · refine ⟨mx, by simp, ?_⟩
    rw [max_eq_right bot_le, mul_zero, zero_add, zero_add, Finset.sum_range]
    refine Finset.sum_congr rfl fun c _ => ?_
    rw [zero_add, exp_sub_eq _ (hT _)]
  · refine ⟨max M mx, (coe_max M mx).symm, ?_⟩
    rw [← coe_max, ← EReal.coe_sub, exp_coe', coe_mul_sum _ (Real.exp_pos _).le, Finset.sum_range_add]
    congr 1
    · refine Finset.sum_congr rfl fun j _ => ?_
      rw [← mul_assoc, ← EReal.coe_mul, ← wt_shift _ (hT j)]
    · rw [Finset.sum_range]
      refine Finset.sum_congr rfl fun c _ => ?_
      rw [exp_sub_eq _ (hT _)]

/-- A maximum of scores below `⊤`, not all `⊥`, is real. -/
theorem fold_max_ne {ι : Type*} (s : Finset ι) (f : ι → EReal) (hf : ∀ j, f j ≠ ⊤) :
    Finset.fold max ⊥ f s ≠ ⊤ := by
  refine (lt_top_iff_ne_top).mp (Finset.fold_max_lt _ |>.mpr ⟨bot_lt_top, fun j _ => lt_top_iff_ne_top.mpr (hf j)⟩)

theorem fold_max_ne_bot {ι : Type*} (s : Finset ι) (f : ι → EReal) (i : ι) (hi : i ∈ s) (hf : f i ≠ ⊥) :
    Finset.fold max ⊥ f s ≠ ⊥ := by
  refine (bot_lt_iff_ne_bot).mp (Finset.lt_fold_max _ |>.mpr (.inr ⟨i, hi, bot_lt_iff_ne_bot.mpr hf⟩))

theorem div_coe (x : EReal) (s : ℝ) (hs : 0 < s) : Ideal.div x s = ((s⁻¹ : ℝ) : EReal) * x := by
  unfold Ideal.div
  rw [if_neg (by exact_mod_cast hs.ne'), mul_comm, EReal.coe_inv]

/-- The sums only read the weights of the keys taken so far. -/
theorem Inv.congr {T V W : ℕ → EReal} {n : ℕ} {m A : EReal} (h : Inv T V n m A) (hVW : ∀ j < n, V j = W j) : Inv T W n m A := by
  rcases h with h | ⟨M, hm, hA⟩
  · exact .inl h
  · exact .inr ⟨M, hm, hA.trans (Finset.sum_congr rfl fun j hj => by rw [hVW j (Finset.mem_range.1 hj)])⟩

/-- The quotient of the two running sums over the first `n` keys is the softmax over all `N` keys, the later ones
    masked out, of scores that differ from the running ones by one real. -/
theorem quotient {T V : ℕ → EReal} (hT : ∀ j, T j ≠ ⊤) {n N : ℕ} (hn : n ≤ N) (hmask : ∀ j, n ≤ j → T j = ⊥)
    (i : ℕ) (hi : i < n) (hTi : T i ≠ ⊥) {m A S : EReal} (hA : Inv T V n m A) (hS : Inv T (fun _ => 1) n m S)
    (f M' : ℝ) :
    Ideal.div A S
      = ∑ j : Fin N, Ideal.div (Ideal.exp ((T j + f) - M')) (0 + ∑ k : Fin N, Ideal.exp ((T k + f) - M')) * V j := by
  have hpos : n ≠ 0 := by omega
  obtain ⟨M, rfl, rfl⟩ : ∃ M : ℝ, m = M ∧ A = ∑ j ∈ Finset.range n, (wt (T j) M : EReal) * V j :=
    hA.resolve_left fun h => hpos h.2.2
  obtain ⟨M₂, hM, rfl⟩ : ∃ M₂ : ℝ, (M : EReal) = M₂ ∧ S = ∑ j ∈ Finset.range n, (wt (T j) M₂ : EReal) * 1 :=
    hS.resolve_left fun h => hpos h.2.2
  obtain rfl : M = M₂ := by exact_mod_cast hM
  have hTf : ∀ j, T j + f ≠ ⊤ := fun j => by
    exact EReal.add_ne_top (hT j) (EReal.coe_ne_top f)
  have hw : ∀ j, Ideal.exp ((T j + f) - M') = ((Real.exp (M - (M' - f)) * wt (T j) M : ℝ) : EReal) := fun j => by
    rw [exp_sub_eq _ (hTf j), wt_add _ (hT j), wt_shift _ (hT j) M]
  have hsum : ∀ g : ℕ → EReal, (∀ j, n ≤ j → g j = 0) → ∑ j : Fin N, g j = ∑ j ∈ Finset.range n, g j := fun g hg => by
    rw [← Finset.sum_range g]
    exact (Finset.sum_subset (Finset.range_mono hn) fun j _ hj => hg j (by simpa using hj)).symm
  have hz : ∀ j, n ≤ j → wt (T j) M = 0 := fun j hj => by rw [hmask j hj, wt_bot]
  set a := Real.exp (M - (M' - f)) with ha
  have hapos : 0 < a := Real.exp_pos _
  set s := ∑ j ∈ Finset.range n, wt (T j) M with hs
  have hspos : 0 < s := Finset.sum_pos' (fun j _ => wt_nonneg _ (hT j) M) ⟨i, by simpa using hi, wt_pos _ (hT i) hTi M⟩
  have hden : (0 + ∑ k : Fin N, Ideal.exp ((T k + f) - M') : EReal) = ((a * s : ℝ) : EReal) := by
    rw [zero_add, hsum (fun k => Ideal.exp ((T k + f) - M')) (fun j hj => by rw [hw, hz j hj, mul_zero]; rfl), hs,
      Finset.mul_sum, coe_sum]
    exact Finset.sum_congr rfl fun j _ => hw j
  have hS' : (∑ j ∈ Finset.range n, (wt (T j) M : EReal) * 1) = ((s : ℝ) : EReal) := by
    rw [hs, coe_sum]; exact Finset.sum_congr rfl fun j _ => mul_one _
  rw [hden, hS', div_coe _ _ hspos, coe_mul_sum _ (inv_pos.mpr hspos).le,
    hsum (fun j => Ideal.div (Ideal.exp ((T j + f) - M')) ((a * s : ℝ) : EReal) * V j)
      (fun j hj => by rw [div_coe _ _ (mul_pos hapos hspos), hw, hz j hj, mul_zero]; simp)]
  refine Finset.sum_congr rfl fun j _ => ?_
  rw [div_coe _ _ (mul_pos hapos hspos), hw, ← mul_assoc, ← EReal.coe_mul, ← EReal.coe_mul]
  congr 2
  field_simp

end Cert.Proof.Fox

end
-- ==== Proof.Step.lean ====
/-
  One block of the running softmax, read at an index: scores, the new maximum, the new weighted sum.
-/
module

public import proofs.«01_k».proof.Proof.Gen.KernelIdeal.Value
public import proofs.«01_k».proof.Proof.Softmax

@[expose] public section

set_option maxRecDepth 16384

noncomputable section

open Cert.KernelIdeal Cert.KernelIdeal.Gen Idealize.ShloMosaic Idealize.ShloMosaic.TcCoe Idealize.SL.Sem

namespace Cert.Proof.Fox

theorem score_apply (q k : Vec Ideal S512x128 .bf16) (f : Vec Ideal S1x1x1x512 .f32) (r c : Fin 512) :
    k0_pay9 q k f (ix2 r c) = (∑ d : Fin 128, q (ix2 r d) * k (ix2 c d)) - f (ix4 0 0 0 c) := by
  pointwise [k0_pay9]

theorem ninf : Ideal.ofBits .f32 0xFF800000#32 = ⊥ := by
  simp [Ideal.ofBits, Ideal.ieee]

/-- The score of the block that holds the row's own position: a later key counts for nothing. -/
theorem dscore_apply (q k : Vec Ideal S512x128 .bf16) (f : Vec Ideal S1x1x1x512 .f32) (r c : Fin 512) :
    k0_pay82 kernelRun0_B.sl.v24 kernelRun0_B.sl.v25 q k f (ix2 r c)
      = if c.val ≤ r.val then (∑ d : Fin 128, q (ix2 r d) * k (ix2 c d)) - f (ix4 0 0 0 c) else ⊥ := by
  pointwise [k0_pay82, k0_pay80, kernelRun0_B.sl.v24, kernelRun0_B.sl.v25]
  rw [ninf]
  by_cases h : c.val ≤ r.val
  · rw [if_pos h, (WordCmp.cmpi_sge_ofNat_eq_one_iff (by omega) (by omega)).mpr h]; rfl
  · rw [if_neg h, (WordCmp.cmpi_sge_ofNat_eq_zero_iff (by omega) (by omega)).mpr (by omega)]; rfl

theorem max_apply (q k : Vec Ideal S512x128 .bf16) (f : Vec Ideal S1x1x1x512 .f32) (m : Vec Ideal S1x512x128 .f32) (r : Fin 512) (l : Fin 128) :
    k0_pay11 q k f m (ix2 r l) = max (m (ix3 0 r l)) (Finset.univ.fold max ⊥ fun c : Fin 512 => k0_pay9 q k f (ix2 r c)) := by
  pointwise [k0_pay11, k0_pay10]
  rw [ninf]

theorem dmax_apply (i j : IVec S512x512 32) (q k : Vec Ideal S512x128 .bf16) (f : Vec Ideal S1x1x1x512 .f32) (m : Vec Ideal S1x512x128 .f32) (r : Fin 512)
    (l : Fin 128) :
    k0_pay84 i j q k f m (ix2 r l) = max (m (ix3 0 r l)) (Finset.univ.fold max ⊥ fun c : Fin 512 => k0_pay82 i j q k f (ix2 r c)) := by
  pointwise [k0_pay84, k0_pay83]
  rw [ninf]

theorem newmax_apply (q k : Vec Ideal S512x128 .bf16) (f : Vec Ideal S1x1x1x512 .f32) (m : Vec Ideal S1x512x128 .f32) (r : Fin 512) (l : Fin 128) :
    k0_pay12 q k f m (ix3 0 r l) = max (m (ix3 0 r l)) (Finset.univ.fold max ⊥ fun c : Fin 512 => k0_pay9 q k f (ix2 r c)) := by
  pointwise [k0_pay12]
  exact max_apply q k f m r l

theorem dnewmax_apply (i j : IVec S512x512 32) (q k : Vec Ideal S512x128 .bf16) (f : Vec Ideal S1x1x1x512 .f32) (m : Vec Ideal S1x512x128 .f32) (r : Fin 512)
    (l : Fin 128) :
    k0_pay85 i j q k f m (ix3 0 r l) = max (m (ix3 0 r l)) (Finset.univ.fold max ⊥ fun c : Fin 512 => k0_pay82 i j q k f (ix2 r c)) := by
  pointwise [k0_pay85]
  exact dmax_apply i j q k f m r l

/-- The weights of a block, where the maximum is the same in every lane. -/
theorem p_apply (q k : Vec Ideal S512x128 .bf16) (f : Vec Ideal S1x1x1x512 .f32) (m : Vec Ideal S1x512x128 .f32) (r c : Fin 512) (M : EReal)
    (hM : ∀ l, k0_pay11 q k f m (ix2 r l) = M) :
    k0_pay13 q k f m (ix2 r c) = Ideal.exp (k0_pay9 q k f (ix2 r c) - M) := by
  pointwise [k0_pay13]
  simp only [hM, dite_eq_ite, ite_self]

theorem dp_apply (i j : IVec S512x512 32) (q k : Vec Ideal S512x128 .bf16) (f : Vec Ideal S1x1x1x512 .f32) (m : Vec Ideal S1x512x128 .f32) (r c : Fin 512)
    (M : EReal) (hM : ∀ l, k0_pay84 i j q k f m (ix2 r l) = M) :
    k0_pay86 i j q k f m (ix2 r c) = Ideal.exp (k0_pay82 i j q k f (ix2 r c) - M) := by
  pointwise [k0_pay86]
  simp only [hM, dite_eq_ite, ite_self]

theorem al_apply (q k : Vec Ideal S512x128 .bf16) (f : Vec Ideal S1x1x1x512 .f32) (m : Vec Ideal S1x512x128 .f32) (r : Fin 512) (l : Fin 128) :
    k0_pay14 q k f m (ix2 r l) = Ideal.exp (m (ix3 0 r l) - k0_pay11 q k f m (ix2 r l)) := by
  pointwise [k0_pay14, k0_pay10]

theorem dal_apply (i j : IVec S512x512 32) (q k : Vec Ideal S512x128 .bf16) (f : Vec Ideal S1x1x1x512 .f32) (m : Vec Ideal S1x512x128 .f32) (r : Fin 512)
    (l : Fin 128) :
    k0_pay87 i j q k f m (ix2 r l) = Ideal.exp (m (ix3 0 r l) - k0_pay84 i j q k f m (ix2 r l)) := by
  pointwise [k0_pay87, k0_pay83]

/-- The weighted sum brought forward, where the factor is the same in every lane. -/
theorem acc_apply (p : FVec Ideal S512x512 .bf16) (al : FVec Ideal S512x128 .f32) (va : Vec Ideal S1x512x256 .bf16) (a : Vec Ideal S1x512x256 .f32) (r : Fin 512)
    (c : Fin 256) (al' : EReal) (hal : ∀ l, al (ix2 r l) = al') :
    k0_pay23 p al va a (ix3 0 r c) = al' * a (ix3 0 r c) + ∑ x : Fin 512, p (ix2 r x) * va (ix3 0 x c) := by
  pointwise [k0_pay23]
  simp only [hal, dite_eq_ite, ite_self]

/-- After `n` keys a row holds its running maximum in every lane and, in each column, its weighted sum. -/
def RowInv (T : ℕ → EReal) (V : Fin 256 → ℕ → EReal) (n : ℕ) (m : Vec Ideal S1x512x128 .f32) (a : Vec Ideal S1x512x256 .f32) (r : Fin 512) : Prop :=
  ∃ μ : EReal, (∀ l, m (ix3 0 r l) = μ) ∧ ∀ c, Inv T (V c) n μ (a (ix3 0 r c))

theorem RowInv.of {T : ℕ → EReal} {V : Fin 256 → ℕ → EReal} {n : ℕ} {m m' : Vec Ideal S1x512x128 .f32} {a a' : Vec Ideal S1x512x256 .f32} {r : Fin 512}
    (hT : ∀ j, T j ≠ ⊤) (h : RowInv T V n m a r) (hb : T n ≠ ⊥)
    (hm' : ∀ l, m' (ix3 0 r l) = max (m (ix3 0 r l)) (Finset.univ.fold max ⊥ fun c : Fin 512 => T (n + c)))
    (ha' : ∀ μ M, (∀ l, m (ix3 0 r l) = μ) → (∀ l, max (m (ix3 0 r l)) (Finset.univ.fold max ⊥ fun c : Fin 512 => T (n + c)) = M) →
      ∀ c, a' (ix3 0 r c) = Ideal.exp (μ - M) * a (ix3 0 r c) + ∑ x : Fin 512, Ideal.exp (T (n + x) - M) * V c (n + x)) :
    RowInv T V (n + 512) m' a' r := by
  obtain ⟨μ, hμ, hA⟩ := h
  refine ⟨_, fun l => (hm' l).trans (by rw [hμ l]), fun c => ?_⟩
  rw [ha' μ _ hμ (fun l => by rw [hμ l]) c]
  exact (hA c).step hT 512 _ (fold_max_ne _ _ fun c => hT _) (fold_max_ne_bot _ _ (0 : Fin 512) (Finset.mem_univ _) hb)

theorem RowInv.step {T : ℕ → EReal} {V : Fin 256 → ℕ → EReal} {n : ℕ} {m : Vec Ideal S1x512x128 .f32} {a : Vec Ideal S1x512x256 .f32} {r : Fin 512}
    (hT : ∀ j, T j ≠ ⊤) (h : RowInv T V n m a r) (hb : T n ≠ ⊥) (q k : Vec Ideal S512x128 .bf16) (f : Vec Ideal S1x1x1x512 .f32) (va : Vec Ideal S1x512x256 .bf16)
    (hs : ∀ c : Fin 512, k0_pay9 q k f (ix2 r c) = T (n + c)) (hV : ∀ c (x : Fin 512), va (ix3 0 x c) = V c (n + x)) :
    RowInv T V (n + 512) (k0_pay12 q k f m) (k0_pay23 (k0_pay13 q k f m) (k0_pay14 q k f m) va a) r := by
  refine h.of hT hb (fun l => ?_) fun μ M hμ hM c => ?_
  · rw [newmax_apply]; simp only [hs]
  · have hM' : ∀ l, k0_pay11 q k f m (ix2 r l) = M := fun l => by rw [max_apply, ← hM l]; simp only [hs]
    rw [acc_apply _ _ _ _ _ _ (Ideal.exp (μ - M)) fun l => by rw [al_apply, hM', hμ]]
    simp only [p_apply _ _ _ _ _ _ M hM', hs, hV]

theorem RowInv.dstep {T : ℕ → EReal} {V : Fin 256 → ℕ → EReal} {n : ℕ} {m : Vec Ideal S1x512x128 .f32} {a : Vec Ideal S1x512x256 .f32} {r : Fin 512}
    (hT : ∀ j, T j ≠ ⊤) (h : RowInv T V n m a r) (hb : T n ≠ ⊥) (i j : IVec S512x512 32) (q k : Vec Ideal S512x128 .bf16) (f : Vec Ideal S1x1x1x512 .f32)
    (va : Vec Ideal S1x512x256 .bf16)
    (hs : ∀ c : Fin 512, k0_pay82 i j q k f (ix2 r c) = T (n + c)) (hV : ∀ c (x : Fin 512), va (ix3 0 x c) = V c (n + x)) :
    RowInv T V (n + 512) (k0_pay85 i j q k f m) (k0_pay23 (k0_pay86 i j q k f m) (k0_pay87 i j q k f m) va a) r := by
  refine h.of hT hb (fun l => ?_) fun μ M hμ hM c => ?_
  · rw [dnewmax_apply]; simp only [hs]
  · have hM' : ∀ l, k0_pay84 i j q k f m (ix2 r l) = M := fun l => by rw [dmax_apply, ← hM l]; simp only [hs]
    rw [acc_apply _ _ _ _ _ _ (Ideal.exp (μ - M)) fun l => by rw [dal_apply, hM', hμ]]
    simp only [dp_apply _ _ _ _ _ _ _ _ M hM', hs, hV]

theorem o_apply (a : Vec Ideal S1x512x256 .f32) (r : Fin 512) (d : Fin 128) :
    k0_pay115 a (ix2 r d) = Ideal.div (a (ix3 0 r ⟨d, by omega⟩)) (a (ix3 0 r ⟨128 + d, by omega⟩)) := by
  pointwise [k0_pay115]

end Cert.Proof.Fox
-- ==== Proof.Rows.lean ====
/-
  The rows of a point: the loop and the last block bring every row's maximum and weighted sums forward over its keys, and
  the quotient at the end is the softmax of the row over the values.
-/
module

public import proofs.«01_k».proof.Proof.Out
public import proofs.«01_k».proof.Proof.Step
public import Idealize.ShloMosaic.Lib.IdealHost

@[expose] public section

set_option maxRecDepth 16384

noncomputable section

open Cert.KernelIdeal Cert.KernelIdeal.Gen Idealize.ShloMosaic Idealize.ShloMosaic.TcCoe Idealize.SL.Sem

namespace Cert.Proof.Fox

theorem qW_at (x : Vec Ideal S512x512 .bf16) (h : Fin 4) (r : Fin 512) (d : Fin 128) : qW x h (ix2 r d) = x (ix2 r ⟨128 * h.val + d.val, by omega⟩) :=
  window_at _ _ _ _ _ _ fun a => by
    fin_cases a
    · show r.val = 0 + r.val; omega
    · rfl

theorem kW_at (x : Vec Ideal S4096x512 .bf16) (h : Fin 4) (k : ℕ) (hk : k < 8) (c : Fin 512) (d : Fin 128) :
    kW x h k hk (ix2 c d) = x (ix2 ⟨512 * k + c.val, by omega⟩ ⟨128 * h.val + d.val, by omega⟩) :=
  window_at _ _ _ _ _ _ fun a => by
    fin_cases a
    · rfl
    · rfl

theorem fW_at (x : Vec Ideal S1x4x8x512 .f32) (h : Fin 4) (k : ℕ) (hk : k < 8) (c : Fin 512) : fW x h k hk (ix4 0 0 0 c) = x (ix4 0 h ⟨k, hk⟩ c) :=
  window_at _ _ _ _ _ _ fun a => by
    fin_cases a
    · rfl
    · rfl
    · rfl
    · show c.val = 0 + c.val; omega

theorem vW_at (x : Vec Ideal S4x4096x256 .bf16) (h : Fin 4) (k : ℕ) (hk : k < 8) (j : Fin 512) (c : Fin 256) :
    vW x h k hk (ix3 0 j c) = x (ix3 h ⟨512 * k + j.val, by omega⟩ c) :=
  window_at _ _ _ _ _ _ fun a => by
    fin_cases a
    · rfl
    · rfl
    · show c.val = 0 + c.val; omega

theorem vaug_val (x : Vec Ideal S4096x512 .bf16) (h : Fin 4) (j : Fin 4096) (d : Fin 128) :
    vaug x (ix3 h j ⟨d.val, by omega⟩) = x (ix2 j ⟨128 * h.val + d.val, by omega⟩) := dif_pos d.isLt

theorem vaug_one (x : Vec Ideal S4096x512 .bf16) (h : Fin 4) (j : Fin 4096) (d : Fin 128) :
    vaug x (ix3 h j ⟨128 + d.val, by omega⟩) = 1 := (dif_neg (by show ¬128 + d.val < 128; omega)).trans Ideal.ofBits_one_bf16

variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x8x512 .f32) (harg6 : arg6.IsWhole) (arg7 : Memref sig .tc .vmem S64x4096 .f32) (harg7 : arg7.IsWhole) (arg8 : Memref sig .tc .vmem S32x4096 .f32) (harg8 : arg8.IsWhole) (arg9 : Memref sig .tc .vmem S512x512 .bf16) (harg9 : arg9.IsWhole) (arg10 : Memref sig .tc .vmem S64x4096 .bf16) (harg10 : arg10.IsWhole) (arg11 : Memref sig .tc .vmem S32x4096 .bf16) (harg11 : arg11.IsWhole) (arg12 : Memref sig .tc .vmem S4x4096x256 .bf16) (harg12 : arg12.IsWhole) (arg13 : Memref sig .tc .vmem S4x512x128 .f32) (harg13 : arg13.IsWhole) (arg14 : Memref sig .tc .vmem S4x512x256 .f32) (harg14 : arg14.IsWhole)
variable (x0 : Vec Ideal S512x512 .bf16) (x1 : Vec Ideal S4096x512 .bf16) (x2 : Vec Ideal S4096x512 .bf16) (x3 : Vec Ideal S1x4x8x512 .f32)

/-- The score of a row against key `j` in the kernel's terms. -/
def sc (h : Fin 4) (r : Fin 512) (k : Fin 8) (c : Fin 512) : EReal :=
  (∑ d : Fin 128, x0 (ix2 r ⟨128 * h.val + d.val, by omega⟩) * x1 (ix2 ⟨512 * k.val + c.val, by omega⟩ ⟨128 * h.val + d.val, by omega⟩)) - x3 (ix4 0 h k c)

/-- Column `c` of the values of head `h`, by position. -/
def col (h : Fin 4) (c : Fin 256) (j : ℕ) : EReal := if hj : j < 4096 then vaug x2 (ix3 h ⟨j, hj⟩ c) else 0

theorem sc_eq (h : Fin 4) (r : Fin 512) (k : ℕ) (hk : k < 8) (c : Fin 512) :
    (∑ d : Fin 128, qW x0 h (ix2 r d) * kW x1 h k hk (ix2 c d)) - fW x3 h k hk (ix4 0 0 0 c) = sc x0 x1 x3 h r ⟨k, hk⟩ c :=
  congrArg₂ (· - ·) (Finset.sum_congr rfl fun d _ => congrArg₂ (· * ·) (qW_at x0 h r d) (kW_at x1 h k hk c d)) (fW_at x3 h k hk c)

theorem vW_col (h : Fin 4) (k : ℕ) (hk : k < 8) (j : Fin 512) (c : Fin 256) : vW (vaug x2) h k hk (ix3 0 j c) = col x2 h c (512 * k + j) := by
  unfold col; rw [dif_pos (by omega)]; exact vW_at _ h k hk j c

theorem loop_rows (X12 : BufTy.Contents (Elt Ideal) arg12.view.ty) (hX : arg12.view.read (Elt Ideal) X12 = vaug x2) (h : Fin 4) (r : Fin 512) (T : ℕ → EReal)
    (hT : ∀ j, T j ≠ ⊤) (hb : ∀ k < (i 2).val, T (512 * k) ≠ ⊥) (hs : ∀ (k : Fin 8), k.val < (i 2).val → ∀ c : Fin 512, sc x0 x1 x3 h r k c = T (512 * k.val + c.val)) :
    ∀ n ≤ (i 2).val, RowInv T (col x2 h) (512 * n) (mW (loopM c i arg3 harg3 arg4 harg4 arg5 harg5 arg6 harg6 arg7 harg7 arg8 harg8 arg9 harg9 arg10 harg10 arg11 harg11 arg12 harg12 arg13 harg13 arg14 harg14 x0 x1 x3 X12 n) h) (aW (loopA c i arg3 harg3 arg4 harg4 arg5 harg5 arg6 harg6 arg7 harg7 arg8 harg8 arg9 harg9 arg10 harg10 arg11 harg11 arg12 harg12 arg13 harg13 arg14 harg14 x0 x1 x3 X12 n) h) r := by
  intro n
  induction n with
  | zero =>
    intro _
    refine ⟨⊥, fun l => ?_, fun c => .inl ⟨rfl, ?_, rfl⟩⟩
    · show mW (arg13.view.read (Elt Ideal) (arg13.view.writes (Elt Ideal) arg13.view.junk _)) h (ix3 0 r l) = ⊥
      unfold kernelRun0_B.sl.HS1_1
      rw [View.read_writes_full]
      exact ninf
    · show aW (arg14.view.read (Elt Ideal) (arg14.view.writes (Elt Ideal) arg14.view.junk _)) h (ix3 0 r c) = 0
      unfold kernelRun0_B.sl.HS2_1
      rw [View.read_writes_full]
      exact Ideal.ofBits_zero_f32
  | succ n ih =>
    intro hn
    have ht : n < (k0_t1_loop i).trips := by rw [t1_trips]; omega
    have h8 : n < 8 := by have := i2_lt i; omega
    have e := pb_k0_t1_succ (F := Ideal) Variants.none c none i arg3 harg3 arg4 harg4 arg5 harg5 arg6 harg6 arg7 harg7 arg8 harg8 arg9 harg9 arg10 harg10 arg11 harg11 arg12 harg12 arg13 harg13 arg14 harg14 (harg3.unread x0) (harg4.unread x1) (harg6.unread x3) X12 (start13 arg13) (start14 arg14) ⟨n, ht⟩
    have ih := ih (by omega)
    unfold loopM loopA loopL at ih ⊢
    rw [show n + 1 = (⟨n, ht⟩ : Fin (k0_t1_loop i).trips).val + 1 from rfl, e, View.writes_append, View.writes_append, trip_m _ _ _ _ _ _ _ _ _ _ _ _ _ _ _ _ _ _ _ _ _ _ _ _ _ _ _ _ _ _ _ _ _ _ _ h h8,
      trip_a _ _ _ _ _ _ _ _ _ _ _ _ _ _ _ _ _ _ _ _ _ _ _ _ _ _ _ _ _ _ _ _ _ _ _ h h8, harg3.read_unread, harg4.read_unread, harg6.read_unread, hX]
    refine RowInv.step hT ih (hb n (by omega)) _ _ _ _ (fun c => ?_) fun c x => vW_col x2 h n h8 x c
    rw [score_apply, ← hs ⟨n, h8⟩ (by show n < _; omega) c]
    exact sc_eq x0 x1 x3 h r n h8 c

/-- A row of a point's output: the softmax of its scores over the keys up to its own position, weighting the values. -/
theorem headOut_at (X12 : BufTy.Contents (Elt Ideal) arg12.view.ty) (hX : arg12.view.read (Elt Ideal) X12 = vaug x2) (h : Fin 4) (r : Fin 512) (d : Fin 128)
    (s : ℕ → ℝ) (hs : ∀ (k : Fin 8) (c : Fin 512), sc x0 x1 x3 h r k c = (s (512 * k.val + c.val) : EReal)) (T : ℕ → EReal)
    (hTd : ∀ j, T j = if j ≤ 512 * (i 2).val + r.val then (s j : EReal) else ⊥) (f M' : ℝ) :
    headOut c i arg3 harg3 arg4 harg4 arg5 harg5 arg6 harg6 arg7 harg7 arg8 harg8 arg9 harg9 arg10 harg10 arg11 harg11 arg12 harg12 arg13 harg13 arg14 harg14 x0 x1 x3 X12 h (ix2 r d)
      = ∑ j : Fin 4096, Ideal.div (Ideal.exp ((T j + f) - M')) (0 + ∑ k : Fin 4096, Ideal.exp ((T k + f) - M')) * x2 (ix2 j ⟨128 * h.val + d.val, by omega⟩) := by
  have h8 := i2_lt i
  have hT : ∀ j, T j ≠ ⊤ := fun j => by rw [hTd]; split_ifs; exacts [EReal.coe_ne_top _, bot_ne_top]
  have hb : ∀ j ≤ 512 * (i 2).val + r.val, T j ≠ ⊥ := fun j hj => by rw [hTd, if_pos hj]; exact EReal.coe_ne_bot _
  have hL := loop_rows c i arg3 harg3 arg4 harg4 arg5 harg5 arg6 harg6 arg7 harg7 arg8 harg8 arg9 harg9 arg10 harg10 arg11 harg11 arg12 harg12 arg13 harg13 arg14 harg14 x0 x1 x2 x3 X12 hX h r T hT (fun k hk => hb _ (by omega))
    (fun k hk c => by rw [hs, hTd, if_pos (by omega)]) _ le_rfl
  have hD := hL.dstep hT (hb _ (by omega)) kernelRun0_B.sl.v24 kernelRun0_B.sl.v25 (qW x0 h) (kW x1 h (i 2).val h8) (fW x3 h (i 2).val h8) (vW (vaug x2) h (i 2).val h8)
    (fun c => by
      rw [dscore_apply, hTd]
      by_cases hc : c.val ≤ r.val
      · rw [if_pos hc, if_pos (by omega), ← hs ⟨(i 2).val, h8⟩ c]
        exact sc_eq x0 x1 x3 h r _ h8 c
      · rw [if_neg hc, if_neg (by omega)])
    (fun c x => vW_col x2 h _ h8 x c)
  obtain ⟨μ, -, hA⟩ := hD
  unfold headOut
  rw [o_apply, hX]
  refine (quotient (N := 4096) hT (by omega) (fun j hj => by rw [hTd, if_neg (by omega)]) 0 (by omega) (hb 0 (by omega)) (hA ⟨d.val, by omega⟩) (?_) f M').trans ?_
  · exact (hA ⟨128 + d.val, by omega⟩).congr fun j hj => (dif_pos (by omega)).trans (vaug_one x2 h ⟨j, by omega⟩ d)
  · refine Finset.sum_congr rfl fun j _ => ?_
    congr 1
    exact (dif_pos j.isLt).trans (vaug_val x2 h j d)

end Cert.Proof.Fox
-- ==== Proof.Att.lean ====
/-
  The attention by position: the score of a query against a key with the gates between them, its softmax over the keys up
  to the query, and the values weighted by it; and what the finiteness of the inputs says of their entries.
-/
module

public import proofs.«01_k».proof.Pre_finite_scores
public import proofs.«01_k».proof.Proof.Softmax
public import Idealize.ShloMosaic.Lib.Pointwise
public import Idealize.ShloMosaic.Lib.IdealHost

@[expose] public section

set_option maxRecDepth 16384

noncomputable section

open Idealize.ShloMosaic

namespace Cert.Proof.Fox

/-- The scale of the queries. -/
def scale : EReal := Ideal.ofBits .f32 0x3DB504F3#32

abbrev QKV : Type := Vec Ideal ⟨3, ![2, 4096, 12288]⟩ .f32
abbrev Gates : Type := Vec Ideal ⟨3, ![2, 32, 4096]⟩ .f32

/-- Query `i` against key `j` in head `h` of sequence `b`: no weight (`⊥`) past the query. -/
def score (Q : QKV) (G : Gates) (b : Fin 2) (h : Fin 32) (i j : Fin 4096) : EReal :=
  if j.val ≤ i.val then
    (∑ d : Fin 128, Q (ix3 b i ⟨h.val * 128 + d.val, by omega⟩) * Q (ix3 b j ⟨4096 + (h.val * 128 + d.val), by omega⟩)) * scale
      + G (ix3 b h i) - G (ix3 b h j)
  else ⊥

/-- A query's largest score. -/
def top (Q : QKV) (G : Gates) (b : Fin 2) (h : Fin 32) (i : Fin 4096) : EReal :=
  max ⊥ (Finset.univ.fold max ⊥ fun j : Fin 4096 => score Q G b h i j)

/-- A query's output in column `d` of its head. -/
def att (Q : QKV) (G : Gates) (b : Fin 2) (h : Fin 32) (i : Fin 4096) (d : Fin 128) : EReal :=
  ∑ j : Fin 4096, Ideal.div (Ideal.exp (score Q G b h i j - top Q G b h i)) (∑ k : Fin 4096, Ideal.exp (score Q G b h i k - top Q G b h i))
    * Q (ix3 b j ⟨8192 + (h.val * 128 + d.val), by omega⟩)

/-- The queries and the keys are real numbers, and so are the gates. -/
structure Finite (Q : QKV) (G : Gates) : Prop where
  q : ∀ (b : Fin 2) (i : Fin 4096) (j : Fin 8192), ∃ x : ℝ, Q (ix3 b i ⟨j.val, by omega⟩) = x
  g : ∀ (b : Fin 2) (h : Fin 32) (i : Fin 4096), ∃ x : ℝ, G (ix3 b h i) = x

theorem scale_real : ∃ x : ℝ, scale = x := by
  unfold scale
  simp only [Ideal.ofBits, Ideal.ieee]
  rw [if_neg (by decide), if_neg (by decide)]
  exact ⟨_, rfl⟩

theorem inf : Ideal.ofBits .f32 0x7F800000#32 = ⊤ := by simp [Ideal.ofBits, Ideal.ieee]

theorem real_of_abs {x : EReal} (h : FloatOps.absf (F := Ideal) (φ := .f32) x < ⊤) : ∃ y : ℝ, x = y := by
  induction x using EReal.rec with
  | bot => exact absurd h (by decide)
  | top => exact absurd h (by decide)
  | coe y => exact ⟨y, rfl⟩

theorem finite_of_pre [Cert.Pre_finite_scores.Facts] (Q : QKV) (G : Gates) (a2 : Vec Ideal ⟨2, ![8192, 4096]⟩ .f32) (a3 : Vec Ideal ⟨2, ![4096, 4096]⟩ .f32)
    (hp : ∀ x, Cert.Pre_finite_scores.fn (F := Ideal) Q G a2 a3 x = 1#1) : Finite Q G := by
  have H : ∀ (b : Fin 2) (i : Fin 4096) (p : Fin 2) (h : Fin 32) (d : Fin 128),
      (∃ x : ℝ, Q (ix3 b i ⟨p.val * 4096 + h.val * 128 + d.val, by omega⟩) = x) ∧ ∃ x : ℝ, G (ix3 b h i) = x := fun b i p h d => by
    have := hp (ix5 b i p h d)
    unfold Cert.Pre_finite_scores.fn at this
    dsimp only at this
    revert this
    pointwise
    rw [inf]
    intro e
    by_cases h1 : FloatOps.absf (F := Ideal) (φ := .f32) (Q (ix3 b i ⟨p.val * 4096 + h.val * 128 + d.val, by omega⟩)) < (⊤ : EReal)
    · by_cases h2 : FloatOps.absf (F := Ideal) (φ := .f32) (G (ix3 b h i)) < (⊤ : EReal)
      · exact ⟨real_of_abs h1, real_of_abs h2⟩
      · rw [decide_eq_true h1, decide_eq_false h2] at e; exact absurd e (by decide)
    · rw [decide_eq_false h1] at e
      cases hd : decide (FloatOps.absf (F := Ideal) (φ := .f32) (G (ix3 b h i)) < (⊤ : EReal)) <;> (rw [hd] at e; exact absurd e (by decide))
  refine ⟨fun b i j => ?_, fun b h i => (H b i 0 h 0).2⟩
  have := (H b i ⟨j.val / 4096, by omega⟩ ⟨j.val % 4096 / 128, by omega⟩ ⟨j.val % 128, by omega⟩).1
  rwa [show (⟨j.val / 4096 * 4096 + j.val % 4096 / 128 * 128 + j.val % 128, by omega⟩ : Fin 12288) = ⟨j.val, by omega⟩ from
    Fin.ext (by dsimp only; omega)] at this

end Cert.Proof.Fox
-- ==== Proof.Host.lean ====
/-
  The blocks of the inputs by position: a point's blocks of the scaled queries, the keys, the values and the cumulative
  gates, read off the arguments.
-/
module

public import proofs.«01_k».proof.Proof.Gen.KernelIdeal.Value
public import proofs.«01_k».proof.Proof.Att
public import Idealize.ShloMosaic.Lib.Pipeline.ValueKit
public import Idealize.ShloMosaic.Lib.Pointwise
public import Idealize.ShloMosaic.Lib.IdealHost

@[expose] public section

set_option maxRecDepth 16384

noncomputable section

open Cert.KernelIdeal Cert.KernelIdeal.Gen Idealize.ShloMosaic Idealize.ShloMosaic.TcCoe Idealize.SL.Sem

namespace Cert.Proof.Fox

variable (m : (ℓ : Loc nD τ sig) → Buf (Elt Ideal) ℓ)

/-- The queries, keys and values side by side, and the cumulative gates, as launched. -/
def qkv (c : Dev nD) : Vec Ideal S2x4096x12288 .f32 := m ((c : Thread nD τ).loc main_arg0)
def gate (c : Dev nD) : Vec Ideal S2x32x4096 .f32 := m ((c : Thread nD τ).loc main_arg1)

theorem v7_at (c : Dev nD) (i : Fin 8192) (j : Fin 12288) :
    (V m c main_v7 : Vec Ideal S8192x12288 .bf16) (ix2 i j) = qkv m c (ix3 ⟨i.val / 4096, by omega⟩ ⟨i.val % 4096, by omega⟩ j) * (if j.val < 4096 then scale else 1) := by
  simp only [V, hostOps0, hostOps0_1, hostOps0_2, List.flatten_cons, List.flatten_nil, List.append_nil, List.cons_append, List.nil_append]
  entry_read
  pointwise
  refine congrArg (fun z : EReal => qkv m c _ * z) ?_
  show select (cmpi .slt (iotaInDim S8192x12288 32 1) (broadcastInDim S8192x12288 ![] bcast_S_S8192x12288 (constantI S_ 32 4096#32)))
    (broadcastInDim S8192x12288 ![] bcast_S_S8192x12288 (constant (F := Ideal) S_ .f32 0x3DB504F3#32))
    (broadcastInDim S8192x12288 ![] bcast_S_S8192x12288 (constant (F := Ideal) S_ .f32 0x3F800000#32)) (ix2 i j) = _
  pointwise
  by_cases h : j.val < 4096
  · rw [if_pos h, (WordCmp.cmpi_slt_ofNat_eq_one_iff (w := 32) (b := 4096) (by omega) (by omega)).2 h]; rfl
  · rw [if_neg h, (WordCmp.cmpi_slt_ofNat_eq_zero_iff (w := 32) (b := 4096) (by omega) (by omega)).2 h]; rfl

theorem v8_at (c : Dev nD) (g : Fin 16) (h : Fin 4) (k : Fin 8) (j : Fin 512) :
    (V m c main_v8 : Vec Ideal S16x4x8x512 .f32) (ix4 g h k j)
      = gate m c (ix3 ⟨g.val / 8, by omega⟩ ⟨4 * (g.val % 8) + h.val, by omega⟩ ⟨512 * k.val + j.val, by omega⟩) := by
  simp only [V, hostOps0, hostOps0_1, hostOps0_2, List.flatten_cons, List.flatten_nil, List.append_nil, List.cons_append, List.nil_append]
  entry_read
  pointwise
  refine congrArg (gate m c) (congrArg₂ (ix3 _) ?_ ?_) <;> ext <;> dsimp only <;> omega

theorem idx0 : ∀ t : Fin cfg0.N, win0_0.index t = ![8 * (t.val / 64) + t.val % 8, t.val / 8 % 8] :=
  (by decide +kernel : ∀ t : Fin grid0.N, _)
theorem idx1 : ∀ t : Fin cfg0.N, win0_1.index t = ![t.val / 64, 8 + t.val / 8 % 8] :=
  (by decide +kernel : ∀ t : Fin grid0.N, _)
theorem idx2 : ∀ t : Fin cfg0.N, win0_2.index t = ![t.val / 64, 16 + t.val / 8 % 8] :=
  (by decide +kernel : ∀ t : Fin grid0.N, _)
theorem idx3 : ∀ t : Fin cfg0.N, win0_3.index t = ![t.val / 8, 0, 0, 0] :=
  (by decide +kernel : ∀ t : Fin grid0.N, _)
theorem idx4 : ∀ t : Fin cfg0.N, win0_4.index t = ![t.val, 0] :=
  (by decide +kernel : ∀ t : Fin grid0.N, _)
theorem idx5 : ∀ t : Fin cfg0.N, win0_5.index t = ![t.val, 0] :=
  (by decide +kernel : ∀ t : Fin grid0.N, _)
theorem idx6 : ∀ t : Fin cfg0.N, win0_6.index t = ![8 * (t.val / 64) + t.val % 8, t.val / 8 % 8] :=
  (by decide +kernel : ∀ t : Fin grid0.N, _)
theorem idx7 : ∀ t : Fin cfg0.N, win0_7.index t = ![t.val, 0] :=
  (by decide +kernel : ∀ t : Fin grid0.N, _)
theorem idx8 : ∀ t : Fin cfg0.N, win0_8.index t = ![t.val, 0] :=
  (by decide +kernel : ∀ t : Fin grid0.N, _)
theorem coord2 : ∀ t : Fin cfg0.N, (grid0.coords t 2).val = t.val % 8 :=
  (by decide +kernel : ∀ t : Fin grid0.N, _)

theorem lt_N (t : Fin cfg0.N) : t.val < 128 := lt_of_lt_of_eq t.isLt (show cfg0.N = 128 from N_0)

theorem q_at (c : Dev nD) (t : Fin cfg0.N) (r : Fin 512) (d : Fin 512) :
    iblk m c 0 t (ix2 r d)
      = qkv m c (ix3 ⟨t.val / 64, by have := lt_N t; omega⟩ ⟨512 * (t.val % 8) + r.val, by omega⟩ ⟨512 * (t.val / 8 % 8) + d.val, by omega⟩) * scale := by
  have := lt_N t
  have e : iblk m c 0 t (ix2 r d) = (V m c main_v7 : Vec Ideal S8192x12288 .bf16)
      (ix2 ⟨512 * (8 * (t.val / 64) + t.val % 8) + r.val, by omega⟩ ⟨512 * (t.val / 8 % 8) + d.val, by omega⟩) := by
    blk_simp [iblk]
    blk_ext [idx0 t]
  rw [e, v7_at, if_pos (by dsimp only; omega)]
  refine congrArg (qkv m c · * scale) (congrArg₂ (ix3 · · _) ?_ ?_) <;> ext <;> dsimp only <;> omega

theorem k_at (c : Dev nD) (t : Fin cfg0.N) (r : Fin 4096) (d : Fin 512) :
    iblk m c 1 t (ix2 r d) = qkv m c (ix3 ⟨t.val / 64, by have := lt_N t; omega⟩ r ⟨4096 + 512 * (t.val / 8 % 8) + d.val, by omega⟩) := by
  have := lt_N t
  have e : iblk m c 1 t (ix2 r d) = (V m c main_v7 : Vec Ideal S8192x12288 .bf16)
      (ix2 ⟨4096 * (t.val / 64) + r.val, by omega⟩ ⟨512 * (8 + t.val / 8 % 8) + d.val, by omega⟩) := by
    blk_simp [iblk]
    blk_ext [idx1 t]
  rw [e, v7_at, if_neg (by dsimp only; omega), mul_one]
  refine congrArg (qkv m c) (congr (congrArg₂ ix3 ?_ ?_) ?_) <;> ext <;> dsimp only <;> omega

theorem v_at (c : Dev nD) (t : Fin cfg0.N) (r : Fin 4096) (d : Fin 512) :
    iblk m c 2 t (ix2 r d) = qkv m c (ix3 ⟨t.val / 64, by have := lt_N t; omega⟩ r ⟨8192 + 512 * (t.val / 8 % 8) + d.val, by omega⟩) := by
  have := lt_N t
  have e : iblk m c 2 t (ix2 r d) = (V m c main_v7 : Vec Ideal S8192x12288 .bf16)
      (ix2 ⟨4096 * (t.val / 64) + r.val, by omega⟩ ⟨512 * (16 + t.val / 8 % 8) + d.val, by omega⟩) := by
    blk_simp [iblk]
    blk_ext [idx2 t]
  rw [e, v7_at, if_neg (by dsimp only; omega), mul_one]
  refine congrArg (qkv m c) (congr (congrArg₂ ix3 ?_ ?_) ?_) <;> ext <;> dsimp only <;> omega

theorem f_at (c : Dev nD) (t : Fin cfg0.N) (h : Fin 4) (k : Fin 8) (j : Fin 512) :
    iblk m c 3 t (ix4 0 h k j) = gate m c (ix3 ⟨t.val / 64, by have := lt_N t; omega⟩ ⟨4 * (t.val / 8 % 8) + h.val, by omega⟩ ⟨512 * k.val + j.val, by omega⟩) := by
  have := lt_N t
  have e : iblk m c 3 t (ix4 0 h k j) = (V m c main_v8 : Vec Ideal S16x4x8x512 .f32) (ix4 ⟨t.val / 8, by omega⟩ h k j) := by
    blk_simp [iblk]
    blk_ext [idx3 t]
  rw [e, v8_at]
  refine congrArg (gate m c) (congrArg (ix3 · _ _) ?_) <;> ext <;> dsimp only <;> omega

/-- The values stay in place over the points of a group of heads. -/
theorem v_prev (c : Dev nD) (t t' : Fin cfg0.N) (h : t.val / 8 = t'.val / 8) : iblk m c 2 t = iblk m c 2 t' := by
  have h64 : t.val / 64 = t'.val / 64 := by omega
  funext y
  obtain ⟨r, d, rfl⟩ : ∃ (r : Fin 4096) (d : Fin 512), y = ix2 r d := ⟨y 0, y 1, eq_ix2 y⟩
  refine (v_at m c t r d).trans (.trans ?_ (v_at m c t' r d).symm)
  refine congrArg (qkv m c) (congr (congrArg₂ ix3 ?_ rfl) ?_) <;> ext <;> dsimp only <;> omega

end Cert.Proof.Fox
-- ==== Proof.Arrays.lean ====
/-
  The output of the attention after the run: every block of every point, with the values its group's first point laid out.
-/
module

public import proofs.«01_k».proof.Proof.Rows
public import proofs.«01_k».proof.Proof.Host

@[expose] public section

set_option maxRecDepth 16384

noncomputable section

open Cert.KernelIdeal Cert.KernelIdeal.Gen Idealize.ShloMosaic Idealize.ShloMosaic.TcCoe Idealize.SL.Sem

namespace Cert.Proof.Fox

variable (m : (ℓ : Loc nD τ sig) → Buf (Elt Ideal) ℓ)

theorem vaug_A (c : Dev nD) (t : Fin cfg0.N) (h0 : t.val % 8 = 0) : (outsAt0 m c t.val t.isLt).2.2.2 = vaug (iblk m c 2 t) :=
  by rw [outsAt0_A m c t h0]; dsimp only; exact sout_A ..

theorem vaug_B (c : Dev nD) (t : Fin cfg0.N) (h0 : ¬t.val % 8 = 0) :
    (outsAt0 m c t.val t.isLt).2.2.2 = (outsAt0 m c (t.val - 1) (Nat.lt_of_le_of_lt (Nat.sub_le _ _) t.isLt)).2.2.2 :=
  by rw [outsAt0_B m c t h0]; dsimp only; exact sout_B ..

/-- What a point leaves in the values' scratch: its group's values with a column of ones beside each head. -/
theorem vaug_out (c : Dev nD) (n : ℕ) : ∀ t : Fin cfg0.N, t.val = n → (outsAt0 m c t.val t.isLt).2.2.2 = vaug (iblk m c 2 t) := by
  induction n with
  | zero => exact fun t ht => vaug_A m c t (by rw [ht])
  | succ n ih =>
    intro t ht
    by_cases h0 : t.val % 8 = 0
    · exact vaug_A m c t h0
    · rw [vaug_B m c t h0]
      refine (ih ⟨t.val - 1, by omega⟩ (by show t.val - 1 = n; omega)).trans (congrArg vaug (v_prev m c _ _ ?_))
      show (t.val - 1) / 8 = t.val / 8
      omega

/-- A row of a head in a point's block. -/
theorem out_at (c : Dev nD) (t : Fin cfg0.N) (h : Fin 4) (r : Fin 512) (d : Fin 128)
    (s : ℕ → ℝ) (hs : ∀ (k : Fin 8) (j : Fin 512), sc (iblk m c 0 t) (iblk m c 1 t) (iblk m c 3 t) h r k j = (s (512 * k.val + j.val) : EReal)) (T : ℕ → EReal)
    (hTd : ∀ j, T j = if j ≤ 512 * (t.val % 8) + r.val then (s j : EReal) else ⊥) (f M' : ℝ) :
    (outsAt0 m c t.val t.isLt).1 (ix2 r ⟨128 * h.val + d.val, by omega⟩)
      = ∑ j : Fin 4096, Ideal.div (Ideal.exp ((T j + f) - M')) (0 + ∑ k : Fin 4096, Ideal.exp ((T k + f) - M')) * iblk m c 2 t (ix2 j ⟨128 * h.val + d.val, by omega⟩) := by
  rw [← coord2 t] at hTd
  refine (qW_at _ h r d).symm.trans ?_
  by_cases h0 : t.val % 8 = 0
  · rw [outsAt0_A m c t h0]
    dsimp only
    rw [out_A]
    refine headOut_at _ _ _ _ _ _ _ _ _ _ _ _ _ _ _ _ _ _ _ _ _ _ _ _ _ _ _ _ _ _ _ ?_ h r d s hs T hTd f M'
    exact fill_read _ c _ _ _
  · rw [outsAt0_B m c t h0]
    dsimp only
    rw [out_B]
    refine headOut_at _ _ _ _ _ _ _ _ _ _ _ _ _ _ _ _ _ _ _ _ _ _ _ _ _ _ _ _ _ _ _ ?_ h r d s hs T hTd f M'
    rw [Memref.IsWhole.read_unread]
    refine (vaug_out m c _ ⟨t.val - 1, by omega⟩ rfl).trans ?_
    exact congrArg vaug (v_prev m c _ _ (by show (t.val - 1) / 8 = t.val / 8; omega))

end Cert.Proof.Fox
-- ==== Proof.Casts.lean ====
/-
  The two results that the kernel only rounds: each block is the rounded block of the argument.
-/
module

public import proofs.«01_k».proof.Proof.Out

@[expose] public section

set_option maxRecDepth 16384

noncomputable section

open Cert.KernelIdeal Cert.KernelIdeal.Gen Idealize.ShloMosaic Idealize.ShloMosaic.TcCoe Idealize.SL.Sem

namespace Cert.Proof.Fox

variable {F : FTy → Type} [FloatOps F]

/-- The window that is the whole array. -/
theorem window_all {α : Type} {n k : ℕ} (x : (⟨2, ![n, k]⟩ : Shape).Idx → α) (inb) : VecWindow.window x ![0, 0] ![n, k] inb = x := by
  funext y
  refine window_at _ _ _ _ _ _ fun a => ?_
  fin_cases a <;> exact (Nat.zero_add _).symm

variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x8x512 .f32) (harg6 : arg6.IsWhole) (arg7 : Memref sig .tc .vmem S64x4096 .f32) (harg7 : arg7.IsWhole) (arg8 : Memref sig .tc .vmem S32x4096 .f32) (harg8 : arg8.IsWhole) (arg9 : Memref sig .tc .vmem S512x512 .bf16) (harg9 : arg9.IsWhole) (arg10 : Memref sig .tc .vmem S64x4096 .bf16) (harg10 : arg10.IsWhole) (arg11 : Memref sig .tc .vmem S32x4096 .bf16) (harg11 : arg11.IsWhole) (arg12 : Memref sig .tc .vmem S4x4096x256 .bf16) (harg12 : arg12.IsWhole) (arg13 : Memref sig .tc .vmem S4x512x128 .f32) (harg13 : arg13.IsWhole) (arg14 : Memref sig .tc .vmem S4x512x256 .f32) (harg14 : arg14.IsWhole)
  (x0 : Vec F S512x512 .bf16) (x1 : Vec F S4096x512 .bf16) (x2 : Vec F S4096x512 .bf16) (x3 : Vec F S1x4x8x512 .f32) (x4 : Vec F S64x4096 .f32) (x5 : Vec F S32x4096 .f32)

theorem out_A_7 (hc0) : out0_A_7 c i arg3 harg3 arg4 harg4 arg5 harg5 arg6 harg6 arg7 harg7 arg8 harg8 arg9 harg9 arg10 harg10 arg11 harg11 arg12 harg12 arg13 harg13 arg14 harg14 hc0 x0 x1 x2 x3 x4 x5
    = truncf .bf16 x4 bitsLt_bf16_f32 := by
  unfold out0_A_7 kernelRun0_A
  dsimp only
  unfold kernelRun0_A.sl.H7_1
  rw [View.read_writes_full, View.readAt_unit _ _ _ rfl (by decide)]
  exact congrArg (truncf .bf16 · bitsLt_bf16_f32) (by rw [Memref.IsWhole.read_unread]; exact window_all _ _)

theorem out_B_7 (hc0) (xs0 : Vec F S4x4096x256 .bf16) : out0_B_7 c i arg3 harg3 arg4 harg4 arg5 harg5 arg6 harg6 arg7 harg7 arg8 harg8 arg9 harg9 arg10 harg10 arg11 harg11 arg12 harg12 arg13 harg13 arg14 harg14 hc0 x0 x1 x2 x3 x4 x5 xs0
    = truncf .bf16 x4 bitsLt_bf16_f32 := by
  unfold out0_B_7 kernelRun0_B
  dsimp only
  unfold kernelRun0_B.sl.H7_1
  rw [View.read_writes_full, View.readAt_unit _ _ _ rfl (by decide)]
  exact congrArg (truncf .bf16 · bitsLt_bf16_f32) (by rw [Memref.IsWhole.read_unread]; exact window_all _ _)

theorem out_A_8 (hc0) : out0_A_8 c i arg3 harg3 arg4 harg4 arg5 harg5 arg6 harg6 arg7 harg7 arg8 harg8 arg9 harg9 arg10 harg10 arg11 harg11 arg12 harg12 arg13 harg13 arg14 harg14 hc0 x0 x1 x2 x3 x4 x5
    = truncf .bf16 x5 bitsLt_bf16_f32 := by
  unfold out0_A_8 kernelRun0_A
  dsimp only
  unfold kernelRun0_A.sl.H8_1
  rw [View.read_writes_full, View.readAt_unit _ _ _ rfl (by decide)]
  exact congrArg (truncf .bf16 · bitsLt_bf16_f32) (by rw [Memref.IsWhole.read_unread]; exact window_all _ _)

theorem out_B_8 (hc0) (xs0 : Vec F S4x4096x256 .bf16) : out0_B_8 c i arg3 harg3 arg4 harg4 arg5 harg5 arg6 harg6 arg7 harg7 arg8 harg8 arg9 harg9 arg10 harg10 arg11 harg11 arg12 harg12 arg13 harg13 arg14 harg14 hc0 x0 x1 x2 x3 x4 x5 xs0
    = truncf .bf16 x5 bitsLt_bf16_f32 := by
  unfold out0_B_8 kernelRun0_B
  dsimp only
  unfold kernelRun0_B.sl.H8_1
  rw [View.read_writes_full, View.readAt_unit _ _ _ rfl (by decide)]
  exact congrArg (truncf .bf16 · bitsLt_bf16_f32) (by rw [Memref.IsWhole.read_unread]; exact window_all _ _)

end Cert.Proof.Fox
-- ==== Proof.Final.lean ====
/-
  The array of the attention's output after the run is the attention of the arguments.
-/
module

public import proofs.«01_k».proof.Proof.Arrays
public import proofs.«01_k».proof.Proof.Casts

@[expose] public section

set_option maxRecDepth 16384

noncomputable section

open Cert.KernelIdeal Cert.KernelIdeal.Gen Idealize.ShloMosaic Idealize.ShloMosaic.TcCoe Idealize.SL.Sem

namespace Cert.Proof.Fox

variable (m : (ℓ : Loc nD τ sig) → Buf (Elt Ideal) ℓ)

theorem top_real {Q : QKV} {G : Gates} {b : Fin 2} {h : Fin 32} {i : Fin 4096} (hT : ∀ j, score Q G b h i j ≠ ⊤) (hB : score Q G b h i i ≠ ⊥) :
    ∃ M : ℝ, top Q G b h i = M := by
  unfold top
  rw [max_eq_right bot_le]
  exact ⟨_, (EReal.coe_toReal (fold_max_ne _ _ hT) (fold_max_ne_bot _ _ i (Finset.mem_univ _) hB)).symm⟩

theorem point (c : Dev nD) (hf : Finite (qkv m c) (gate m c)) (t : Fin cfg0.N) (h : Fin 4) (r : Fin 512) (d : Fin 128) :
    (outsAt0 m c t.val t.isLt).1 (ix2 r ⟨128 * h.val + d.val, by omega⟩)
      = att (qkv m c) (gate m c) ⟨t.val / 64, by have := lt_N t; omega⟩ ⟨4 * (t.val / 8 % 8) + h.val, by omega⟩ ⟨512 * (t.val % 8) + r.val, by omega⟩ d := by
  have hN := lt_N t
  obtain ⟨a, ha⟩ := scale_real
  choose qr hq using hf.q
  choose gr hg using hf.g
  generalize hb : (⟨t.val / 64, by omega⟩ : Fin 2) = b
  generalize hH : (⟨4 * (t.val / 8 % 8) + h.val, by omega⟩ : Fin 32) = H
  generalize hI : (⟨512 * (t.val % 8) + r.val, by omega⟩ : Fin 4096) = I
  have hH' : H.val = 4 * (t.val / 8 % 8) + h.val := by rw [← hH]
  have hI' : I.val = 512 * (t.val % 8) + r.val := by rw [← hI]
  let s : ℕ → ℝ := fun j => if hj : j < 4096 then
    (∑ d : Fin 128, (qr b I ⟨H.val * 128 + d.val, by omega⟩ * a) * qr b ⟨j, hj⟩ ⟨4096 + (H.val * 128 + d.val), by omega⟩) - gr b H ⟨j, hj⟩ else 0
  have hs : ∀ (k : Fin 8) (j : Fin 512), sc (iblk m c 0 t) (iblk m c 1 t) (iblk m c 3 t) h r k j = (s (512 * k.val + j.val) : EReal) := fun k j => by
    have e : s (512 * k.val + j.val) = (∑ d : Fin 128, (qr b I ⟨H.val * 128 + d.val, by omega⟩ * a)
        * qr b ⟨512 * k.val + j.val, by omega⟩ ⟨4096 + (H.val * 128 + d.val), by omega⟩) - gr b H ⟨512 * k.val + j.val, by omega⟩ := dif_pos (by omega)
    rw [e, EReal.coe_sub, coe_sum]
    refine congrArg₂ (· - ·) (Finset.sum_congr rfl fun d _ => ?_) ?_
    · rw [EReal.coe_mul, EReal.coe_mul]
      refine congrArg₂ (· * ·) ?_ ?_
      · rw [q_at, ha, ← hq, hb, hI]
        refine congrArg (qkv m c · * (a : EReal)) (congrArg (ix3 _ _) (Fin.ext ?_))
        dsimp only; omega
      · rw [k_at, ← hq, hb]
        refine congrArg (qkv m c) (congrArg (ix3 _ _) (Fin.ext ?_))
        dsimp only; omega
    · rw [f_at, ← hg, hb, hH]
  let T : ℕ → EReal := fun j => if j ≤ 512 * (t.val % 8) + r.val then (s j : EReal) else ⊥
  have hsc : ∀ j : Fin 4096, score (qkv m c) (gate m c) b H I j = T j + (gr b H I : EReal) := fun j => by
    unfold score
    by_cases hj : j.val ≤ I.val
    · have e : T j.val = (s j.val : EReal) := if_pos (by omega)
      have e' : s j.val = (∑ d : Fin 128, (qr b I ⟨H.val * 128 + d.val, by omega⟩ * a)
        * qr b j ⟨4096 + (H.val * 128 + d.val), by omega⟩) - gr b H j := dif_pos j.isLt
      rw [if_pos hj, e, e', hg, hg, ha]
      have e2 : ∀ d : Fin 128, qkv m c (ix3 b I ⟨H.val * 128 + d.val, by omega⟩) * qkv m c (ix3 b j ⟨4096 + (H.val * 128 + d.val), by omega⟩)
          = ((qr b I ⟨H.val * 128 + d.val, by omega⟩ * qr b j ⟨4096 + (H.val * 128 + d.val), by omega⟩ : ℝ) : EReal) := fun d => by
        rw [EReal.coe_mul, ← hq, ← hq]
      rw [Finset.sum_congr rfl fun d _ => e2 d, ← coe_sum, ← EReal.coe_mul, ← EReal.coe_add, ← EReal.coe_sub, ← EReal.coe_add, Finset.sum_mul]
      congr 1
      rw [Finset.sum_congr rfl fun d _ => mul_right_comm _ _ _]
      ring
    · rw [if_neg hj]
      have e : T j.val = ⊥ := if_neg (by omega)
      rw [e, EReal.bot_add]
  have hreal : ∀ j : Fin 4096, j.val ≤ I.val → ∃ x : ℝ, score (qkv m c) (gate m c) b H I j = x := fun j hj => by
    rw [hsc]
    have e : T j.val = (s j.val : EReal) := if_pos (by omega)
    exact ⟨_, by rw [e, ← EReal.coe_add]⟩
  obtain ⟨M, hM⟩ := top_real (Q := qkv m c) (G := gate m c) (b := b) (h := H) (i := I)
    (fun j => by
      by_cases hj : j.val ≤ I.val
      · obtain ⟨x, hx⟩ := hreal j hj; rw [hx]; exact EReal.coe_ne_top x
      · unfold score; rw [if_neg hj]; exact bot_ne_top)
    (by obtain ⟨x, hx⟩ := hreal I le_rfl; rw [hx]; exact EReal.coe_ne_bot x)
  rw [out_at m c t h r d s hs T (fun _ => rfl) (gr b H I) M]
  unfold att
  refine Finset.sum_congr rfl fun j _ => congrArg₂ (· * ·) ?_ ?_
  · simp only [hM, zero_add, hsc]
  · rw [v_at, hb]
    refine congrArg (qkv m c) (congrArg (ix3 _ _) (Fin.ext ?_))
    dsimp only; omega

theorem arr6 (c : Dev nD) (hf : Finite (qkv m c) (gate m c)) : (dats m 0 c).arrAt 6 cfg0.N = fun y : S8192x4096.Idx =>
    att (qkv m c) (gate m c) ⟨(y 0).val / 4096, by have : (y 0).val < 8192 := (y 0).isLt; omega⟩ ⟨(y 1).val / 128, by have : (y 1).val < 4096 := (y 1).isLt; omega⟩
      ⟨(y 0).val % 4096, by omega⟩ ⟨(y 1).val % 128, by omega⟩ := by
  refine (dats m 0 c).arrAt_eq_of_covers 6 _ (by decide +kernel) fun t _ y => ?_
  obtain ⟨r, x, rfl⟩ : ∃ (r x : Fin 512), y = ix2 r x := ⟨y 0, y 1, eq_ix2 y⟩
  blk_simp
  rw [after0_6]
  dsimp only
  have e0 : win0_6.index t 0 = 8 * (t.val / 64) + t.val % 8 := congrFun (idx6 t) 0
  have e1 : win0_6.index t 1 = t.val / 8 % 8 := congrFun (idx6 t) 1
  have hN := lt_N t
  have ex : x = ⟨128 * (⟨x.val / 128, by omega⟩ : Fin 4).val + (⟨x.val % 128, by omega⟩ : Fin 128).val, by dsimp only; omega⟩ := Fin.ext (by dsimp only; omega)
  have key := point m c hf t ⟨x.val / 128, by omega⟩ r ⟨x.val % 128, by omega⟩
  rw [← ex] at key
  refine key.trans ?_
  have congr4 : ∀ {b b' : Fin 2} {h h' : Fin 32} {i i' : Fin 4096} {d d' : Fin 128}, b = b' → h = h' → i = i' → d = d' →
      att (qkv m c) (gate m c) b h i d = att (qkv m c) (gate m c) b' h' i' d' := fun e1 e2 e3 e4 => by rw [e1, e2, e3, e4]
  refine congr4 (Fin.ext ?_) (Fin.ext ?_) (Fin.ext ?_) (Fin.ext ?_) <;> dsimp only <;> first | rw [e0] | rw [e1]
  all_goals omega

theorem arr7 (c : Dev nD) : (dats m 0 c).arrAt 7 cfg0.N = (m ((c : Thread nD τ).loc main_arg2) : Vec Ideal S8192x4096 .f32) := by
  refine (dats m 0 c).arrAt_eq_of_covers 7 _ (by decide +kernel) fun t _ y => ?_
  blk_simp
  rw [after0_7]
  dsimp only
  have e : (outsAt0 m c t.val t.isLt).2.1 = (iblk m c 4 t : Vec Ideal _ .f32) := by
    by_cases h0 : t.val % 8 = 0
    · rw [outsAt0_A m c t h0]; dsimp only; exact out_A_7 ..
    · rw [outsAt0_B m c t h0]; dsimp only; exact out_B_7 ..
  refine (congrFun e y).trans ?_
  blk_simp [iblk]
  blk_ext [idx4 t, idx7 t]

theorem arr8 (c : Dev nD) : (dats m 0 c).arrAt 8 cfg0.N = (m ((c : Thread nD τ).loc main_arg3) : Vec Ideal S4096x4096 .f32) := by
  refine (dats m 0 c).arrAt_eq_of_covers 8 _ (by decide +kernel) fun t _ y => ?_
  blk_simp
  rw [after0_8]
  dsimp only
  have e : (outsAt0 m c t.val t.isLt).2.2.1 = (iblk m c 5 t : Vec Ideal _ .f32) := by
    by_cases h0 : t.val % 8 = 0
    · rw [outsAt0_A m c t h0]; dsimp only; exact out_A_8 ..
    · rw [outsAt0_B m c t h0]; dsimp only; exact out_B_8 ..
  refine (congrFun e y).trans ?_
  blk_simp [iblk]
  blk_ext [idx5 t, idx8 t]

end Cert.Proof.Fox
-- ==== Proof.Ref.lean ====
/-
  The reference's attention, read at a position: its scores, their weights, and the output.
-/
module

public import proofs.«01_k».proof.Proof.Gen.ReferenceIdeal.Run
public import proofs.«01_k».proof.Proof.Att
public import Idealize.ShloMosaic.Lib.WordCmp

@[expose] public section

set_option maxRecDepth 16384

noncomputable section

open Cert.ReferenceIdeal Cert.ReferenceIdeal.Gen Idealize.ShloMosaic Idealize.ShloMosaic.TcCoe Idealize.SL.Sem

namespace Cert.Proof.Fox

theorem select_ge (i j : Fin 4096) (a b : EReal) :
    Scalar.select (IntOp.cmpi .sge (BitVec.ofNat 32 i.val) (BitVec.ofNat 32 j.val)) a b = if j.val ≤ i.val then a else b := by
  by_cases h : j.val ≤ i.val
  · rw [if_pos h, (WordCmp.cmpi_sge_ofNat_eq_one_iff (w := 32) (by omega) (by omega)).mpr h]; rfl
  · rw [if_neg h, (WordCmp.cmpi_sge_ofNat_eq_zero_iff (w := 32) (by omega) (by omega)).mpr (by omega)]; rfl

theorem negInf_bits : Ideal.ofBits .f32 0xFF800000#32 = ⊥ := by simp [Ideal.ofBits, Ideal.ieee]

/-- The reference's masked scores, -/
def scores (Q : FVec Ideal S2x4096x12288 .f32) (G : FVec Ideal S2x32x4096 .f32) : FVec Ideal S2x32x4096x4096 .f32 :=
  select (broadcastInDim S2x32x4096x4096 ![2, 3] bcast_S4096x4096_S2x32x4096x4096_2_3 (cmpi .sge (broadcastInDim S4096x4096 ![0, 1]
    bcast_S4096x1_S4096x4096_0_1 (broadcastInDim S4096x1 ![0] bcast_S4096_S4096x1_0 (iotaInDim S4096 32 0))) (broadcastInDim S4096x4096 ![0, 1]
    bcast_S1x4096_S4096x4096_0_1 (broadcastInDim S1x4096 ![1] bcast_S4096_S1x4096_1 (iotaInDim S4096 32 0))))) (subf (addf (mulf (Host.dotGeneral
    dot_S2x32x4096x128_S2x32x4096x128_S2x32x4096x4096_3_3_2_2_01_01 none (transpose S2x32x4096x128 [0, 2, 1, 3] (shapeCast _ (extractStridedSlice
    S2x4096x4096 ![0, 0, 0] Q slices_S2x4096x12288_S2x4096x4096_0_0_0) shapeCasts_S2x4096x4096_S2x4096x32x128)
    transposes_S2x4096x32x128_S2x32x4096x128_0_2_1_3) (transpose S2x32x4096x128 [0, 2, 1, 3] (shapeCast _ (extractStridedSlice S2x4096x4096 ![0, 0,
    4096] Q slices_S2x4096x12288_S2x4096x4096_0_0_4096) shapeCasts_S2x4096x4096_S2x4096x32x128) transposes_S2x4096x32x128_S2x32x4096x128_0_2_1_3))
    (broadcastInDim S2x32x4096x4096 ![] bcast_S_S2x32x4096x4096 (constant S_ .f32 0x3DB504F3#32))) (broadcastInDim S2x32x4096x4096 ![0, 1, 2, 3]
    bcast_S2x32x4096x1_S2x32x4096x4096_0_1_2_3 (broadcastInDim S2x32x4096x1 ![0, 1, 2] bcast_S2x32x4096_S2x32x4096x1_0_1_2 G))) (broadcastInDim
    S2x32x4096x4096 ![0, 1, 2, 3] bcast_S2x32x1x4096_S2x32x4096x4096_0_1_2_3 (broadcastInDim S2x32x1x4096 ![0, 1, 3]
    bcast_S2x32x4096_S2x32x1x4096_0_1_3 G))) (broadcastInDim S2x32x4096x4096 ![] bcast_S_S2x32x4096x4096 (constant S_ .f32 0xFF800000#32 : FVec Ideal S_ .f32))

/-- the largest of each row, -/
def rowTop (S : FVec Ideal S2x32x4096x4096 .f32) : FVec Ideal S2x32x4096 .f32 :=
  Host.reduce FloatOps.maximumf S (constant S_ .f32 0xFF800000#32) reducesTo_S2x32x4096x4096_S2x32x4096_d3 h_S_

/-- what it exponentiates them to, -/
def expBelow (S : FVec Ideal S2x32x4096x4096 .f32) (T : FVec Ideal S2x32x4096 .f32) : FVec Ideal S2x32x4096x4096 .f32 :=
  Host.exp (subf S (broadcastInDim S2x32x4096x4096 ![0, 1, 2, 3] bcast_S2x32x4096x1_S2x32x4096x4096_0_1_2_3 (broadcastInDim S2x32x4096x1 ![0, 1, 2]
    bcast_S2x32x4096_S2x32x4096x1_0_1_2 (maximumf (broadcastInDim S2x32x4096 ![] bcast_S_S2x32x4096 (constant S_ .f32 0xFF800000#32)) T))))

/-- below the row's largest, -/
def weights (S : FVec Ideal S2x32x4096x4096 .f32) : FVec Ideal S2x32x4096x4096 .f32 := expBelow S (rowTop S)

/-- its values by head, -/
def values (Q : FVec Ideal S2x4096x12288 .f32) : FVec Ideal S2x32x4096x128 .f32 :=
  transpose S2x32x4096x128 [0, 2, 1, 3] (shapeCast _ (extractStridedSlice S2x4096x4096 ![0, 0, 8192] Q slices_S2x4096x12288_S2x4096x4096_0_0_8192)
    shapeCasts_S2x4096x4096_S2x4096x32x128) transposes_S2x4096x32x128_S2x32x4096x128_0_2_1_3

/-- and its output. -/
def output (S : FVec Ideal S2x32x4096x4096 .f32) (A : FVec Ideal S2x32x4096x128 .f32) : FVec Ideal S8192x4096 .bf16 :=
  truncf .bf16 (shapeCast _ (transpose S2x4096x32x128 [0, 2, 1, 3] (Host.dotGeneral dot_S2x32x4096x4096_S2x32x4096x128_S2x32x4096x128_3_2_2_3_01_01 none
    (Host.divf (weights S) (broadcastInDim S2x32x4096x4096 ![0, 1, 2, 3] bcast_S2x32x4096x1_S2x32x4096x4096_0_1_2_3 (broadcastInDim S2x32x4096x1 ![0,
    1, 2] bcast_S2x32x4096_S2x32x4096x1_0_1_2 (Host.reduceAdd (weights S) (constant S_ .f32 0x00000000#32) reducesTo_S2x32x4096x4096_S2x32x4096_d3
    h_S_)))) A) transposes_S2x32x4096x128_S2x4096x32x128_0_2_1_3) shapeCasts_S2x4096x32x128_S8192x4096) bitsLt_bf16_f32

theorem scores_at (Q : QKV) (G : Gates) (b : Fin 2) (h : Fin 32) (i j : Fin 4096) : scores Q G (ix4 b h i j) = score Q G b h i j := by
  unfold score
  pointwise [scores]
  rw [select_ge]
  by_cases hj : j.val ≤ i.val
  · rw [if_pos hj, if_pos hj]; rfl
  · rw [if_neg hj, if_neg hj]; exact negInf_bits

/-- A maximum over the last of four axes. -/
theorem fold_last {n0 n1 n2 n3 : ℕ} (S : FVec Ideal ⟨4, ![n0, n1, n2, n3]⟩ .f32) (z : FVec Ideal ⟨0, ![]⟩ .f32)
    (hr : Shape.ReducesTo ⟨4, ![n0, n1, n2, n3]⟩ [3] ⟨3, ![n0, n1, n2]⟩) (hu : 0 < (⟨0, ![]⟩ : Shape).numel) (b : Fin n0) (h : Fin n1) (i : Fin n2) :
    Host.reduce FloatOps.maximumf S z hr hu (ix3 b h i) = Finset.univ.fold max (z (Shape.Idx.first hu)) fun k : Fin n3 => S (ix4 b h i k) := by
  simp only [pointwise]

theorem rowTop_at (S : FVec Ideal S2x32x4096x4096 .f32) (b : Fin 2) (h : Fin 32) (i : Fin 4096) :
    rowTop S (ix3 b h i) = Finset.univ.fold max ⊥ fun k : Fin 4096 => S (ix4 b h i k) := by
  refine (fold_last S (constant S_ .f32 0xFF800000#32) _ _ b h i).trans ?_
  rw [show constant (F := Ideal) S_ .f32 0xFF800000#32 (Shape.Idx.first h_S_) = (⊥ : EReal) from negInf_bits]

theorem expBelow_at (S : FVec Ideal S2x32x4096x4096 .f32) (T : FVec Ideal S2x32x4096 .f32) (b : Fin 2) (h : Fin 32) (i j : Fin 4096) :
    expBelow S T (ix4 b h i j) = Ideal.exp (S (ix4 b h i j) - max ⊥ (T (ix3 b h i))) := by
  pointwise [expBelow]
  rw [negInf_bits]

theorem weights_at (S : FVec Ideal S2x32x4096x4096 .f32) (b : Fin 2) (h : Fin 32) (i j : Fin 4096) :
    weights S (ix4 b h i j) = Ideal.exp (S (ix4 b h i j) - max ⊥ (Finset.univ.fold max ⊥ fun k : Fin 4096 => S (ix4 b h i k))) := by
  rw [← rowTop_at]
  exact expBelow_at S (rowTop S) b h i j

theorem values_at (Q : QKV) (b : Fin 2) (h : Fin 32) (i : Fin 4096) (d : Fin 128) : values Q (ix4 b h i d) = Q (ix3 b i ⟨8192 + (h.val * 128 + d.val), by omega⟩) := by
  pointwise [values]

theorem output_at (S : FVec Ideal S2x32x4096x4096 .f32) (A : FVec Ideal S2x32x4096x128 .f32) (i : Fin 8192) (j : Fin 4096) :
    output S A (ix2 i j) = ∑ x : Fin 4096, Ideal.div (weights S (ix4 ⟨i.val / 4096, by omega⟩ ⟨j.val / 128, by omega⟩ ⟨i.val % 4096, by omega⟩ x))
        (∑ k : Fin 4096, weights S (ix4 ⟨i.val / 4096, by omega⟩ ⟨j.val / 128, by omega⟩ ⟨i.val % 4096, by omega⟩ k))
      * A (ix4 ⟨i.val / 4096, by omega⟩ ⟨j.val / 128, by omega⟩ x ⟨j.val % 128, by omega⟩) := by
  pointwise [output]

theorem ref_at (Q : QKV) (G : Gates) (i : Fin 8192) (j : Fin 4096) : output (scores Q G) (values Q) (ix2 i j)
    = att Q G ⟨i.val / 4096, by omega⟩ ⟨j.val / 128, by omega⟩ ⟨i.val % 4096, by omega⟩ ⟨j.val % 128, by omega⟩ := by
  rw [output_at]
  simp only [weights_at, values_at, scores_at]
  rfl

theorem ref_output (m : (ℓ : Loc nD τ sig) → Buf (Elt Ideal) ℓ) (c : Dev nD) : Value.res_main_v40 (F := Ideal) m c
    = output (scores (m ((c : Thread nD τ).loc main_arg0)) (m ((c : Thread nD τ).loc main_arg1))) (values (m ((c : Thread nD τ).loc main_arg0))) := rfl

end Cert.Proof.Fox
-- ==== Proof.Merge.lean ====
/-
  The two projections added under their gates: every element of the result is the two rows' products with the two columns, each times its gate.
-/
module

public import proofs.«01_k».proof.Proof.Gen.Kernel2.Frame
public import proofs.«01_k».proof.Proof.Gen.Kernel2Ideal.Value
public import proofs.«01_k».proof.Proof.Gen.Reference2Ideal.Run
public import proofs.«01_k».proof.Defs
public import Idealize.ShloMosaic.Lib.Pipeline.ValueKit.Point
public import Idealize.ShloMosaic.Lib.Quiescent
public import Idealize.ShloMosaic.Lib.Pointwise

@[expose] public section

set_option maxRecDepth 16384

noncomputable section

open Cert.Kernel2Ideal Cert.Kernel2Ideal.Gen Idealize.ShloMosaic Idealize.ShloMosaic.TcCoe Idealize.SL.Sem
open Idealize.ShloMosaic.Pipeline (Dat)

namespace Cert.Proof.Merge

/-- Two products of matrices, each times its half of the gates, at a position. -/
def merged (a : Vec Ideal S8192x8192 .bf16) (b : Vec Ideal S8192x4096 .bf16) (u : Vec Ideal S8192x4096 .bf16) (v : Vec Ideal S4096x4096 .bf16)
    (g : Vec Ideal S8192x8192 .f32) : Vec Ideal S8192x4096 .bf16 := fun y =>
  (g (ix2 (y 0) ⟨(y 1).val, by have : (y 1).val < 4096 := (y 1).isLt; omega⟩) : EReal) * (∑ x : Fin 8192, (a (ix2 (y 0) x) : EReal) * u (ix2 x (y 1)))
    + (g (ix2 (y 0) ⟨4096 + (y 1).val, by have : (y 1).val < 4096 := (y 1).isLt; omega⟩) : EReal) * ∑ x : Fin 4096, (b (ix2 (y 0) x) : EReal) * v (ix2 x (y 1))

theorem pay_at (x1 : Vec Ideal S1024x8192 .bf16) (x0 : Vec Ideal S8192x256 .bf16) (x2 : Vec Ideal S1024x4096 .bf16) (x3 : Vec Ideal S4096x256 .bf16)
    (x4 x5 : Vec Ideal S1024x256 .f32) (r : Fin 1024) (d : Fin 256) : k0_pay2 x1 x0 x2 x3 x4 x5 (ix2 r d)
      = (x4 (ix2 r d) : EReal) * (∑ x : Fin 8192, (x1 (ix2 r x) : EReal) * x0 (ix2 x d)) + (x5 (ix2 r d) : EReal) * ∑ x : Fin 4096, (x2 (ix2 r x) : EReal) * x3 (ix2 x d) := by
  pointwise [k0_pay2]

variable (x0 : Vec Ideal S8192x256 .bf16) (x1 : Vec Ideal S1024x8192 .bf16) (x2 : Vec Ideal S1024x4096 .bf16) (x3 : Vec Ideal S4096x256 .bf16)
  (x4 x5 : Vec Ideal S1024x256 .f32) (x6 : Vec Ideal S32x4096 .f32)

theorem out_merged : out0_7 x0 x1 x2 x3 x4 x5 x6 = k0_pay2 x1 x0 x2 x3 x4 x5 := by
  unfold out0_7
  rw [View.canon_cons_unit_lit _ _ _ (by decide)]
  exact congr (congr (congr (congr (congr (congrArg _ (View.ld_unit_lit _ _ (by decide))) (View.ld_unit_lit _ _ (by decide))) (View.ld_unit_lit _ _ (by decide)))
    (View.ld_unit_lit _ _ (by decide))) (View.ld_unit_lit _ _ (by decide))) (View.ld_unit_lit _ _ (by decide))

theorem out_rounded : out0_8 x0 x1 x2 x3 x4 x5 x6 = k0_pay1 x6 := by
  unfold out0_8
  rw [View.canon_cons_unit_lit _ _ _ (by decide)]
  exact congrArg _ (View.ld_unit_lit _ _ (by decide))

theorem idx0 : ∀ t : Fin cfg0.N, win0_0.index t = ![0, t.val % 16] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![t.val / 16, 0] := (by decide +kernel : ∀ t : Fin grid0.N, _)
theorem idx3 : ∀ t : Fin cfg0.N, win0_3.index t = ![0, t.val % 16] := (by decide +kernel : ∀ t : Fin grid0.N, _)
theorem idx4 : ∀ t : Fin cfg0.N, win0_4.index t = ![t.val / 16, t.val % 16] := (by decide +kernel : ∀ t : Fin grid0.N, _)
theorem idx5 : ∀ t : Fin cfg0.N, win0_5.index t = ![t.val / 16, 16 + t.val % 16] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val / 16, t.val % 16] := (by decide +kernel : ∀ t : Fin grid0.N, _)
theorem idx8 : ∀ t : Fin cfg0.N, win0_8.index t = ![t.val, 0] := (by decide +kernel : ∀ t : Fin grid0.N, _)

variable (m : (ℓ : Loc nD τ sig) → Buf (Elt Ideal) ℓ)

theorem result (c : Dev nD) : (dats m 0 c).arrAt 7 cfg0.N
    = merged (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 7 _ (by decide +kernel) fun t _ y => ?_
  obtain ⟨r, d, rfl⟩ : ∃ (r : Fin 1024) (d : Fin 256), y = ix2 r d := ⟨y 0, y 1, eq_ix2 y⟩
  blk_simp
  rw [after0_7, out_merged, pay_at]
  unfold merged
  blk_point [iblk, idx0 t, idx1 t, idx2 t, idx3 t, idx4 t, idx5 t, idx7 t, V_main_arg0, V_main_arg1, V_main_arg2, V_main_arg3, V_main_arg4]

theorem rounded (c : Dev nD) : (dats m 0 c).arrAt 8 cfg0.N = (m ((c : Thread nD τ).loc main_arg5) : Vec Ideal S4096x4096 .f32) := by
  refine (dats m 0 c).arrAt_eq_of_covers 8 _ (by decide +kernel) fun t _ y => ?_
  blk_simp
  rw [after0_8, out_rounded]
  show iblk m c 6 t y = _
  blk_point [iblk, idx6 t, idx8 t, V_main_arg5]

theorem reference (a : FVec Ideal S8192x8192 .bf16) (b : FVec Ideal S8192x4096 .bf16) (u : FVec Ideal S8192x4096 .bf16) (v : FVec Ideal S4096x4096 .bf16) (g : FVec Ideal S8192x8192 .f32) :
    truncf .bf16 (addf (mulf (extractStridedSlice S8192x4096 ![0, 0] g Cert.Reference2Ideal.Gen.slices_S8192x8192_S8192x4096_0_0)
          (Host.dotGeneral Cert.Reference2Ideal.dot_S8192x8192_S8192x4096_S8192x4096_1_0_0_1_n_n none a u))
        (mulf (extractStridedSlice S8192x4096 ![0, 4096] g Cert.Reference2Ideal.Gen.slices_S8192x8192_S8192x4096_0_4096)
          (Host.dotGeneral Cert.Reference2Ideal.dot_S8192x4096_S4096x4096_S8192x4096_1_0_0_1_n_n none b v))) bitsLt_bf16_f32 = merged a b u v g := by
  funext y
  obtain ⟨r, d, rfl⟩ : ∃ (r : Fin 8192) (d : Fin 4096), y = ix2 r d := ⟨y 0, y 1, eq_ix2 y⟩
  unfold merged
  pointwise []

theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The kernel and the reference leave the same merged projections and the same rounded weights. -/
theorem same : Cert.algebraic_Kernel2Ideal_Reference2Ideal := fun m ρ m' ρ' _ ha => by
  refine ⟨_, _, Cert.Kernel2Ideal.Value.run_blocks (F := Ideal) m ρ,
    (θ_run Cert.Reference2Ideal.defs _ _).mono (fun r h c => ?_) (Cert.Reference2Ideal.Value.run (F := Ideal) m' ρ')⟩
  obtain ⟨h0, h1, hr⟩ := h c
  obtain ⟨a0, a1, a2, a3, a4, a5⟩ := ha c
  refine ⟨h0.trans ?_, h1.trans ?_, hr⟩
  · rw [result m c, a0, a1, a2, a3, a4]
    exact reference _ _ _ _ _
  · rw [rounded m c, a5]; rfl

end Cert.Proof.Merge
-- ==== Proof.FfnDown.lean ====
/-
  The FFN's down projection with its residual: every element of the result is the scaled residual plus the row's product with the column.
-/
module

public import proofs.«01_k».proof.Proof.Gen.Kernel3.Frame
public import proofs.«01_k».proof.Proof.Gen.Kernel3Ideal.Value
public import proofs.«01_k».proof.Proof.Gen.Reference3Ideal.Run
public import proofs.«01_k».proof.Defs
public import Idealize.ShloMosaic.Lib.Pipeline.ValueKit.Point
public import Idealize.ShloMosaic.Lib.Quiescent
public import Idealize.ShloMosaic.Lib.Pointwise

@[expose] public section

set_option maxRecDepth 16384

noncomputable section

open Cert.Kernel3Ideal Cert.Kernel3Ideal.Gen Idealize.ShloMosaic Idealize.ShloMosaic.TcCoe Idealize.SL.Sem
open Idealize.ShloMosaic.Pipeline (Dat)

namespace Cert.Proof.FfnDown

/-- A residual, scaled, plus a product of matrices, at a position. -/
def down (a : Vec Ideal S8192x11008 .bf16) (w : Vec Ideal S11008x4096 .bf16) (h : Vec Ideal S8192x4096 .f32) : Vec Ideal S8192x4096 .f32 := fun y =>
  Ideal.ofBits .f32 0x3F9837F0#32 * h y + ∑ x : Fin 11008, (a (ix2 (y 0) x) : EReal) * w (ix2 x (y 1))

theorem pay_at (x0 : Vec Ideal S1024x11008 .bf16) (x1 : Vec Ideal S11008x256 .bf16) (x2 : Vec Ideal S1024x256 .f32) (r : Fin 1024) (d : Fin 256) :
    k0_pay1 x0 x1 x2 (ix2 r d) = Ideal.ofBits .f32 0x3F9837F0#32 * x2 (ix2 r d) + ∑ x : Fin 11008, (x0 (ix2 r x) : EReal) * x1 (ix2 x d) := by
  pointwise [k0_pay1]

theorem out_eq (x0 : Vec Ideal S1024x11008 .bf16) (x1 : Vec Ideal S11008x256 .bf16) (x2 : Vec Ideal S1024x256 .f32) :
    out0_3 x0 x1 x2 = k0_pay1 x0 x1 x2 := by
  unfold out0_3
  rw [View.canon_cons_unit_lit _ _ _ (by decide)]
  exact congr (congr (congrArg _ (View.ld_unit_lit _ _ (by decide))) (View.ld_unit_lit _ _ (by decide))) (View.ld_unit_lit _ _ (by decide))

theorem idx0 : ∀ t : Fin cfg0.N, win0_0.index t = ![t.val / 16, 0] := (by decide +kernel : ∀ t : Fin grid0.N, _)
theorem idx1 : ∀ t : Fin cfg0.N, win0_1.index t = ![0, t.val % 16] := (by decide +kernel : ∀ t : Fin grid0.N, _)
theorem idx2 : ∀ t : Fin cfg0.N, win0_2.index t = ![t.val / 16, t.val % 16] := (by decide +kernel : ∀ t : Fin grid0.N, _)
theorem idx3 : ∀ t : Fin cfg0.N, win0_3.index t = ![t.val / 16, t.val % 16] := (by decide +kernel : ∀ t : Fin grid0.N, _)

variable (m : (ℓ : Loc nD τ sig) → Buf (Elt Ideal) ℓ)

theorem result (c : Dev nD) : (dats m 0 c).arrAt 3 cfg0.N
    = down (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 1024) (d : Fin 256), y = ix2 r d := ⟨y 0, y 1, eq_ix2 y⟩
  blk_simp
  rw [after0_3]
  rw [out_eq, pay_at]
  unfold down
  blk_point [iblk, idx0 t, idx1 t, idx2 t, idx3 t, V_main_arg0, V_main_arg1, V_main_arg2]

theorem reference (a : FVec Ideal S8192x11008 .bf16) (w : FVec Ideal S11008x4096 .bf16) (h : FVec Ideal S8192x4096 .f32) :
    addf (mulf (broadcastInDim S8192x4096 ![] Cert.Reference3Ideal.Gen.bcast_S_S8192x4096 (constant Cert.Reference3Ideal.S_ .f32 0x3F9837F0#32 : FVec Ideal _ .f32)) h)
      (Host.dotGeneral Cert.Reference3Ideal.dot_S8192x11008_S11008x4096_S8192x4096_1_0_0_1_n_n none a w) = down a w h := by
  funext y
  obtain ⟨r, d, rfl⟩ : ∃ (r : Fin 8192) (d : Fin 4096), y = ix2 r d := ⟨y 0, y 1, eq_ix2 y⟩
  unfold down
  pointwise []

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference leave the same down projection. -/
theorem same : Cert.algebraic_Kernel3Ideal_Reference3Ideal := fun m ρ m' ρ' _ ha => by
  refine ⟨_, Cert.Kernel3Ideal.Value.run_blocks (F := Ideal) m ρ,
    (θ_run Cert.Reference3Ideal.defs _ _).mono (fun r h c => ?_) (Cert.Reference3Ideal.Value.run (F := Ideal) m' ρ')⟩
  obtain ⟨h0, hr⟩ := h c
  obtain ⟨a0, a1, a2⟩ := ha c
  refine ⟨h0.trans ?_, hr⟩
  rw [result m c, a0, a1, a2]
  exact reference _ _ _

end Cert.Proof.FfnDown
-- ==== Proof.OutProj.lean ====
/-
  The output projection with its residual: every element of the result is the scaled residual plus the row's product with the column.
-/
module

public import proofs.«01_k».proof.Proof.Gen.Kernel4.Frame
public import proofs.«01_k».proof.Proof.Gen.Kernel4Ideal.Value
public import proofs.«01_k».proof.Proof.Gen.Reference4Ideal.Run
public import proofs.«01_k».proof.Defs
public import Idealize.ShloMosaic.Lib.Pipeline.ValueKit.Point
public import Idealize.ShloMosaic.Lib.Quiescent
public import Idealize.ShloMosaic.Lib.Pointwise

@[expose] public section

set_option maxRecDepth 16384

noncomputable section

open Cert.Kernel4Ideal Cert.Kernel4Ideal.Gen Idealize.ShloMosaic Idealize.ShloMosaic.TcCoe Idealize.SL.Sem
open Idealize.ShloMosaic.Pipeline (Dat)

namespace Cert.Proof.OutProj

/-- A residual, scaled, plus a product of matrices, at a position. -/
def out (a : Vec Ideal S8192x4096 .bf16) (w : Vec Ideal S4096x4096 .bf16) (h : Vec Ideal S8192x4096 .f32) : Vec Ideal S8192x4096 .f32 := fun y =>
  Ideal.ofBits .f32 0x3F9837F0#32 * h y + ∑ x : Fin 4096, (a (ix2 (y 0) x) : EReal) * w (ix2 x (y 1))

theorem pay_at (x0 : Vec Ideal S1024x4096 .bf16) (x1 : Vec Ideal S4096x512 .bf16) (x2 : Vec Ideal S1024x512 .f32) (r : Fin 1024) (d : Fin 512) :
    k0_pay1 x0 x1 x2 (ix2 r d) = Ideal.ofBits .f32 0x3F9837F0#32 * x2 (ix2 r d) + ∑ x : Fin 4096, (x0 (ix2 r x) : EReal) * x1 (ix2 x d) := by
  pointwise [k0_pay1]

theorem out_eq (x0 : Vec Ideal S1024x4096 .bf16) (x1 : Vec Ideal S4096x512 .bf16) (x2 : Vec Ideal S1024x512 .f32) :
    out0_3 x0 x1 x2 = k0_pay1 x0 x1 x2 := by
  unfold out0_3
  rw [View.canon_cons_unit_lit _ _ _ (by decide)]
  exact congr (congr (congrArg _ (View.ld_unit_lit _ _ (by decide))) (View.ld_unit_lit _ _ (by decide))) (View.ld_unit_lit _ _ (by decide))

theorem idx0 : ∀ t : Fin cfg0.N, win0_0.index t = ![t.val / 8, 0] := (by decide +kernel : ∀ t : Fin grid0.N, _)
theorem idx1 : ∀ t : Fin cfg0.N, win0_1.index t = ![0, t.val % 8] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, t.val % 8] := (by decide +kernel : ∀ t : Fin grid0.N, _)

variable (m : (ℓ : Loc nD τ sig) → Buf (Elt Ideal) ℓ)

theorem result (c : Dev nD) : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 1024) (d : Fin 512), y = ix2 r d := ⟨y 0, y 1, eq_ix2 y⟩
  blk_simp
  rw [after0_3]
  rw [out_eq, pay_at]
  unfold out
  blk_point [iblk, idx0 t, idx1 t, idx2 t, idx3 t, V_main_arg0, V_main_arg1, V_main_arg2]

theorem reference (a : FVec Ideal S8192x4096 .bf16) (w : FVec Ideal S4096x4096 .bf16) (h : FVec Ideal S8192x4096 .f32) :
    addf (mulf (broadcastInDim S8192x4096 ![] Cert.Reference4Ideal.Gen.bcast_S_S8192x4096 (constant Cert.Reference4Ideal.S_ .f32 0x3F9837F0#32 : FVec Ideal _ .f32)) h)
      (Host.dotGeneral Cert.Reference4Ideal.dot_S8192x4096_S4096x4096_S8192x4096_1_0_0_1_n_n none a w) = out a w h := by
  funext y
  obtain ⟨r, d, rfl⟩ : ∃ (r : Fin 8192) (d : Fin 4096), y = ix2 r d := ⟨y 0, y 1, eq_ix2 y⟩
  unfold out
  pointwise []

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference leave the same output projection. -/
theorem same : Cert.algebraic_Kernel4Ideal_Reference4Ideal := fun m ρ m' ρ' _ ha => by
  refine ⟨_, Cert.Kernel4Ideal.Value.run_blocks (F := Ideal) m ρ,
    (θ_run Cert.Reference4Ideal.defs _ _).mono (fun r h c => ?_) (Cert.Reference4Ideal.Value.run (F := Ideal) m' ρ')⟩
  obtain ⟨h0, hr⟩ := h c
  obtain ⟨a0, a1, a2⟩ := ha c
  refine ⟨h0.trans ?_, hr⟩
  rw [result m c, a0, a1, a2]
  exact reference _ _ _

end Cert.Proof.OutProj
-- ==== Proof.QkvProj.lean ====
/-
  The projection to queries, keys and values: every element is a row's product with a row of the weights, the queries' elements scaled.
-/
module

public import proofs.«01_k».proof.Proof.Gen.Kernel5.Frame
public import proofs.«01_k».proof.Proof.Gen.Kernel5Ideal.Value
public import proofs.«01_k».proof.Proof.Gen.Reference5Ideal.Run
public import proofs.«01_k».proof.Defs
public import Idealize.ShloMosaic.Lib.Pipeline.ValueKit.Point
public import Idealize.ShloMosaic.Lib.Quiescent
public import Idealize.ShloMosaic.Lib.Pointwise
public import Idealize.ShloMosaic.Lib.IdealHost

@[expose] public section

set_option maxRecDepth 16384

noncomputable section

open Cert.Kernel5Ideal Cert.Kernel5Ideal.Gen Idealize.ShloMosaic Idealize.ShloMosaic.TcCoe Idealize.SL.Sem
open Idealize.ShloMosaic.Pipeline (Dat)

namespace Cert.Proof.QkvProj

/-- The scale of a column: the queries' columns are scaled, the others are not. -/
def scale (j : ℕ) : EReal := if j < 4096 then Ideal.ofBits .f32 0x3DB504F3#32 else 1

/-- A product of rows at a position, scaled in the columns of the queries. -/
def projected (a : Vec Ideal S8192x4096 .f32) (w : Vec Ideal S12288x4096 .bf16) : Vec Ideal S8192x12288 .bf16 := fun y =>
  (∑ x : Fin 4096, (a (ix2 (y 0) x) : EReal) * w (ix2 (y 1) x)) * scale (y 1).val

theorem select_tile (n : ℕ) (hn : n < 12) :
    Scalar.select (Scalar.cmpi .slt (BitVec.ofNat 32 n) 4#32) (Ideal.ofBits .f32 0x3DB504F3#32) 1 = scale (1024 * n) := by
  unfold scale
  by_cases h : n < 4
  · rw [if_pos (by omega), show Scalar.cmpi .slt (BitVec.ofNat 32 n) 4#32 = 1#1 from (WordCmp.cmpi_slt_ofNat_eq_one_iff (w := 32) (b := 4) (by omega) (by omega)).2 h]; rfl
  · rw [if_neg (by omega), show Scalar.cmpi .slt (BitVec.ofNat 32 n) 4#32 = 0#1 from (WordCmp.cmpi_slt_ofNat_eq_zero_iff (w := 32) (b := 4) (by omega) (by omega)).2 h]; rfl

theorem select_column (z : EReal) (n : ℕ) (hn : n < 12288) :
    Scalar.select (IntOp.cmpi .slt (BitVec.ofNat 32 n) 4096#32) (z * Ideal.ofBits .f32 0x3DB504F3#32) z = z * scale n := by
  unfold scale
  by_cases h : n < 4096
  · rw [if_pos h, (WordCmp.cmpi_slt_ofNat_eq_one_iff (w := 32) (b := 4096) (by omega) (by omega)).2 h]; rfl
  · rw [if_neg h, (WordCmp.cmpi_slt_ofNat_eq_zero_iff (w := 32) (b := 4096) (by omega) (by omega)).2 h, mul_one]; rfl

theorem pay_at (i : grid0.Coords) (x0 x1 : Vec Ideal S1024x4096 .bf16) (r d : Fin 1024) :
    k0_pay1 i x0 x1 (ix2 r d) = (∑ x : Fin 4096, (x0 (ix2 r x) : EReal) * x1 (ix2 d x)) * scale (1024 * (i 1).val) := by
  pointwise [k0_pay1]
  exact congrArg (_ * ·) (select_tile _ (i 1).isLt)

/-- The columns of a tile have the scale of its first one. -/
theorem scale_tile (n d : ℕ) (hd : d < 1024) : scale (1024 * n) = scale (n * 1024 + d) := by
  unfold scale
  by_cases h : n < 4
  · rw [if_pos (by omega), if_pos (by omega)]
  · rw [if_neg (by omega), if_neg (by omega)]

theorem out_eq (i : grid0.Coords) (x0 x1 : Vec Ideal S1024x4096 .bf16) : out0_2 i x0 x1 = k0_pay1 i x0 x1 := by
  unfold out0_2
  rw [View.canon_cons_unit_lit _ _ _ (by decide)]
  exact congr (congrArg _ (View.ld_unit_lit _ _ (by decide))) (View.ld_unit_lit _ _ (by decide))

theorem idx0 : ∀ t : Fin cfg0.N, win0_0.index t = ![t.val / 12, 0] := (by decide +kernel : ∀ t : Fin grid0.N, _)
theorem idx1 : ∀ t : Fin cfg0.N, win0_1.index t = ![1024 * (t.val % 12), 0] := (by decide +kernel : ∀ t : Fin grid0.N, _)
theorem idx2 : ∀ t : Fin cfg0.N, win0_2.index t = ![t.val / 12, t.val % 12] := (by decide +kernel : ∀ t : Fin grid0.N, _)
theorem coord1 : ∀ t : Fin cfg0.N, (grid0.coords t 1).val = t.val % 12 := (by decide +kernel : ∀ t : Fin grid0.N, _)

variable (m : (ℓ : Loc nD τ sig) → Buf (Elt Ideal) ℓ)

theorem rows_at (c : Dev nD) : (V m c main_v0 : Vec Ideal S8192x4096 .bf16) = (m ((c : Thread nD τ).loc main_arg0) : Vec Ideal S8192x4096 .f32) := by
  funext y
  simp only [V, hostOps0, List.flatten_cons, List.flatten_nil, List.append_nil, List.cons_append, List.nil_append]
  entry_read
  rfl

theorem result (c : Dev nD) : (dats m 0 c).arrAt 2 cfg0.N = projected (m ((c : Thread nD τ).loc main_arg0)) (m ((c : Thread nD τ).loc main_arg1)) := by
  refine (dats m 0 c).arrAt_eq_of_covers 2 _ (by decide +kernel) fun t _ y => ?_
  obtain ⟨r, d, rfl⟩ : ∃ r d : Fin 1024, y = ix2 r d := ⟨y 0, y 1, eq_ix2 y⟩
  blk_simp
  rw [after0_2, out_eq, pay_at, coord1]
  unfold projected
  refine congrArg₂ (· * ·) ?_ ((scale_tile _ d.val d.isLt).trans (congrArg scale ?_))
  · blk_point [iblk, idx0 t, idx2 t, rows_at, V_main_arg1]
    · show win0_1.index t 0 + 1 * d.val = _
      rw [idx1 t]; show 1024 * (t.val % 12) + 1 * d.val = _; omega
    · show win0_1.index t 1 + 1 * x.val = _
      rw [idx1 t]; show 0 + 1 * x.val = _; omega
  · blk_point [idx2 t]

theorem reference (a : FVec Ideal S8192x4096 .f32) (w : FVec Ideal S12288x4096 .bf16) :
    truncf .bf16 (select (broadcastInDim S8192x12288 ![1] Cert.Reference5Ideal.Gen.bcast_S12288_S8192x12288_1
            (cmpi .slt (iotaInDim Cert.Reference5Ideal.S12288 32 0) (broadcastInDim Cert.Reference5Ideal.S12288 ![] Cert.Reference5Ideal.Gen.bcast_S_S12288 (constantI Cert.Reference5Ideal.S_ 32 4096#32))))
          (mulf (Host.dotGeneral Cert.Reference5Ideal.dot_S8192x4096_S12288x4096_S8192x12288_1_1_0_0_n_n none a w)
            (broadcastInDim S8192x12288 ![] Cert.Reference5Ideal.Gen.bcast_S_S8192x12288 (constant Cert.Reference5Ideal.S_ .f32 0x3DB504F3#32 : FVec Ideal _ .f32)))
          (Host.dotGeneral Cert.Reference5Ideal.dot_S8192x4096_S12288x4096_S8192x12288_1_1_0_0_n_n none a w)) bitsLt_bf16_f32 = projected a w := by
  funext y
  obtain ⟨r, d, rfl⟩ : ∃ (r : Fin 8192) (d : Fin 12288), y = ix2 r d := ⟨y 0, y 1, eq_ix2 y⟩
  unfold projected
  pointwise []
  exact select_column _ _ d.isLt

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel and the reference leave the same queries, keys and values. -/
theorem same : Cert.algebraic_Kernel5Ideal_Reference5Ideal := fun m ρ m' ρ' _ ha => by
  refine ⟨_, Cert.Kernel5Ideal.Value.run_blocks (F := Ideal) m ρ,
    (θ_run Cert.Reference5Ideal.defs _ _).mono (fun r h c => ?_) (Cert.Reference5Ideal.Value.run (F := Ideal) m' ρ')⟩
  obtain ⟨h0, hr⟩ := h c
  obtain ⟨a0, a1⟩ := ha c
  refine ⟨h0.trans ?_, hr⟩
  rw [result m c, a0, a1]
  exact reference _ _

end Cert.Proof.QkvProj
-- ==== Proof.GateProj.lean ====
/-
  The projection to the gates: every element is the logistic function of a row's product with a row of the weights plus a bias.
-/
module

public import proofs.«01_k».proof.Proof.Gen.Kernel6.Frame
public import proofs.«01_k».proof.Proof.Gen.Kernel6Ideal.Value
public import proofs.«01_k».proof.Proof.Gen.Reference6Ideal.Run
public import proofs.«01_k».proof.Defs
public import Idealize.ShloMosaic.Lib.Pipeline.ValueKit.Point
public import Idealize.ShloMosaic.Lib.Quiescent
public import Idealize.ShloMosaic.Lib.Pointwise
public import Idealize.ShloMosaic.Lib.IdealHost

@[expose] public section

set_option maxRecDepth 16384

noncomputable section

open Cert.Kernel6Ideal Cert.Kernel6Ideal.Gen Idealize.ShloMosaic Idealize.ShloMosaic.TcCoe Idealize.SL.Sem
open Idealize.ShloMosaic.Pipeline (Dat)

namespace Cert.Proof.GateProj

theorem half_bits : Ideal.ofBits .f32 0x3F000000#32 = ((1 / 2 : ℝ) : EReal) := by
  simp [Ideal.ofBits, Ideal.ieee, -EReal.coe_mul]; norm_num

theorem half_tanh_real (r : ℝ) : 1 / 2 + 1 / 2 * Real.tanh (1 / 2 * r) = 1 / (1 + Real.exp (-r)) := by
  have e : Real.exp (-r) = Real.exp (-(1 / 2 * r)) * Real.exp (-(1 / 2 * r)) := by rw [← Real.exp_add]; congr 1; ring
  have h : Real.exp (1 / 2 * r) * Real.exp (-(1 / 2 * r)) = 1 := by rw [← Real.exp_add, add_neg_cancel, Real.exp_zero]
  rw [Real.tanh_eq_sinh_div_cosh, Real.sinh_eq, Real.cosh_eq, e]
  have p := Real.exp_pos (1 / 2 * r)
  have q := Real.exp_pos (-(1 / 2 * r))
  generalize Real.exp (1 / 2 * r) = a at *
  generalize Real.exp (-(1 / 2 * r)) = b at *
  have s : a + b ≠ 0 := by positivity
  have s' : 1 + b * b ≠ 0 := by positivity
  field_simp
  linear_combination (b * 2) * h

/-- Half of one plus the hyperbolic tangent of the half is the logistic function, at the infinities too. -/
theorem half_tanh (x : EReal) : Ideal.ofBits .f32 0x3F000000#32 + Ideal.ofBits .f32 0x3F000000#32 * Ideal.tanh (Ideal.ofBits .f32 0x3F000000#32 * x)
    = Ideal.div 1 (1 + Ideal.exp (-x)) := by
  rw [half_bits]
  induction x with
  | bot =>
    rw [EReal.coe_mul_bot_of_pos (by norm_num), Ideal.tanh_bot, EReal.neg_bot, Ideal.exp_top]
    rw [show (1 : EReal) + ⊤ = ⊤ from rfl]
    unfold Ideal.div
    rw [if_neg (by decide), EReal.inv_top, mul_zero, ← EReal.coe_one, ← EReal.coe_neg, ← EReal.coe_mul, ← EReal.coe_add]
    norm_num
  | top =>
    rw [EReal.coe_mul_top_of_pos (by norm_num), Ideal.tanh_top, EReal.neg_top, Ideal.exp_bot, add_zero, mul_one]
    unfold Ideal.div
    rw [if_neg one_ne_zero, inv_one, mul_one, ← EReal.coe_add]
    norm_num
  | coe r =>
    have p : 1 + Real.exp (-r) ≠ 0 := by positivity
    rw [← EReal.coe_mul, Ideal.tanh_coe, ← EReal.coe_mul, ← EReal.coe_add, ← EReal.coe_neg, Ideal.exp_coe, ← EReal.coe_one, ← EReal.coe_add, Ideal.div_coe p, ← EReal.coe_mul, one_mul,
      half_tanh_real]

/-- The logistic function of a product of rows plus a bias, at a position; the bias lies in two rows of its own. -/
def gates (a : Vec Ideal S8192x4096 .f32) (w : Vec Ideal S8192x4096 .bf16) (b : Vec Ideal S2x4096 .f32) : Vec Ideal S8192x8192 .f32 := fun y =>
  Ideal.div 1 (1 + Ideal.exp (-((∑ x : Fin 4096, (a (ix2 (y 0) x) : EReal) * w (ix2 (y 1) x))
    + b (ix2 ⟨(y 1).val / 4096, by have : (y 1).val < 8192 := (y 1).isLt; omega⟩ ⟨(y 1).val % 4096, by omega⟩))))

theorem pay_at (x0 x1 : Vec Ideal S1024x4096 .bf16) (x2 : Vec Ideal S1x1024 .f32) (r d : Fin 1024) :
    k0_pay1 x0 x1 x2 (ix2 r d) = Ideal.div 1 (1 + Ideal.exp (-((∑ x : Fin 4096, (x0 (ix2 r x) : EReal) * x1 (ix2 d x)) + x2 (ix2 0 d)))) := by
  rw [← half_tanh]
  pointwise [k0_pay1]

theorem out_eq (x0 x1 : Vec Ideal S1024x4096 .bf16) (x2 : Vec Ideal S1x1024 .f32) : out0_3 x0 x1 x2 = k0_pay1 x0 x1 x2 := by
  unfold out0_3
  rw [View.canon_cons_unit_lit _ _ _ (by decide)]
  exact congr (congr (congrArg _ (View.ld_unit_lit _ _ (by decide))) (View.ld_unit_lit _ _ (by decide))) (View.ld_unit_lit _ _ (by decide))

theorem idx0 : ∀ t : Fin cfg0.N, win0_0.index t = ![t.val / 8, 0] := (by decide +kernel : ∀ t : Fin grid0.N, _)
theorem idx1 : ∀ t : Fin cfg0.N, win0_1.index t = ![1024 * (t.val % 8), 0] := (by decide +kernel : ∀ t : Fin grid0.N, _)
theorem idx2 : ∀ t : Fin cfg0.N, win0_2.index t = ![0, t.val % 8] := (by decide +kernel : ∀ t : Fin grid0.N, _)
theorem idx3 : ∀ t : Fin cfg0.N, win0_3.index t = ![t.val / 8, t.val % 8] := (by decide +kernel : ∀ t : Fin grid0.N, _)

variable (m : (ℓ : Loc nD τ sig) → Buf (Elt Ideal) ℓ)

theorem rows_at (c : Dev nD) : (V m c main_v0 : Vec Ideal S8192x4096 .bf16) = (m ((c : Thread nD τ).loc main_arg0) : Vec Ideal S8192x4096 .f32) := by
  funext y
  simp only [V, hostOps0, List.flatten_cons, List.flatten_nil, List.append_nil, List.cons_append, List.nil_append]
  entry_read
  rfl

theorem bias_at (c : Dev nD) (j : Fin 8192) : (V m c main_v1 : Vec Ideal S1x8192 .f32) (ix2 0 j)
    = (m ((c : Thread nD τ).loc main_arg2) : Vec Ideal S2x4096 .f32) (ix2 ⟨j.val / 4096, by omega⟩ ⟨j.val % 4096, by omega⟩) := by
  simp only [V, hostOps0, List.flatten_cons, List.flatten_nil, List.append_nil, List.cons_append, List.nil_append]
  entry_read
  pointwise

theorem result (c : Dev nD) : (dats m 0 c).arrAt 3 cfg0.N
    = gates (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ r d : Fin 1024, y = ix2 r d := ⟨y 0, y 1, eq_ix2 y⟩
  blk_simp
  rw [after0_3, out_eq, pay_at]
  unfold gates
  refine congrArg (fun z : EReal => Ideal.div 1 (1 + Ideal.exp (-z))) (congrArg₂ (· + ·) ?_ ?_)
  · blk_point [iblk, idx0 t, idx3 t, rows_at, V_main_arg1]
    · show win0_1.index t 0 + 1 * d.val = _
      rw [idx1 t]; show 1024 * (t.val % 8) + 1 * d.val = _; omega
    · show win0_1.index t 1 + 1 * x.val = _
      rw [idx1 t]; show 0 + 1 * x.val = _; omega
  · have e : iblk m c 2 t (ix2 0 d) = (V m c main_v1 : Vec Ideal S1x8192 .f32) (ix2 0 ⟨1024 * (t.val % 8) + d.val, by omega⟩) := by
      blk_simp [iblk]
      blk_ext [idx2 t]
    refine e.trans ((bias_at m c _).trans ?_)
    blk_ext [idx3 t]

theorem reference (a : FVec Ideal S8192x4096 .f32) (w : FVec Ideal S8192x4096 .bf16) (b : FVec Ideal S2x4096 .f32) :
    Host.divf (broadcastInDim S8192x8192 ![] Cert.Reference6Ideal.Gen.bcast_S_S8192x8192 (constant Cert.Reference6Ideal.S_ .f32 0x3F800000#32 : FVec Ideal _ .f32))
      (addf (broadcastInDim S8192x8192 ![] Cert.Reference6Ideal.Gen.bcast_S_S8192x8192 (constant Cert.Reference6Ideal.S_ .f32 0x3F800000#32))
        (Host.exp (Host.negf (addf (Host.dotGeneral Cert.Reference6Ideal.dot_S8192x4096_S8192x4096_S8192x8192_1_1_0_0_n_n none a w)
          (broadcastInDim S8192x8192 ![0, 1] Cert.Reference6Ideal.Gen.bcast_S1x8192_S8192x8192_0_1
            (broadcastInDim S1x8192 ![1] Cert.Reference6Ideal.Gen.bcast_S8192_S1x8192_1 (shapeCast _ b Cert.Reference6Ideal.Gen.shapeCasts_S2x4096_S8192))))))) = gates a w b := by
  funext y
  obtain ⟨r, d, rfl⟩ : ∃ r d : Fin 8192, y = ix2 r d := ⟨y 0, y 1, eq_ix2 y⟩
  unfold gates
  pointwise []

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel and the reference leave the same gates. -/
theorem same : Cert.algebraic_Kernel6Ideal_Reference6Ideal := fun m ρ m' ρ' _ ha => by
  refine ⟨_, Cert.Kernel6Ideal.Value.run_blocks (F := Ideal) m ρ,
    (θ_run Cert.Reference6Ideal.defs _ _).mono (fun r h c => ?_) (Cert.Reference6Ideal.Value.run (F := Ideal) m' ρ')⟩
  obtain ⟨h0, hr⟩ := h c
  obtain ⟨a0, a1, a2⟩ := ha c
  refine ⟨h0.trans ?_, hr⟩
  rw [result m c, a0, a1, a2]
  exact reference _ _ _

end Cert.Proof.GateProj
-- ==== Proof.SsdProj.lean ====
/-
  The projection to the state space part's inputs: every element is a row's product with a row of the weights; the other two results are rows of the weights, rounded.
-/
module

public import proofs.«01_k».proof.Proof.Gen.Kernel7.Frame
public import proofs.«01_k».proof.Proof.Gen.Kernel7Ideal.Value
public import proofs.«01_k».proof.Proof.Gen.Reference7Ideal.Run
public import proofs.«01_k».proof.Defs
public import Idealize.ShloMosaic.Lib.Pipeline.ValueKit.Point
public import Idealize.ShloMosaic.Lib.Quiescent
public import Idealize.ShloMosaic.Lib.Pointwise
public import Idealize.ShloMosaic.Lib.IdealHost

@[expose] public section

set_option maxRecDepth 16384

noncomputable section

open Cert.Kernel7Ideal Cert.Kernel7Ideal.Gen Idealize.ShloMosaic Idealize.ShloMosaic.TcCoe Idealize.SL.Sem
open Idealize.ShloMosaic.Pipeline (Dat)

namespace Cert.Proof.SsdProj

/-- A product of rows at a position. -/
def projected (a : Vec Ideal S8192x4096 .f32) (w : Vec Ideal S18560x4096 .bf16) : Vec Ideal S8192x18432 .f32 := fun y =>
  ∑ x : Fin 4096, (a (ix2 (y 0) x) : EReal) * w (ix2 ⟨(y 1).val, by have : (y 1).val < 18432 := (y 1).isLt; omega⟩ x)

/-- The rows of the weights to queries, keys and values, and the rows of the weights to the gates. -/
def rowsQkv (w : Vec Ideal S39072x4096 .f32) : Vec Ideal S12288x4096 .bf16 := fun y =>
  w (ix2 ⟨18560 + (y 0).val, by have : (y 0).val < 12288 := (y 0).isLt; omega⟩ (y 1))
def rowsGate (w : Vec Ideal S39072x4096 .f32) : Vec Ideal S8192x4096 .bf16 := fun y =>
  w (ix2 ⟨30880 + (y 0).val, by have : (y 0).val < 8192 := (y 0).isLt; omega⟩ (y 1))

theorem pay_at (x0 x1 : Vec Ideal S1024x4096 .bf16) (r d : Fin 1024) :
    k0_pay3 x0 x1 (ix2 r d) = ∑ x : Fin 4096, (x0 (ix2 r x) : EReal) * x1 (ix2 d x) := by
  pointwise [k0_pay3]

variable (x0 x1 : Vec Ideal S1024x4096 .bf16) (x2 : Vec Ideal S96x4096 .f32) (x3 : Vec Ideal S64x4096 .f32)

theorem out_projected : out0_4 x0 x1 x2 x3 = k0_pay3 x0 x1 := by
  unfold out0_4
  rw [View.canon_cons_unit_lit _ _ _ (by decide)]
  exact congr (congrArg _ (View.ld_unit_lit _ _ (by decide))) (View.ld_unit_lit _ _ (by decide))

theorem out_qkv : out0_5 x0 x1 x2 x3 = k0_pay1 x2 := by
  unfold out0_5
  rw [View.canon_cons_unit_lit _ _ _ (by decide)]
  exact congrArg _ (View.ld_unit_lit _ _ (by decide))

theorem out_gate : out0_6 x0 x1 x2 x3 = k0_pay2 x3 := by
  unfold out0_6
  rw [View.canon_cons_unit_lit _ _ _ (by decide)]
  exact congrArg _ (View.ld_unit_lit _ _ (by decide))

theorem idx0 : ∀ t : Fin cfg0.N, win0_0.index t = ![t.val / 18, 0] := (by decide +kernel : ∀ t : Fin grid0.N, _)
theorem idx1 : ∀ t : Fin cfg0.N, win0_1.index t = ![1024 * (t.val % 18), 0] := (by decide +kernel : ∀ t : Fin grid0.N, _)
theorem idx2 : ∀ t : Fin cfg0.N, win0_2.index t = ![18560 + 96 * min t.val 127, 0] := (by decide +kernel : ∀ t : Fin grid0.N, _)
theorem idx3 : ∀ t : Fin cfg0.N, win0_3.index t = ![30880 + 64 * min t.val 127, 0] := (by decide +kernel : ∀ t : Fin grid0.N, _)
theorem idx4 : ∀ t : Fin cfg0.N, win0_4.index t = ![t.val / 18, t.val % 18] := (by decide +kernel : ∀ t : Fin grid0.N, _)
theorem idx5 : ∀ t : Fin cfg0.N, win0_5.index t = ![min t.val 127, 0] := (by decide +kernel : ∀ t : Fin grid0.N, _)
theorem idx6 : ∀ t : Fin cfg0.N, win0_6.index t = ![min t.val 127, 0] := (by decide +kernel : ∀ t : Fin grid0.N, _)

variable (m : (ℓ : Loc nD τ sig) → Buf (Elt Ideal) ℓ)

theorem rows_at (c : Dev nD) : (V m c main_v0 : Vec Ideal S8192x4096 .bf16) = (m ((c : Thread nD τ).loc main_arg0) : Vec Ideal S8192x4096 .f32) := by
  funext y
  simp only [V, hostOps0, List.flatten_cons, List.flatten_nil, List.append_nil, List.cons_append, List.nil_append]
  entry_read
  rfl

theorem result (c : Dev nD) : (dats m 0 c).arrAt 4 cfg0.N = projected (m ((c : Thread nD τ).loc main_arg0)) (m ((c : Thread nD τ).loc main_arg1)) := by
  refine (dats m 0 c).arrAt_eq_of_covers 4 _ (by decide +kernel) fun t _ y => ?_
  obtain ⟨r, d, rfl⟩ : ∃ r d : Fin 1024, y = ix2 r d := ⟨y 0, y 1, eq_ix2 y⟩
  blk_simp
  rw [after0_4, out_projected, pay_at]
  unfold projected
  blk_point [iblk, idx0 t, idx4 t, rows_at, V_main_arg1]
  · show win0_1.index t 0 + 1 * d.val = _
    rw [idx1 t]; show 1024 * (t.val % 18) + 1 * d.val = _; omega
  · show win0_1.index t 1 + 1 * x.val = _
    rw [idx1 t]; show 0 + 1 * x.val = _; omega

theorem qkv (c : Dev nD) : (dats m 0 c).arrAt 5 cfg0.N = rowsQkv (m ((c : Thread nD τ).loc main_arg2)) := by
  refine (dats m 0 c).arrAt_eq_of_covers 5 _ (by decide +kernel) fun t _ y => ?_
  obtain ⟨r, d, rfl⟩ : ∃ (r : Fin 96) (d : Fin 4096), y = ix2 r d := ⟨y 0, y 1, eq_ix2 y⟩
  blk_simp
  rw [after0_5, out_qkv]
  show iblk m c 2 t (ix2 r d) = _
  unfold rowsQkv
  blk_point [iblk, idx5 t, V_main_arg2]
  · show win0_2.index t 0 + 1 * r.val = _
    rw [idx2 t]; show 18560 + 96 * min t.val 127 + 1 * r.val = _; omega
  · show win0_2.index t 1 + 1 * d.val = _
    rw [idx2 t]; show 0 + 1 * d.val = _; omega

theorem gate (c : Dev nD) : (dats m 0 c).arrAt 6 cfg0.N = rowsGate (m ((c : Thread nD τ).loc main_arg2)) := by
  refine (dats m 0 c).arrAt_eq_of_covers 6 _ (by decide +kernel) fun t _ y => ?_
  obtain ⟨r, d, rfl⟩ : ∃ (r : Fin 64) (d : Fin 4096), y = ix2 r d := ⟨y 0, y 1, eq_ix2 y⟩
  blk_simp
  rw [after0_6, out_gate]
  show iblk m c 3 t (ix2 r d) = _
  unfold rowsGate
  blk_point [iblk, idx6 t, V_main_arg2]
  · show win0_3.index t 0 + 1 * r.val = _
    rw [idx3 t]; show 30880 + 64 * min t.val 127 + 1 * r.val = _; omega
  · show win0_3.index t 1 + 1 * d.val = _
    rw [idx3 t]; show 0 + 1 * d.val = _; omega

theorem reference (a : FVec Ideal S8192x4096 .f32) (w : FVec Ideal S18560x4096 .bf16) :
    Host.dotGeneral Cert.Reference7Ideal.dot_S8192x4096_S18432x4096_S8192x18432_1_1_0_0_n_n none a
      (extractStridedSlice Cert.Reference7Ideal.S18432x4096 ![0, 0] w Cert.Reference7Ideal.Gen.slices_S18560x4096_S18432x4096_0_0) = projected a w := by
  funext y
  obtain ⟨r, d, rfl⟩ : ∃ (r : Fin 8192) (d : Fin 18432), y = ix2 r d := ⟨y 0, y 1, eq_ix2 y⟩
  unfold projected
  pointwise []

theorem reference_qkv (w : FVec Ideal S39072x4096 .f32) :
    truncf .bf16 (extractStridedSlice S12288x4096 ![18560, 0] w Cert.Reference7Ideal.Gen.slices_S39072x4096_S12288x4096_18560_0) bitsLt_bf16_f32 = rowsQkv w := by
  funext y
  obtain ⟨r, d, rfl⟩ : ∃ (r : Fin 12288) (d : Fin 4096), y = ix2 r d := ⟨y 0, y 1, eq_ix2 y⟩
  unfold rowsQkv
  pointwise []

theorem reference_gate (w : FVec Ideal S39072x4096 .f32) :
    truncf .bf16 (extractStridedSlice S8192x4096 ![30880, 0] w Cert.Reference7Ideal.Gen.slices_S39072x4096_S8192x4096_30880_0) bitsLt_bf16_f32 = rowsGate w := by
  funext y
  obtain ⟨r, d, rfl⟩ : ∃ (r : Fin 8192) (d : Fin 4096), y = ix2 r d := ⟨y 0, y 1, eq_ix2 y⟩
  unfold rowsGate
  pointwise []

theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The kernel and the reference leave the same projection and the same rounded rows. -/
theorem same : Cert.algebraic_Kernel7Ideal_Reference7Ideal := fun m ρ m' ρ' _ ha => by
  refine ⟨_, _, _, Cert.Kernel7Ideal.Value.run_blocks (F := Ideal) m ρ,
    (θ_run Cert.Reference7Ideal.defs _ _).mono (fun r h c => ?_) (Cert.Reference7Ideal.Value.run (F := Ideal) m' ρ')⟩
  obtain ⟨h0, h1, h2, hr⟩ := h c
  obtain ⟨a0, a1, a2⟩ := ha c
  refine ⟨h0.trans ?_, h1.trans ?_, h2.trans ?_, hr⟩
  · rw [result m c, a0, a1]
    exact reference _ _
  · rw [qkv m c, a2]
    exact reference_qkv _
  · rw [gate m c, a2]
    exact reference_gate _

end Cert.Proof.SsdProj
-- ==== Proof.FfnUp.lean ====
/-
  The up projection with its convolution along the sequence and its gate.
-/
module

public import proofs.«01_k».proof.Proof.GateProj
public import proofs.«01_k».proof.Proof.Out
public import proofs.«01_k».proof.Proof.Gen.Kernel8.Frame
public import proofs.«01_k».proof.Proof.Gen.Kernel8Ideal.Value
public import proofs.«01_k».proof.Proof.Gen.Reference8Ideal.Run
public import proofs.«01_k».proof.Defs
public import Idealize.ShloMosaic.Lib.Pipeline.ValueKit.Point
public import Idealize.ShloMosaic.Lib.VecWindow
public import Idealize.ShloMosaic.Lib.Quiescent
public import Idealize.ShloMosaic.Lib.Pointwise
public import Idealize.ShloMosaic.Lib.IdealHost
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Proof.FfnUp

section
open Cert.Kernel8Ideal Cert.Kernel8Ideal.Gen

section
variable {F : FTy → Type} [FloatOps F]
variable (c : Dev nD) (i : grid0.Coords) (arg2 : Memref sig .tc .vmem S1024x4096 .bf16) (harg2 : arg2.IsWhole) (arg3 : Memref sig .tc .vmem S16x4096 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S3x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S32x4096 .f32) (harg10 : arg10.IsWhole) (arg11 : Memref sig .tc .vmem S1024x256 .bf16) (harg11 : arg11.IsWhole) (arg12 : Memref sig .tc .vmem S32x4096 .bf16) (harg12 : arg12.IsWhole) (arg13 : Memref sig .tc .vmem S2x4096x256 .bf16) (harg13 : arg13.IsWhole)
variable (x0 : Vec F S1024x4096 .bf16) (x1 : Vec F S16x4096 .bf16) (x2 : Vec F S4096x256 .f32) (x3 : Vec F S4096x256 .f32) (x4 : Vec F S3x256 .f32) (x5 : Vec F S3x256 .f32) (x6 : Vec F S1x256 .f32) (x7 : Vec F S1x256 .f32) (x8 : Vec F S32x4096 .f32)

/-- The elements of a view at a unit stride. -/
abbrev ld {sig : RefSig} {κ : Kind} {sp : Space} {s : Shape} {e : EltTy} (v : View sig κ sp s e) (f : BufTy.Contents (Elt F) v.ty) (size off : Fin s.rank → ℕ)
    (inb : ∀ a, off a + size a ≤ s.size a) := v.readAt (Elt F) (Rect.unit off size inb).toLoadRect f

/-- One of the two blocks of weights in the scratch. -/
abbrev half (x : Vec F S2x4096x256 .bf16) (p : Fin 2) : Vec F S1x4096x256 .bf16 :=
  VecWindow.window x ![p.val, 0, 0] S1x4096x256.size fun a => by
    fin_cases a <;> simp [S2x4096x256, S1x4096x256] <;> omega

/-- The two blocks of weights, the values' and the gates', rounded. -/
def pair (x2 x3 : Vec F S4096x256 .f32) : Vec F S2x4096x256 .bf16 := fun y =>
  if (y 0).val = 0 then k0_pay5 x2 (ix3 0 (y 1) (y 2)) else k0_pay6 x3 (ix3 0 (y 1) (y 2))

/-- What a point writes of the result: the whole block, then its first rows again. -/
def tileOf (w0 w1 : Vec F S1x4096x256 .bf16) : Vec F S1024x256 .bf16 :=
  VecWindow.put (k0_pay2 (k0_pay12 (k0_pay9 x0 w1) x5 (k0_pay11 x7)) (k0_pay15 x0 w0) x4 x6) ![0, 0] S16x256.size
    (k0_pay3 (k0_pay13 (k0_pay9 x0 w1) (k0_pay10 i x1 w1) x5 (k0_pay11 x7)) (k0_pay15 x0 w0) (k0_pay16 x1 (k0_pay7 i) w0) x4 x6)

theorem tileOf_congr {x0 x0' : Vec F S1024x4096 .bf16} {x1 x1' : Vec F S16x4096 .bf16} {x4 x4' x5 x5' : Vec F S3x256 .f32} {x6 x6' x7 x7' : Vec F S1x256 .f32}
    {w0 w0' w1 w1' : Vec F S1x4096x256 .bf16} (h0 : x0 = x0') (h1 : x1 = x1') (h4 : x4 = x4') (h5 : x5 = x5') (h6 : x6 = x6') (h7 : x7 = x7') (g0 : w0 = w0') (g1 : w1 = w1') :
    tileOf i x0 x1 x4 x5 x6 x7 w0 w1 = tileOf i x0' x1' x4' x5' x6' x7' w0' w1' := by
  subst h0 h1 h4 h5 h6 h7 g0 g1; rfl

/-- What a point writes of the result, the scratch holding the weights `W`. -/
abbrev tile (W : Vec F S2x4096x256 .bf16) : Vec F S1024x256 .bf16 := tileOf i x0 x1 x4 x5 x6 x7 (half W 0) (half W 1)

theorem out_B (hc0) (xs0 : Vec F S2x4096x256 .bf16) : out0_B_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0
    = tile i x0 x1 x4 x5 x6 x7 xs0 := by
  unfold out0_B_9 kernelRun0_B
  dsimp only
  rw [View.read_writes_cons_put _ _ _ _ _ rfl]
  refine (congrArg (fun z => VecWindow.put z _ _ _) (View.read_writes_full ..)).trans ?_
  refine Eq.trans (b := tileOf i (ld arg2.view (harg2.unread x0) S1024x4096.size ![0, 0] inb_S1024x4096_S1024x4096_0_0) (ld arg3.view (harg3.unread x1) S16x4096.size ![0, 0] inb_S16x4096_S16x4096_0_0)
      (ld arg6.view (harg6.unread x4) S3x256.size ![0, 0] inb_S3x256_S3x256_0_0) (ld arg7.view (harg7.unread x5) S3x256.size ![0, 0] inb_S3x256_S3x256_0_0)
      (ld arg8.view (harg8.unread x6) S1x256.size ![0, 0] inb_S1x256_S1x256_0_0) (ld arg9.view (harg9.unread x7) S1x256.size ![0, 0] inb_S1x256_S1x256_0_0)
      (ld arg13.view (harg13.unread xs0) S1x4096x256.size ![0, 0, 0] inb_S2x4096x256_S1x4096x256_0_0_0) (ld arg13.view (harg13.unread xs0) S1x4096x256.size ![1, 0, 0] inb_S2x4096x256_S1x4096x256_1_0_0)) rfl ?_
  refine tileOf_congr i ((View.readAt_full ..).trans (harg2.read_unread _)) ((View.readAt_full ..).trans (harg3.read_unread _)) ((View.readAt_full ..).trans (harg6.read_unread _))
    ((View.readAt_full ..).trans (harg7.read_unread _)) ((View.readAt_full ..).trans (harg8.read_unread _)) ((View.readAt_full ..).trans (harg9.read_unread _)) ?_ ?_
  · exact Fox.i_read _ _ (harg13.read_unread xs0) _ rfl _
  · exact Fox.i_read _ _ (harg13.read_unread xs0) _ rfl _

theorem fill_halves {κ : Kind} {sp : Space} (v : View sig κ sp S2x4096x256 .bf16) (p : Fin 2) :
    half (v.read (Elt F) (v.writes (Elt F) v.junk (kernelRun0_A.sl.HS0_2 c arg4 harg4 arg5 harg5 x2 x3))) p = half (pair x2 x3) p := by
  unfold kernelRun0_A.sl.HS0_2
  rw [View.read_writes_cons_put _ _ _ _ _ rfl, View.read_writes_cons_put _ _ _ _ _ rfl, View.readAt_full arg5.view, View.readAt_full arg4.view, harg4.read_unread, harg5.read_unread]
  obtain rfl | rfl : p = 0 ∨ p = 1 := by omega
  · refine (VecWindow.window_put_of_disjoint _ _ _ _ _ _ _ 0 (.inl (by decide))).trans ((VecWindow.window_put_same _ _ _ _ _).trans ?_)
    funext y
    obtain ⟨a, b, d, rfl⟩ : ∃ (a : Fin 1) (b : Fin 4096) (d : Fin 256), y = ix3 a b d := ⟨y 0, y 1, y 2, eq_ix3 y⟩
    obtain rfl : a = 0 := by omega
    refine Eq.trans ?_ (Fox.window_at (pair x2 x3) _ _ _ _ (ix3 0 b d) fun a => ?_).symm
    · rfl
    · fin_cases a <;> simp
  · refine (VecWindow.window_put_same _ _ _ _ _).trans ?_
    funext y
    obtain ⟨a, b, d, rfl⟩ : ∃ (a : Fin 1) (b : Fin 4096) (d : Fin 256), y = ix3 a b d := ⟨y 0, y 1, y 2, eq_ix3 y⟩
    obtain rfl : a = 0 := by omega
    refine Eq.trans ?_ (Fox.window_at (pair x2 x3) _ _ _ _ (ix3 1 b d) fun a => ?_).symm
    · rfl
    · fin_cases a <;> simp

theorem out_A (hc0) : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
    = tile i x0 x1 x4 x5 x6 x7 (pair x2 x3) := by
  unfold out0_A_9 kernelRun0_A
  dsimp only
  rw [View.read_writes_cons_put _ _ _ _ _ rfl]
  refine (congrArg (fun z => VecWindow.put z _ _ _) (View.read_writes_full ..)).trans ?_
  refine Eq.trans (b := tileOf i (ld arg2.view (harg2.unread x0) S1024x4096.size ![0, 0] inb_S1024x4096_S1024x4096_0_0) (ld arg3.view (harg3.unread x1) S16x4096.size ![0, 0] inb_S16x4096_S16x4096_0_0)
      (ld arg6.view (harg6.unread x4) S3x256.size ![0, 0] inb_S3x256_S3x256_0_0) (ld arg7.view (harg7.unread x5) S3x256.size ![0, 0] inb_S3x256_S3x256_0_0)
      (ld arg8.view (harg8.unread x6) S1x256.size ![0, 0] inb_S1x256_S1x256_0_0) (ld arg9.view (harg9.unread x7) S1x256.size ![0, 0] inb_S1x256_S1x256_0_0)
      (ld arg13.view (arg13.view.writes (Elt F) arg13.view.junk (kernelRun0_A.sl.HS0_2 c arg4 harg4 arg5 harg5 x2 x3)) S1x4096x256.size ![0, 0, 0] inb_S2x4096x256_S1x4096x256_0_0_0) (ld arg13.view (arg13.view.writes (Elt F) arg13.view.junk (kernelRun0_A.sl.HS0_2 c arg4 harg4 arg5 harg5 x2 x3)) S1x4096x256.size ![1, 0, 0] inb_S2x4096x256_S1x4096x256_1_0_0)) rfl ?_
  refine tileOf_congr i ((View.readAt_full ..).trans (harg2.read_unread _)) ((View.readAt_full ..).trans (harg3.read_unread _)) ((View.readAt_full ..).trans (harg6.read_unread _))
    ((View.readAt_full ..).trans (harg7.read_unread _)) ((View.readAt_full ..).trans (harg8.read_unread _)) ((View.readAt_full ..).trans (harg9.read_unread _)) ?_ ?_
  · exact (Fox.i_read _ _ rfl _ rfl _).trans (fill_halves c arg4 harg4 arg5 harg5 x2 x3 arg13.view 0)
  · exact (Fox.i_read _ _ rfl _ rfl _).trans (fill_halves c arg4 harg4 arg5 harg5 x2 x3 arg13.view 1)

theorem sout_A (hc0) : sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
    = pair x2 x3 := by
  unfold sout0_A_0 kernelRun0_A
  refine Eq.trans (b := VS0_0.read (Elt F) (VS0_0.writes (Elt F) VS0_0.junk (kernelRun0_A.sl.HS0_2 c arg4 harg4 arg5 harg5 x2 x3))) rfl ?_
  funext y
  have e := congrFun (fill_halves c arg4 harg4 arg5 harg5 x2 x3 VS0_0 (y 0)) (ix3 (0 : Fin 1) (y 1) (y 2))
  have q : ∀ x : Vec F S2x4096x256 .bf16, half x (y 0) (ix3 (0 : Fin 1) (y 1) (y 2)) = x y := fun x => congrArg x (funext fun a => Fin.ext (by
    fin_cases a
    · show (y 0).val + 1 * 0 = _; rfl
    · show 0 + 1 * (y 1).val = (y 1).val; omega
    · show 0 + 1 * (y 2).val = (y 2).val; omega))
  exact (q _).symm.trans (e.trans (q _))

theorem wout_A (hc0) : out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
    = k0_pay4 x8 := by
  unfold out0_A_10 kernelRun0_A
  refine (View.read_writes_full ..).trans (congrArg k0_pay4 ((View.readAt_full ..).trans (harg10.read_unread _)))

theorem wout_B (hc0) (xs0 : Vec F S2x4096x256 .bf16) : out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0
    = k0_pay4 x8 := by
  unfold out0_B_10 kernelRun0_B
  refine (View.read_writes_full ..).trans (congrArg k0_pay4 ((View.readAt_full ..).trans (harg10.read_unread _)))
end

/-- The kernel's form of `x` times the logistic function of `x`. -/
def silu (x : EReal) : EReal := Ideal.ofBits .f32 0x3F000000#32 * x + Ideal.ofBits .f32 0x3F000000#32 * x * Ideal.tanh (Ideal.ofBits .f32 0x3F000000#32 * x)

/-- Three taps, the last on the row itself. -/
def taps (k : Vec Ideal S3x256 .f32) (b : Vec Ideal S1x256 .f32) (d : Fin 256) (u2 u1 u0 : EReal) : EReal :=
  b (ix2 0 d) + (k (ix2 2 d) * u0 + (k (ix2 1 d) * u1 + k (ix2 0 d) * u2))

theorem row_eq (u : Vec Ideal S1024x256 .f32) (d : Fin 256) {n m : ℕ} (hn : n < 1024) (hm : m < 1024) (e : n = m) :
    u (ix2 ⟨n, hn⟩ d) = u (ix2 ⟨m, hm⟩ d) := by subst e; rfl

theorem pay12_at (u : FVec Ideal S1024x256 .f32) (k : Vec Ideal S3x256 .f32) (b : FVec Ideal S1x256 .f32) (r : Fin 1024) (d : Fin 256) (hr : 2 ≤ r.val) :
    k0_pay12 u k b (ix2 r d) = silu (taps k b d (u (ix2 ⟨r.val - 2, by omega⟩ d)) (u (ix2 ⟨r.val - 1, by omega⟩ d)) (u (ix2 r d))) := by
  unfold silu taps
  pointwise [k0_pay12]
  rw [row_eq u d (n := (r.val + 1024 - 1) % 1024) (m := r.val - 1) (by omega) (by omega) (by omega),
    row_eq u d (n := ((r.val + 1024 - 1) % 1024 + 1024 - 1) % 1024) (m := r.val - 2) (by omega) (by omega) (by omega)]

/-- The row `n` rows before row `r` of a block, the rows before the block's first in a second block's last rows. -/
def before (u : Vec Ideal S1024x256 .f32) (h : Vec Ideal S16x256 .f32) (d : Fin 256) (r n : ℕ) : EReal :=
  if n ≤ r then u (ix2 (Fin.ofNat 1024 (r - n)) d) else h (ix2 (Fin.ofNat 16 (16 + r - n)) d)

/-- The last `n` rows of the second block followed by the first block, at row `r`. -/
theorem join_at (u : Vec Ideal S1024x256 .f32) (h : Vec Ideal S16x256 .f32) (r : Fin 16) (d : Fin 256) (n : ℕ) (hn : n ≤ 2) (m : ℕ) (hm : m + n = 16)
    (q : ¬ m + r.val < 16 → m + r.val - 16 < 1024) :
    (if p : m + r.val < 16 then (h (ix2 ⟨m + r.val, p⟩ d) : EReal) else u (ix2 ⟨m + r.val - 16, q p⟩ d)) = before u h d r.val n := by
  unfold before
  by_cases p : n ≤ r.val
  · rw [if_pos p, dif_neg (by omega)]; congr 2; apply Fin.ext; simp only [Fin.val_ofNat]; omega
  · rw [if_neg p, dif_pos (by omega)]; congr 2; apply Fin.ext; simp only [Fin.val_ofNat]; omega

theorem swap (a b c d : EReal) : a + b + c + d = a + (b + (d + c)) := by rw [add_assoc, add_assoc, add_comm c d]

theorem pay13_at (u : FVec Ideal S1024x256 .f32) (h : FVec Ideal S16x256 .f32) (k : Vec Ideal S3x256 .f32) (b : FVec Ideal S1x256 .f32) (r : Fin 16) (d : Fin 256) :
    k0_pay13 u h k b (ix2 r d) = silu (taps k b d (before u h d r.val 2) (before u h d r.val 1) (u (ix2 ⟨r.val, by omega⟩ d))) := by
  unfold silu taps
  pointwise [k0_pay13]
  simp only [join_at u h r d 2 (by omega) 14 rfl, join_at u h r d 1 (by omega) 15 rfl, swap]

theorem pay2_at (g u : FVec Ideal S1024x256 .f32) (k : Vec Ideal S3x256 .f32) (b : Vec Ideal S1x256 .f32) (r : Fin 1024) (d : Fin 256) (hr : 2 ≤ r.val) :
    k0_pay2 g u k b (ix2 r d) = g (ix2 r d) * taps k b d (u (ix2 ⟨r.val - 2, by omega⟩ d)) (u (ix2 ⟨r.val - 1, by omega⟩ d)) (u (ix2 r d)) := by
  unfold taps
  pointwise [k0_pay2, k0_pay1]
  rw [row_eq u d (n := (r.val + 1024 - 1) % 1024) (m := r.val - 1) (by omega) (by omega) (by omega),
    row_eq u d (n := ((r.val + 1024 - 1) % 1024 + 1024 - 1) % 1024) (m := r.val - 2) (by omega) (by omega) (by omega)]

theorem pay3_at (g h : FVec Ideal S16x256 .f32) (u : FVec Ideal S1024x256 .f32) (k : Vec Ideal S3x256 .f32) (b : Vec Ideal S1x256 .f32) (r : Fin 16) (d : Fin 256) :
    k0_pay3 g u h k b (ix2 r d) = g (ix2 r d) * taps k b d (before u h d r.val 2) (before u h d r.val 1) (u (ix2 ⟨r.val, by omega⟩ d)) := by
  unfold taps
  pointwise [k0_pay3, k0_pay1]
  simp only [join_at u h r d 2 (by omega) 14 rfl, join_at u h r d 1 (by omega) 15 rfl, swap]

theorem pay16_at (x1 : Vec Ideal S16x4096 .bf16) (k : Ideal .f32) (w : Vec Ideal S1x4096x256 .bf16) (r : Fin 16) (d : Fin 256) :
    k0_pay16 x1 k w (ix2 r d) = (∑ x : Fin 4096, (x1 (ix2 r x) : EReal) * w (ix3 0 x d)) * k := by
  pointwise [k0_pay16, k0_pay14]

theorem pay15_at (x0 : Vec Ideal S1024x4096 .bf16) (w : Vec Ideal S1x4096x256 .bf16) (r : Fin 1024) (d : Fin 256) :
    k0_pay15 x0 w (ix2 r d) = ∑ x : Fin 4096, (x0 (ix2 r x) : EReal) * w (ix3 0 x d) := by
  pointwise [k0_pay15, k0_pay14]

theorem word_at (q : Fin 8) : ∀ v, v = BitVec.ofNat 32 q.val → (Scalar.extui (Scalar.cmpi .ne
    (Scalar.select (Scalar.andi (Scalar.xori (Scalar.cmpi .slt (Scalar.remsi v (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi v (Scalar.select (Scalar.cmpi .eq 4#32 0#32) 1#32 4#32)) 0#32))
      (Scalar.addi (Scalar.remsi v (Scalar.select (Scalar.cmpi .eq 4#32 0#32) 1#32 4#32)) (Scalar.select (Scalar.cmpi .eq 4#32 0#32) 1#32 4#32))
      (Scalar.remsi v (Scalar.select (Scalar.cmpi .eq 4#32 0#32) 1#32 4#32))) 0#32) : BitVec 32) = if q.val % 4 = 0 then 0#32 else 1#32 := by
  revert q; simp only [forall_eq]; decide +kernel

theorem pay7_at (t : Fin cfg0.N) : k0_pay7 (F := Ideal) (grid0.coords t) = if t.val % 4 = 0 then 0 else 1 := by
  have e1 : (grid0.coords t 1).val = t.val % 8 := by
    have h : (grid0.coords t 1).val = t.val / 1 % 8 := Pipeline.Grid.coords_val t 1 (by decide) rfl
    rw [h]; omega
  unfold k0_pay7
  dsimp only
  rw [e1]
  rw [word_at ⟨t.val % 8, Nat.mod_lt _ (by decide)⟩ _ rfl]
  dsimp only
  rw [Nat.mod_mod_of_dvd _ (by decide)]
  split
  · show ((((0#32 : BitVec 32).toInt : ℤ) : ℝ) : EReal) = 0
    norm_num
  · show ((((1#32 : BitVec 32).toInt : ℤ) : ℝ) : EReal) = 1
    norm_num

theorem pay9_at (x0 : Vec Ideal S1024x4096 .bf16) (w : Vec Ideal S1x4096x256 .bf16) (r : Fin 1024) (d : Fin 256) :
    k0_pay9 x0 w (ix2 r d) = ∑ x : Fin 4096, (x0 (ix2 r x) : EReal) * w (ix3 0 x d) := by
  pointwise [k0_pay9, k0_pay8]

theorem pay10_at (i : grid0.Coords) (x1 : Vec Ideal S16x4096 .bf16) (w : Vec Ideal S1x4096x256 .bf16) (r : Fin 16) (d : Fin 256) :
    k0_pay10 i x1 w (ix2 r d) = (∑ x : Fin 4096, (x1 (ix2 r x) : EReal) * w (ix3 0 x d)) * k0_pay7 (F := Ideal) i := by
  pointwise [k0_pay10, k0_pay8]

theorem silu_eq (x : EReal) (h : x ≠ ⊥) : silu x = x * Ideal.div 1 (1 + Ideal.exp (-x)) := by
  rw [← GateProj.half_tanh]
  unfold silu
  rw [GateProj.half_bits]
  induction x with
  | bot => exact absurd rfl h
  | coe r =>
    rw [← EReal.coe_mul, Ideal.tanh_coe]
    simp only [← EReal.coe_mul, ← EReal.coe_add]
    congr 1; ring
  | top =>
    rw [EReal.coe_mul_top_of_pos (by norm_num), Ideal.tanh_top, mul_one, mul_one, EReal.top_add_top, ← EReal.coe_add, EReal.top_mul_coe_of_pos (by norm_num)]

/-- A product of a row and a column. -/
def line (a : Vec Ideal S8192x4096 .bf16) (w : Vec Ideal S4096x22016 .f32) (i : Fin 8192) (j : Fin 22016) : EReal :=
  ∑ x : Fin 4096, (a (ix2 i x) : EReal) * w (ix2 x j)

/-- The product `n` rows before, in the same half of the rows; zero before the half's first row. -/
def prev (a : Vec Ideal S8192x4096 .bf16) (w : Vec Ideal S4096x22016 .f32) (i : Fin 8192) (j : Fin 22016) (n : ℕ) : EReal :=
  if n ≤ i.val % 4096 then line a w ⟨i.val - n, by omega⟩ j else 0

/-- The convolved projection. -/
def conv (a : Vec Ideal S8192x4096 .bf16) (w : Vec Ideal S4096x22016 .f32) (k : Vec Ideal S3x22016 .f32) (b : Vec Ideal S22016 .f32) (i : Fin 8192) (j : Fin 22016) : EReal :=
  b (ix1 j) + (k (ix2 2 j) * prev a w i j 0 + (k (ix2 1 j) * prev a w i j 1 + k (ix2 0 j) * prev a w i j 2))

/-- The gated values. -/
def act (a : Vec Ideal S8192x4096 .bf16) (w : Vec Ideal S4096x22016 .f32) (k : Vec Ideal S3x22016 .f32) (b : Vec Ideal S22016 .f32) : Vec Ideal S8192x11008 .bf16 := fun y =>
  conv a w k b (y 0) ⟨11008 + (y 1).val, by have : (y 1).val < 11008 := (y 1).isLt; omega⟩
    * Ideal.div 1 (1 + Ideal.exp (-conv a w k b (y 0) ⟨11008 + (y 1).val, by have : (y 1).val < 11008 := (y 1).isLt; omega⟩))
    * conv a w k b (y 0) ⟨(y 1).val, by have : (y 1).val < 11008 := (y 1).isLt; omega⟩

theorem before_of_le (u : Vec Ideal S1024x256 .f32) (h : Vec Ideal S16x256 .f32) (d : Fin 256) (r : Fin 1024) (n : ℕ) (e : n ≤ r.val) :
    before u h d r.val n = u (ix2 ⟨r.val - n, by omega⟩ d) := by
  unfold before
  rw [if_pos e]
  exact row_eq u d _ _ (Nat.mod_eq_of_lt (by omega))

/-- An element of the block a point writes. -/
theorem tile_at (i : grid0.Coords) (x0 : Vec Ideal S1024x4096 .bf16) (x1 : Vec Ideal S16x4096 .bf16) (x4 x5 : Vec Ideal S3x256 .f32) (x6 x7 : Vec Ideal S1x256 .f32)
    (w0 w1 : Vec Ideal S1x4096x256 .bf16) (r : Fin 1024) (d : Fin 256) :
    tileOf i x0 x1 x4 x5 x6 x7 w0 w1 (ix2 r d)
      = silu (taps x5 x7 d (before (k0_pay9 x0 w1) (k0_pay10 i x1 w1) d r.val 2) (before (k0_pay9 x0 w1) (k0_pay10 i x1 w1) d r.val 1) (before (k0_pay9 x0 w1) (k0_pay10 i x1 w1) d r.val 0))
        * taps x4 x6 d (before (k0_pay15 x0 w0) (k0_pay16 x1 (k0_pay7 i) w0) d r.val 2) (before (k0_pay15 x0 w0) (k0_pay16 x1 (k0_pay7 i) w0) d r.val 1)
          (before (k0_pay15 x0 w0) (k0_pay16 x1 (k0_pay7 i) w0) d r.val 0) := by
  have e7 : k0_pay11 x7 = x7 := by
    funext y
    obtain ⟨p, j, rfl⟩ : ∃ (p : Fin 1) (j : Fin 256), y = ix2 p j := ⟨y 0, y 1, eq_ix2 y⟩
    pointwise [k0_pay11]
  rw [before_of_le _ _ d r 0 (Nat.zero_le _), before_of_le _ _ d r 0 (Nat.zero_le _)]
  unfold tileOf VecWindow.put
  rw [e7]
  by_cases q : r.val < 16
  · rw [dif_pos (by intro a; fin_cases a; exact ⟨Nat.zero_le _, by show r.val < 0 + 16; omega⟩; exact ⟨Nat.zero_le _, by show d.val < 0 + 256; omega⟩)]
    refine (congrArg (k0_pay3 _ _ _ _ _) (?_ : _ = (ix2 (⟨r.val, q⟩ : Fin 16) d : S16x256.Idx))).trans ?_
    · funext a
      apply Fin.ext
      fin_cases a
      · show r.val - 0 = r.val; omega
      · show d.val - 0 = d.val; omega
    rw [pay3_at, pay13_at]
    rfl
  · rw [dif_neg (by intro h; exact q (by have := (h 0).2; have : r.val < 0 + 16 := this; omega))]
    rw [pay2_at _ _ _ _ r d (by omega), pay12_at _ _ _ r d (by omega), before_of_le _ _ d r 1 (by omega), before_of_le _ _ d r 2 (by omega), before_of_le _ _ d r 1 (by omega),
      before_of_le _ _ d r 2 (by omega)]
    rfl

theorem idx0 : ∀ t : Fin cfg0.N, win0_0.index t = ![t.val % 8, 0] := (by decide +kernel : ∀ t : Fin grid0.N, _)
theorem idx1 : ∀ t : Fin cfg0.N, win0_1.index t = ![64 * (t.val % 8) - 1, 0] := (by decide +kernel : ∀ t : Fin grid0.N, _)
theorem idx2 : ∀ t : Fin cfg0.N, win0_2.index t = ![0, t.val / 8] := (by decide +kernel : ∀ t : Fin grid0.N, _)
theorem idx3 : ∀ t : Fin cfg0.N, win0_3.index t = ![0, 43 + t.val / 8] := (by decide +kernel : ∀ t : Fin grid0.N, _)
theorem idx4 : ∀ t : Fin cfg0.N, win0_4.index t = ![0, t.val / 8] := (by decide +kernel : ∀ t : Fin grid0.N, _)
theorem idx5 : ∀ t : Fin cfg0.N, win0_5.index t = ![0, 43 + t.val / 8] := (by decide +kernel : ∀ t : Fin grid0.N, _)
theorem idx6 : ∀ t : Fin cfg0.N, win0_6.index t = ![0, t.val / 8] := (by decide +kernel : ∀ t : Fin grid0.N, _)
theorem idx7 : ∀ t : Fin cfg0.N, win0_7.index t = ![0, 43 + t.val / 8] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val % 8, t.val / 8] := (by decide +kernel : ∀ t : Fin grid0.N, _)
theorem idx10 : ∀ t : Fin cfg0.N, win0_10.index t = ![t.val, 0] := (by decide +kernel : ∀ t : Fin grid0.N, _)

variable (m : (ℓ : Loc nD τ sig) → Buf (Elt Ideal) ℓ)

theorem lt344 (t : Fin cfg0.N) : t.val < 344 := t.isLt

theorem row_at (c : Dev nD) (t : Fin cfg0.N) (r : Fin 1024) (x : Fin 4096) : iblk m c 0 t (ix2 r x)
    = (m ((c : Thread nD τ).loc main_arg0) : Vec Ideal S8192x4096 .bf16) (ix2 ⟨1024 * (t.val % 8) + r.val, by omega⟩ x) := by
  blk_simp [iblk]
  rw [V_main_arg0]
  blk_ext [idx0 t]

theorem halo_at (c : Dev nD) (t : Fin cfg0.N) (r : Fin 16) (x : Fin 4096) : iblk m c 1 t (ix2 r x)
    = (m ((c : Thread nD τ).loc main_arg0) : Vec Ideal S8192x4096 .bf16) (ix2 ⟨16 * (64 * (t.val % 8) - 1) + r.val, by omega⟩ x) := by
  blk_simp [iblk]
  rw [V_main_arg0]
  blk_ext [idx1 t]

theorem value_at (c : Dev nD) (t : Fin cfg0.N) (x : Fin 4096) (d : Fin 256) : iblk m c 2 t (ix2 x d)
    = (m ((c : Thread nD τ).loc main_arg1) : Vec Ideal S4096x22016 .f32) (ix2 x ⟨256 * (t.val / 8) + d.val, by have := lt344 t; omega⟩) := by
  blk_simp [iblk]
  rw [V_main_arg1]
  blk_ext [idx2 t]

theorem gate_at (c : Dev nD) (t : Fin cfg0.N) (x : Fin 4096) (d : Fin 256) : iblk m c 3 t (ix2 x d)
    = (m ((c : Thread nD τ).loc main_arg1) : Vec Ideal S4096x22016 .f32) (ix2 x ⟨11008 + (256 * (t.val / 8) + d.val), by have := lt344 t; omega⟩) := by
  blk_simp [iblk]
  rw [V_main_arg1]
  blk_ext [idx3 t]

theorem vtap_at (c : Dev nD) (t : Fin cfg0.N) (x : Fin 3) (d : Fin 256) : iblk m c 4 t (ix2 x d)
    = (m ((c : Thread nD τ).loc main_arg2) : Vec Ideal S3x22016 .f32) (ix2 x ⟨256 * (t.val / 8) + d.val, by have := lt344 t; omega⟩) := by
  blk_simp [iblk]
  rw [V_main_arg2]
  blk_ext [idx4 t]

theorem gtap_at (c : Dev nD) (t : Fin cfg0.N) (x : Fin 3) (d : Fin 256) : iblk m c 5 t (ix2 x d)
    = (m ((c : Thread nD τ).loc main_arg2) : Vec Ideal S3x22016 .f32) (ix2 x ⟨11008 + (256 * (t.val / 8) + d.val), by have := lt344 t; omega⟩) := by
  blk_simp [iblk]
  rw [V_main_arg2]
  blk_ext [idx5 t]

theorem bias_at (c : Dev nD) (j : Fin 22016) : (V m c main_v0 : Vec Ideal S1x22016 .f32) (ix2 0 j)
    = (m ((c : Thread nD τ).loc main_arg3) : Vec Ideal S22016 .f32) (ix1 j) := by
  simp only [V, hostOps0, List.flatten_cons, List.flatten_nil, List.append_nil, List.cons_append, List.nil_append]
  entry_read
  pointwise

theorem vbias_at (c : Dev nD) (t : Fin cfg0.N) (d : Fin 256) : iblk m c 6 t (ix2 0 d)
    = (m ((c : Thread nD τ).loc main_arg3) : Vec Ideal S22016 .f32) (ix1 ⟨256 * (t.val / 8) + d.val, by have := lt344 t; omega⟩) := by
  refine Eq.trans ?_ (bias_at m c _)
  blk_simp [iblk]
  blk_ext [idx6 t]

theorem gbias_at (c : Dev nD) (t : Fin cfg0.N) (d : Fin 256) : iblk m c 7 t (ix2 0 d)
    = (m ((c : Thread nD τ).loc main_arg3) : Vec Ideal S22016 .f32) (ix1 ⟨11008 + (256 * (t.val / 8) + d.val), by have := lt344 t; omega⟩) := by
  refine Eq.trans ?_ (bias_at m c _)
  blk_simp [iblk]
  blk_ext [idx7 t]

theorem half_at (x2 x3 : Vec Ideal S4096x256 .f32) (x : Fin 4096) (d : Fin 256) :
    half (pair x2 x3) 0 (ix3 0 x d) = x2 (ix2 x d) ∧ half (pair x2 x3) 1 (ix3 0 x d) = x3 (ix2 x d) := by
  have e : ∀ p : Fin 2, half (pair x2 x3) p (ix3 0 x d) = pair x2 x3 (ix3 p x d) := fun p => congrArg (pair x2 x3) (funext fun a => Fin.ext (by
    fin_cases a
    · show p.val + 1 * 0 = p.val; omega
    · show 0 + 1 * x.val = x.val; omega
    · show 0 + 1 * d.val = d.val; omega))
  constructor
  · rw [e]
    refine (if_pos rfl).trans ?_
    show k0_pay5 x2 (ix3 0 x d) = _
    pointwise [k0_pay5]
  · rw [e]
    refine (if_neg (show ¬(1 : ℕ) = 0 by decide)).trans ?_
    show k0_pay6 x3 (ix3 0 x d) = _
    pointwise [k0_pay6]

theorem pair_prev (c : Dev nD) (t t' : Fin cfg0.N) (h : t.val / 8 = t'.val / 8) : pair (iblk m c 2 t) (iblk m c 3 t) = pair (iblk m c 2 t') (iblk m c 3 t') := by
  congr 1
  · funext y
    obtain ⟨r, d, rfl⟩ : ∃ (r : Fin 4096) (d : Fin 256), y = ix2 r d := ⟨y 0, y 1, eq_ix2 y⟩
    refine (value_at m c t r d).trans (.trans ?_ (value_at m c t' r d).symm)
    congr 3; rw [h]
  · funext y
    obtain ⟨r, d, rfl⟩ : ∃ (r : Fin 4096) (d : Fin 256), y = ix2 r d := ⟨y 0, y 1, eq_ix2 y⟩
    refine (gate_at m c t r d).trans (.trans ?_ (gate_at m c t' r d).symm)
    congr 3; rw [h]

theorem pair_A (c : Dev nD) (t : Fin cfg0.N) (h0 : t.val % 8 = 0) : (outsAt0 m c t.val t.isLt).2.2 = pair (iblk m c 2 t) (iblk m c 3 t) := by
  rw [outsAt0_A m c t h0]; dsimp only; exact sout_A ..

theorem pair_B (c : Dev nD) (t : Fin cfg0.N) (h0 : ¬t.val % 8 = 0) :
    (outsAt0 m c t.val t.isLt).2.2 = (outsAt0 m c (t.val - 1) (Nat.lt_of_le_of_lt (Nat.sub_le _ _) t.isLt)).2.2 := by
  rw [outsAt0_B m c t h0]; rfl

/-- What a point leaves in the scratch: its column's weights. -/
theorem pair_out (c : Dev nD) (n : ℕ) : ∀ t : Fin cfg0.N, t.val = n → (outsAt0 m c t.val t.isLt).2.2 = pair (iblk m c 2 t) (iblk m c 3 t) := by
  induction n with
  | zero => exact fun t ht => pair_A m c t (by rw [ht])
  | succ n ih =>
    intro t ht
    by_cases h0 : t.val % 8 = 0
    · exact pair_A m c t h0
    · rw [pair_B m c t h0]
      refine (ih ⟨t.val - 1, by omega⟩ (by show t.val - 1 = n; omega)).trans (pair_prev m c _ _ ?_)
      show (t.val - 1) / 8 = t.val / 8
      omega

theorem block_eq (c : Dev nD) (t : Fin cfg0.N) : (outsAt0 m c t.val t.isLt).1
    = tile (grid0.coords t) (iblk m c 0 t) (iblk m c 1 t) (iblk m c 4 t) (iblk m c 5 t) (iblk m c 6 t) (iblk m c 7 t) (pair (iblk m c 2 t) (iblk m c 3 t)) := by
  by_cases h0 : t.val % 8 = 0
  · rw [outsAt0_A m c t h0]
    dsimp only
    exact out_A ..
  · rw [outsAt0_B m c t h0]
    dsimp only
    rw [out_B]
    refine congrArg (tile _ _ _ _ _ _ _) ?_
    refine (pair_out m c _ ⟨t.val - 1, by omega⟩ rfl).trans (pair_prev m c _ _ ?_)
    show (t.val - 1) / 8 = t.val / 8
    omega

theorem down_eq (c : Dev nD) (t : Fin cfg0.N) : (outsAt0 m c t.val t.isLt).2.1 = k0_pay4 (iblk m c 8 t) := by
  by_cases h0 : t.val % 8 = 0
  · rw [outsAt0_A m c t h0]
    dsimp only
    exact wout_A ..
  · rw [outsAt0_B m c t h0]
    dsimp only
    exact wout_B ..

/-- The rows a point reads, in the terms of the whole arrays. -/
theorem before_at (c : Dev nD) (t : Fin cfg0.N) (x0 : Vec Ideal S1024x4096 .bf16) (h0 : x0 = iblk m c 0 t) (x1 : Vec Ideal S16x4096 .bf16) (h1 : x1 = iblk m c 1 t) (w : Vec Ideal S1x4096x256 .bf16) (u : Vec Ideal S1024x256 .f32) (h : Vec Ideal S16x256 .f32) (r : Fin 1024) (d : Fin 256) (j : Fin 22016)
    (hu : ∀ r : Fin 1024, u (ix2 r d) = ∑ x : Fin 4096, (x0 (ix2 r x) : EReal) * w (ix3 0 x d))
    (hh : ∀ r : Fin 16, h (ix2 r d) = (∑ x : Fin 4096, (x1 (ix2 r x) : EReal) * w (ix3 0 x d)) * k0_pay7 (F := Ideal) (grid0.coords t))
    (hw : ∀ x : Fin 4096, w (ix3 0 x d) = (m ((c : Thread nD τ).loc main_arg1) : Vec Ideal S4096x22016 .f32) (ix2 x j)) (n : ℕ) (hn : n ≤ 2) :
    before u h d r.val n = prev (m ((c : Thread nD τ).loc main_arg0)) (m ((c : Thread nD τ).loc main_arg1)) ⟨1024 * (t.val % 8) + r.val, by omega⟩ j n := by
  unfold prev
  dsimp only
  by_cases p : n ≤ r.val
  · rw [before_of_le u h d r n p, hu, if_pos (by omega)]
    unfold line
    refine Finset.sum_congr rfl fun x _ => ?_
    rw [h0, row_at, hw]
    congr 3
    apply Fin.ext
    dsimp only
    omega
  · unfold before
    rw [if_neg p, hh, pay7_at]
    by_cases q : t.val % 4 = 0
    · rw [if_pos q, mul_zero, if_neg (by omega)]
    · rw [if_neg q, mul_one, if_pos (by omega)]
      unfold line
      refine Finset.sum_congr rfl fun x _ => ?_
      rw [h1, halo_at, hw]
      congr 3
      apply Fin.ext
      simp only [Fin.val_ofNat]
      omega

theorem taps_at (k : Vec Ideal S3x256 .f32) (b : Vec Ideal S1x256 .f32) (a : Vec Ideal S8192x4096 .bf16) (w : Vec Ideal S4096x22016 .f32) (K : Vec Ideal S3x22016 .f32) (B : Vec Ideal S22016 .f32)
    (d : Fin 256) (i : Fin 8192) (j : Fin 22016) (hk : ∀ n, k (ix2 n d) = K (ix2 n j)) (hb : b (ix2 0 d) = B (ix1 j)) :
    taps k b d (prev a w i j 2) (prev a w i j 1) (prev a w i j 0) = conv a w K B i j := by
  unfold taps conv
  rw [hk, hk, hk, hb]

/-- The arrays a launch reads. -/
abbrev A (c : Dev nD) : Vec Ideal S8192x4096 .bf16 := m ((c : Thread nD τ).loc main_arg0)
abbrev U (c : Dev nD) : Vec Ideal S4096x22016 .f32 := m ((c : Thread nD τ).loc main_arg1)
abbrev K (c : Dev nD) : Vec Ideal S3x22016 .f32 := m ((c : Thread nD τ).loc main_arg2)
abbrev B (c : Dev nD) : Vec Ideal S22016 .f32 := m ((c : Thread nD τ).loc main_arg3)

theorem gates_before (c : Dev nD) (t : Fin cfg0.N) (r : Fin 1024) (d : Fin 256) (n : ℕ) (hn : n ≤ 2) :
    before (k0_pay9 (iblk m c 0 t) (half (pair (iblk m c 2 t) (iblk m c 3 t)) 1)) (k0_pay10 (grid0.coords t) (iblk m c 1 t) (half (pair (iblk m c 2 t) (iblk m c 3 t)) 1)) d r.val n
      = prev (A m c) (U m c) ⟨1024 * (t.val % 8) + r.val, by omega⟩ ⟨11008 + (256 * (t.val / 8) + d.val), by have := lt344 t; omega⟩ n :=
  before_at m c t _ rfl _ rfl _ _ _ r d _ (fun r => pay9_at _ _ r d) (fun r => pay10_at _ _ _ r d) (fun x => (half_at _ _ x d).2.trans (gate_at m c t x d)) n hn

theorem values_before (c : Dev nD) (t : Fin cfg0.N) (r : Fin 1024) (d : Fin 256) (n : ℕ) (hn : n ≤ 2) :
    before (k0_pay15 (iblk m c 0 t) (half (pair (iblk m c 2 t) (iblk m c 3 t)) 0)) (k0_pay16 (iblk m c 1 t) (k0_pay7 (grid0.coords t)) (half (pair (iblk m c 2 t) (iblk m c 3 t)) 0)) d r.val n
      = prev (A m c) (U m c) ⟨1024 * (t.val % 8) + r.val, by omega⟩ ⟨256 * (t.val / 8) + d.val, by have := lt344 t; omega⟩ n :=
  before_at m c t _ rfl _ rfl _ _ _ r d _ (fun r => pay15_at _ _ r d) (fun r => pay16_at _ _ _ r d) (fun x => (half_at _ _ x d).1.trans (value_at m c t x d)) n hn

/-- An element of what a point writes, in the terms of the whole arrays. -/
theorem point_at (c : Dev nD) (t : Fin cfg0.N) (r : Fin 1024) (d : Fin 256) : ((outsAt0 m c t.val t.isLt).1 : Vec Ideal S1024x256 .bf16) (ix2 r d)
    = silu (conv (A m c) (U m c) (K m c) (B m c) ⟨1024 * (t.val % 8) + r.val, by omega⟩ ⟨11008 + (256 * (t.val / 8) + d.val), by have := lt344 t; omega⟩)
      * conv (A m c) (U m c) (K m c) (B m c) ⟨1024 * (t.val % 8) + r.val, by omega⟩ ⟨256 * (t.val / 8) + d.val, by have := lt344 t; omega⟩ := by
  rw [block_eq]
  refine (tile_at _ _ _ _ _ _ _ _ _ r d).trans ?_
  rw [gates_before m c t r d 2 (by omega), gates_before m c t r d 1 (by omega), gates_before m c t r d 0 (by omega), values_before m c t r d 2 (by omega), values_before m c t r d 1 (by omega),
    values_before m c t r d 0 (by omega)]
  exact congrArg₂ (fun x y : EReal => silu x * y) (taps_at _ _ _ _ _ _ d _ _ (fun n => gtap_at m c t n d) (gbias_at m c t d))
    (taps_at _ _ _ _ _ _ d _ _ (fun n => vtap_at m c t n d) (vbias_at m c t d))

/-- The gated values a launch leaves, no gate being minus infinity. -/
theorem result (c : Dev nD) (hg : ∀ (i : Fin 8192) (j : Fin 11008), conv (A m c) (U m c) (K m c) (B m c) i ⟨11008 + j.val, by omega⟩ ≠ ⊥) :
    (dats m 0 c).arrAt 9 cfg0.N = act (A m c) (U m c) (K m c) (B m c) := by
  refine (dats m 0 c).arrAt_eq_of_covers 9 _ (by decide +kernel) fun t _ y => ?_
  obtain ⟨r, d, rfl⟩ : ∃ (r : Fin 1024) (d : Fin 256), y = ix2 r d := ⟨y 0, y 1, eq_ix2 y⟩
  have ht := lt344 t
  blk_simp
  rw [after0_9]
  refine (point_at m c t r d).trans ?_
  rw [silu_eq _ (hg _ ⟨256 * (t.val / 8) + d.val, by omega⟩)]
  have e : ((View.whole main_v1_0).slice (win0_9.rect t)).emb (ix2 r d) = (ix2 ⟨1024 * (t.val % 8) + r.val, by omega⟩ ⟨256 * (t.val / 8) + d.val, by omega⟩ : S8192x11008.Idx) := by
    blk_ext [idx9 t]
  exact (congrArg (act (A m c) (U m c) (K m c) (B m c)) e).symm

theorem result_down (c : Dev nD) : (dats m 0 c).arrAt 10 cfg0.N = (m ((c : Thread nD τ).loc main_arg4) : Vec Ideal S11008x4096 .f32) := by
  refine (dats m 0 c).arrAt_eq_of_covers 10 _ (by decide +kernel) fun t _ y => ?_
  obtain ⟨r, d, rfl⟩ : ∃ (r : Fin 32) (d : Fin 4096), y = ix2 r d := ⟨y 0, y 1, eq_ix2 y⟩
  blk_simp
  rw [after0_10, down_eq]
  blk_point [k0_pay4, iblk, idx8 t, idx10 t, V_main_arg4]

end

section
open Cert.Reference8Ideal Cert.Reference8Ideal.Gen

/-- The reference's projection with two rows of zeros before each half. -/
def padded (a : FVec Ideal S8192x4096 .bf16) (w : FVec Ideal S4096x22016 .f32) : FVec Ideal S2x4098x22016 .f32 :=
  pad S2x4098x22016 ![0, 2, 0] ![0, 0, 0] ![0, 0, 0] (shapeCast _ (Host.dotGeneral dot_S8192x4096_S4096x22016_S8192x22016_1_0_0_1_n_n none a w : FVec Ideal S8192x22016 .f32) shapeCasts_S8192x22016_S2x4096x22016)
    (sitofp .f32 (constantI S_ 32 0#32)) pads_S2x4096x22016_S2x4098x22016_000_200_000 h_S_

/-- The reference's convolution. -/
def convolved (a : FVec Ideal S8192x4096 .bf16) (w : FVec Ideal S4096x22016 .f32) (k : FVec Ideal S3x22016 .f32) (b : FVec Ideal S22016 .f32) : FVec Ideal S2x4096x22016 .f32 :=
  addf (addf (addf (broadcastInDim S2x4096x22016 ![0, 1, 2] bcast_S1x1x22016_S2x4096x22016_0_1_2 (broadcastInDim S1x1x22016 ![2] bcast_S22016_S1x1x22016_2 b))
      (mulf (broadcastInDim S2x4096x22016 ![0, 1, 2] bcast_S1x1x22016_S2x4096x22016_0_1_2 (broadcastInDim S1x1x22016 ![2] bcast_S22016_S1x1x22016_2
        (shapeCast _ (extractStridedSlice S1x22016 ![0, 0] k slices_S3x22016_S1x22016_0_0) shapeCasts_S1x22016_S22016)))
      (extractStridedSlice S2x4096x22016 ![0, 0, 0] (padded a w) slices_S2x4098x22016_S2x4096x22016_0_0_0)))
      (mulf (broadcastInDim S2x4096x22016 ![0, 1, 2] bcast_S1x1x22016_S2x4096x22016_0_1_2 (broadcastInDim S1x1x22016 ![2] bcast_S22016_S1x1x22016_2
        (shapeCast _ (extractStridedSlice S1x22016 ![1, 0] k slices_S3x22016_S1x22016_1_0) shapeCasts_S1x22016_S22016)))
      (extractStridedSlice S2x4096x22016 ![0, 1, 0] (padded a w) slices_S2x4098x22016_S2x4096x22016_0_1_0)))
      (mulf (broadcastInDim S2x4096x22016 ![0, 1, 2] bcast_S1x1x22016_S2x4096x22016_0_1_2 (broadcastInDim S1x1x22016 ![2] bcast_S22016_S1x1x22016_2
        (shapeCast _ (extractStridedSlice S1x22016 ![2, 0] k slices_S3x22016_S1x22016_2_0) shapeCasts_S1x22016_S22016)))
      (extractStridedSlice S2x4096x22016 ![0, 2, 0] (padded a w) slices_S2x4098x22016_S2x4096x22016_0_2_0))

/-- The reference's gated values. -/
def gated (a : FVec Ideal S8192x4096 .bf16) (w : FVec Ideal S4096x22016 .f32) (k : FVec Ideal S3x22016 .f32) (b : FVec Ideal S22016 .f32) : FVec Ideal S8192x11008 .bf16 :=
  truncf .bf16 (shapeCast _ (mulf (mulf (extractStridedSlice S2x4096x11008 ![0, 0, 11008] (convolved a w k b) slices_S2x4096x22016_S2x4096x11008_0_0_11008)
    (Host.divf (broadcastInDim S2x4096x11008 ![] bcast_S_S2x4096x11008 (constant S_ .f32 0x3F800000#32))
      (addf (broadcastInDim S2x4096x11008 ![] bcast_S_S2x4096x11008 (constant S_ .f32 0x3F800000#32))
        (Host.exp (Host.negf (extractStridedSlice S2x4096x11008 ![0, 0, 11008] (convolved a w k b) slices_S2x4096x22016_S2x4096x11008_0_0_11008))))))
    (extractStridedSlice S2x4096x11008 ![0, 0, 0] (convolved a w k b) slices_S2x4096x22016_S2x4096x11008_0_0_0)) shapeCasts_S2x4096x11008_S8192x11008) bitsLt_bf16_f32

theorem padded_at (a : FVec Ideal S8192x4096 .bf16) (w : FVec Ideal S4096x22016 .f32) (p : Fin 2) (s : Fin 4098) (j : Fin 22016) (i : Fin 8192) (n : ℕ) (hn : n ≤ 2)
    (hs : s.val + n = i.val % 4096 + 2) (hi : i.val / 4096 = p.val) : padded a w (ix3 p s j) = prev a w i j n := by
  unfold padded prev
  by_cases q : n ≤ i.val % 4096
  · rw [if_pos q]
    refine (pad_apply_of_inside _ _ _ _ _ _ _ _ (ix3 p ⟨i.val % 4096 - n, by omega⟩ j) ?_).trans ?_
    · intro x
      fin_cases x
      · show p.val = 0 + p.val * (0 + 1); omega
      · show s.val = 2 + (i.val % 4096 - n) * (0 + 1); omega
      · show j.val = 0 + j.val * (0 + 1); omega
    · unfold line
      pointwise []
      have e : (⟨p.val * 4096 + (i.val % 4096 - n), by omega⟩ : Fin 8192) = ⟨i.val - n, by omega⟩ := Fin.ext (by dsimp only; omega)
      rw [e]
  · rw [if_neg q]
    refine (pad_apply_of_not_inside _ _ _ _ _ _ _ _ 1 ?_).trans ?_
    · intro h
      have : 2 ≤ s.val := h.1
      omega
    · show ((((0#32 : BitVec 32).toInt : ℤ) : ℝ) : EReal) = 0
      norm_num

theorem convolved_at (a : FVec Ideal S8192x4096 .bf16) (w : FVec Ideal S4096x22016 .f32) (k : FVec Ideal S3x22016 .f32) (b : FVec Ideal S22016 .f32) (p : Fin 2) (s : Fin 4096) (j : Fin 22016)
    (i : Fin 8192) (hs : s.val = i.val % 4096) (hi : i.val / 4096 = p.val) : convolved a w k b (ix3 p s j) = conv a w k b i j := by
  unfold conv convolved
  rw [← padded_at a w p ⟨s.val + 2, by omega⟩ j i 0 (by omega) (by dsimp only; omega) hi, ← padded_at a w p ⟨s.val + 1, by omega⟩ j i 1 (by omega) (by dsimp only; omega) hi,
    ← padded_at a w p ⟨s.val, by omega⟩ j i 2 (by omega) (by dsimp only; omega) hi]
  pointwise
  simp only [Nat.add_comm 1 s.val, Nat.add_comm 2 s.val]
  rw [add_assoc, add_assoc, add_left_comm (k (ix2 0 j) * _), ← add_assoc (k (ix2 1 j) * _), add_comm _ (k (ix2 2 j) * _)]

theorem reference (a : FVec Ideal S8192x4096 .bf16) (w : FVec Ideal S4096x22016 .f32) (k : FVec Ideal S3x22016 .f32) (b : FVec Ideal S22016 .f32) : gated a w k b = act a w k b := by
  funext y
  obtain ⟨r, d, rfl⟩ : ∃ (r : Fin 8192) (d : Fin 11008), y = ix2 r d := ⟨y 0, y 1, eq_ix2 y⟩
  unfold gated act
  pointwise
  rw [convolved_at a w k b _ _ ⟨11008 + d.val, by omega⟩ r rfl rfl, convolved_at a w k b _ _ ⟨d.val, by omega⟩ r rfl rfl]

theorem named (m : (ℓ : Loc nD τ sig) → Buf (Elt Ideal) ℓ) (c : Dev nD) : Cert.Reference8Ideal.Value.res_main_v31 m c
    = gated (m ((c : Thread nD τ).loc main_arg0)) (m ((c : Thread nD τ).loc main_arg1)) (m ((c : Thread nD τ).loc main_arg2)) (m ((c : Thread nD τ).loc main_arg3)) := by
  unfold Cert.Reference8Ideal.Value.res_main_v31 gated convolved padded
  rfl

theorem neg_inf : Ideal.ofBits .f32 0xFF800000#32 = (⊥ : EReal) := by
  simp [Ideal.ofBits, Ideal.ieee]

/-- No gate is minus infinity where the precondition holds. -/
theorem above_of_pre [Cert.Pre_gate_above.Facts] (a : FVec Ideal S8192x4096 .bf16) (w : FVec Ideal S4096x22016 .f32) (k : FVec Ideal S3x22016 .f32) (b : FVec Ideal S22016 .f32) (v : FVec Ideal S11008x4096 .f32)
    (hp : ∀ x, Cert.Pre_gate_above.fn (F := Ideal) a w k b v x = 1#1) (i : Fin 8192) (j : Fin 11008) : conv a w k b i ⟨11008 + j.val, by omega⟩ ≠ ⊥ := by
  have h : cmpf .ogt (extractStridedSlice S2x4096x11008 ![0, 0, 11008] (convolved a w k b) slices_S2x4096x22016_S2x4096x11008_0_0_11008)
      (broadcastInDim S2x4096x11008 ![] bcast_S_S2x4096x11008 (constant S_ .f32 0xFF800000#32 : FVec Ideal _ .f32)) (ix3 (⟨i.val / 4096, by omega⟩ : Fin 2) (⟨i.val % 4096, by omega⟩ : Fin 4096) j) = 1#1 := hp _
  rw [← convolved_at a w k b ⟨i.val / 4096, by omega⟩ ⟨i.val % 4096, by omega⟩ ⟨11008 + j.val, by omega⟩ i rfl rfl]
  intro e
  revert h
  pointwise
  rw [e, neg_inf, decide_eq_false (lt_irrefl _)]
  decide

end

theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The kernel and the reference leave the same gated values and the same rounded weights. -/
theorem same [Cert.Pre_gate_above.Facts] : Cert.algebraic_Kernel8Ideal_Reference8Ideal_pre_gate_above := fun m ρ m' ρ' hp ha => by
  refine ⟨_, _, Cert.Kernel8Ideal.Value.run_blocks (F := Ideal) m ρ,
    (θ_run Cert.Reference8Ideal.defs _ _).mono (fun r h c => ?_) (Cert.Reference8Ideal.Value.run (F := Ideal) m' ρ')⟩
  obtain ⟨h0, h1, hr⟩ := h c
  obtain ⟨a0, a1, a2, a3, a4⟩ := ha c
  refine ⟨h0.trans ?_, h1.trans ?_, hr⟩
  · rw [result m c (above_of_pre _ _ _ _ _ fun x => congrFun (hp c) x), named, a0, a1, a2, a3]
    exact reference _ _ _ _
  · rw [result_down m c, a4]
    rfl

end Cert.Proof.FfnUp
-- ==== Proof.LayerNorm.lean ====
/-
  The two layer norms: every element of a result is its row's element less the mean, over the root of the row's variance, scaled and shifted.
-/
module

public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Defs
public import Idealize.ShloMosaic.Lib.Pipeline.ValueKit.Point
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.LayerNorm

/-- The mean of a row, -/
def mean (f : Fin 4096 → EReal) : EReal := Ideal.div (∑ k, f k) (Ideal.ofBits .f32 0x45800000#32)

/-- a row less its mean, -/
def centred (f : Fin 4096 → EReal) (j : Fin 4096) : EReal := f j - mean f

/-- and a row normed, at a position. -/
def normed (f : Fin 4096 → EReal) (j : Fin 4096) (g b : EReal) : EReal :=
  centred f j * Ideal.rsqrt (mean (fun k => centred f k * centred f k) + Ideal.ofBits .f32 0x3727C5AC#32) * g + b

/-- The rows of an array normed. -/
def norm (x : Vec Ideal ⟨2, ![8192, 4096]⟩ .f32) (g b : Vec Ideal ⟨1, ![4096]⟩ .f32) : Vec Ideal ⟨2, ![8192, 4096]⟩ .f32 := fun y =>
  normed (fun k => x (ix2 (y 0) k)) (y 1) (g (ix1 (y 1))) (b (ix1 (y 1)))

section Reference

open Cert.Reference9Ideal Cert.Reference9Ideal.Gen

/-- A reference row's mean, in a column, -/
def refMean (x : FVec Ideal S8192x4096 .f32) : FVec Ideal S8192x1 .f32 :=
  Host.divf (broadcastInDim S8192x1 ![0] bcast_S8192_S8192x1_0 (Host.reduceAdd x (constant S_ .f32 0x00000000#32) reducesTo_S8192x4096_S8192_d1 h_S_))
    (broadcastInDim S8192x1 ![] bcast_S_S8192x1 (constant S_ .f32 0x45800000#32))

/-- its rows less their means, -/
def refCentred (x : FVec Ideal S8192x4096 .f32) : FVec Ideal S8192x4096 .f32 :=
  subf x (broadcastInDim S8192x4096 ![0, 1] bcast_S8192x1_S8192x4096_0_1 (refMean x))

/-- and its result. -/
def refNorm (x : FVec Ideal S8192x4096 .f32) (g b : FVec Ideal S4096 .f32) : FVec Ideal S8192x4096 .f32 :=
  addf (mulf (mulf (refCentred x) (broadcastInDim S8192x4096 ![0, 1] bcast_S8192x1_S8192x4096_0_1 (Host.rsqrt (addf
    (refMean (mulf (refCentred x) (refCentred x))) (broadcastInDim S8192x1 ![] bcast_S_S8192x1 (constant S_ .f32 0x3727C5AC#32))))))
    (broadcastInDim S8192x4096 ![0, 1] bcast_S1x4096_S8192x4096_0_1 (broadcastInDim S1x4096 ![1] bcast_S4096_S1x4096_1 g)))
    (broadcastInDim S8192x4096 ![0, 1] bcast_S1x4096_S8192x4096_0_1 (broadcastInDim S1x4096 ![1] bcast_S4096_S1x4096_1 b))

theorem refMean_at (x : FVec Ideal S8192x4096 .f32) (r : Fin 8192) (z : Fin 1) : refMean x (ix2 r z) = mean fun k => x (ix2 r k) := by
  unfold mean
  pointwise [refMean]

theorem refCentred_at (x : FVec Ideal S8192x4096 .f32) (r : Fin 8192) (d : Fin 4096) : refCentred x (ix2 r d) = centred (fun k => x (ix2 r k)) d := by
  unfold centred
  rw [← refMean_at x r 0]
  pointwise [refCentred]

theorem reference (x : FVec Ideal S8192x4096 .f32) (g b : FVec Ideal S4096 .f32) : refNorm x g b = norm x g b := by
  funext y
  obtain ⟨r, d, rfl⟩ : ∃ (r : Fin 8192) (d : Fin 4096), y = ix2 r d := ⟨y 0, y 1, eq_ix2 y⟩
  have e : refMean (mulf (refCentred x) (refCentred x)) (ix2 r 0)
      = mean fun k => centred (fun k => x (ix2 r k)) k * centred (fun k => x (ix2 r k)) k :=
    (refMean_at _ r 0).trans (congrArg mean (funext fun k => congrArg₂ (· * ·) (refCentred_at x r k) (refCentred_at x r k)))
  show refNorm x g b (ix2 r d) = normed (fun k => x (ix2 r k)) d (g (ix1 d)) (b (ix1 d))
  unfold normed
  rw [← e, ← refCentred_at x r d]
  pointwise [refNorm]

end Reference

section First

open Cert.Kernel9Ideal Cert.Kernel9Ideal.Gen

theorem pay9_at (x0 : Vec Ideal S256x4096 .f32) (x1 x2 : Vec Ideal S1x4096 .f32) (r : Fin 256) (d : Fin 4096) :
    k0_pay1 x0 x1 x2 (ix2 r d) = normed (fun k => x0 (ix2 r k)) d (x1 (ix2 0 d)) (x2 (ix2 0 d)) := by
  unfold normed centred mean
  pointwise [k0_pay1]

theorem out9_3 (x0 : Vec Ideal S256x4096 .f32) (x1 x2 : Vec Ideal S1x4096 .f32) : out0_3 x0 x1 x2 = k0_pay1 x0 x1 x2 := by
  unfold out0_3
  rw [View.canon_cons_unit_lit _ _ _ (by decide)]
  exact congr (congr (congrArg _ (View.ld_unit_lit _ _ (by decide))) (View.ld_unit_lit _ _ (by decide))) (View.ld_unit_lit _ _ (by decide))

theorem out9_4 (x0 : Vec Ideal S256x4096 .f32) (x1 x2 : Vec Ideal S1x4096 .f32) : out0_4 x0 x1 x2 = k0_pay1 x0 x1 x2 := by
  unfold out0_4
  rw [View.canon_cons_unit_lit _ _ _ (by decide)]
  exact congr (congr (congrArg k0_pay2 (View.ld_unit_lit _ _ (by decide))) (View.ld_unit_lit _ _ (by decide))) (View.ld_unit_lit _ _ (by decide))

theorem idx9_0 : ∀ t : Fin cfg0.N, win0_0.index t = ![t.val, 0] := (by decide +kernel : ∀ t : Fin grid0.N, _)
theorem idx9_1 : ∀ t : Fin cfg0.N, win0_1.index t = ![0, 0] := (by decide +kernel : ∀ t : Fin grid0.N, _)
theorem idx9_2 : ∀ t : Fin cfg0.N, win0_2.index t = ![0, 0] := (by decide +kernel : ∀ t : Fin grid0.N, _)
theorem idx9_3 : ∀ t : Fin cfg0.N, win0_3.index t = ![t.val, 0] := (by decide +kernel : ∀ t : Fin grid0.N, _)
theorem idx9_4 : ∀ t : Fin cfg0.N, win0_4.index t = ![t.val, 0] := (by decide +kernel : ∀ t : Fin grid0.N, _)

variable (m : (ℓ : Loc nD τ sig) → Buf (Elt Ideal) ℓ)

theorem gain9_at (c : Dev nD) (j : Fin 4096) :
    (V m c main_v0 : Vec Ideal S1x4096 .f32) (ix2 0 j) = (m ((c : Thread nD τ).loc main_arg1) : Vec Ideal S4096 .f32) (ix1 j) := by
  simp only [V, hostOps0, List.flatten_cons, List.flatten_nil, List.append_nil, List.cons_append, List.nil_append]
  entry_read
  pointwise

theorem bias9_at (c : Dev nD) (j : Fin 4096) :
    (V m c main_v1 : Vec Ideal S1x4096 .f32) (ix2 0 j) = (m ((c : Thread nD τ).loc main_arg2) : Vec Ideal S4096 .f32) (ix1 j) := by
  simp only [V, hostOps0, List.flatten_cons, List.flatten_nil, List.append_nil, List.cons_append, List.nil_append]
  entry_read
  pointwise

theorem row9_at (c : Dev nD) (t : Fin cfg0.N) (r : Fin 256) (k : Fin 4096) : (iblk m c 0 t : Vec Ideal S256x4096 .f32) (ix2 r k)
    = (m ((c : Thread nD τ).loc main_arg0) : Vec Ideal S8192x4096 .f32)
        (ix2 ⟨256 * t.val + r.val, by have : t.val < 32 := t.isLt; omega⟩ k) := by
  blk_point [iblk, idx9_0 t, V_main_arg0]

theorem block9_at (c : Dev nD) (t : Fin cfg0.N) (r : Fin 256) (d : Fin 4096) : k0_pay1 (iblk m c 0 t) (iblk m c 1 t) (iblk m c 2 t) (ix2 r d)
    = norm (m ((c : Thread nD τ).loc main_arg0)) (m ((c : Thread nD τ).loc main_arg1)) (m ((c : Thread nD τ).loc main_arg2))
        (ix2 ⟨256 * t.val + r.val, by have : t.val < 32 := t.isLt; omega⟩ d) := by
  have e1 : (iblk m c 1 t : Vec Ideal S1x4096 .f32) (ix2 0 d) = (m ((c : Thread nD τ).loc main_arg1) : Vec Ideal S4096 .f32) (ix1 d) := by
    rw [← gain9_at m c d]
    blk_point [iblk, idx9_1 t]
  have e2 : (iblk m c 2 t : Vec Ideal S1x4096 .f32) (ix2 0 d) = (m ((c : Thread nD τ).loc main_arg2) : Vec Ideal S4096 .f32) (ix1 d) := by
    rw [← bias9_at m c d]
    blk_point [iblk, idx9_2 t]
  refine (pay9_at _ _ _ r d).trans ?_
  rw [e1, e2, show (fun k => (iblk m c 0 t : Vec Ideal S256x4096 .f32) (ix2 r k)) = _ from funext fun k => row9_at m c t r k]
  rfl

theorem result9_3 (c : Dev nD) : (dats m 0 c).arrAt 3 cfg0.N
    = norm (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 256) (d : Fin 4096), y = ix2 r d := ⟨y 0, y 1, eq_ix2 y⟩
  blk_simp
  rw [after0_3, out9_3]
  refine (block9_at m c t r d).trans ?_
  blk_ext [idx9_3 t]

theorem result9_4 (c : Dev nD) : (dats m 0 c).arrAt 4 cfg0.N
    = norm (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨r, d, rfl⟩ : ∃ (r : Fin 256) (d : Fin 4096), y = ix2 r d := ⟨y 0, y 1, eq_ix2 y⟩
  blk_simp
  rw [after0_4, out9_4]
  refine (block9_at m c t r d).trans ?_
  blk_ext [idx9_4 t]

theorem frame9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- The first layer norm's kernel and its reference leave the same. -/
theorem same9 : Cert.algebraic_Kernel9Ideal_Reference9Ideal := fun m ρ m' ρ' _ ha => by
  refine ⟨_, _, Cert.Kernel9Ideal.Value.run_blocks (F := Ideal) m ρ,
    (θ_run Cert.Reference9Ideal.defs _ _).mono (fun r h c => ?_) (Cert.Reference9Ideal.Value.run (F := Ideal) m' ρ')⟩
  obtain ⟨h0, h1, hr⟩ := h c
  obtain ⟨a0, a1, a2⟩ := ha c
  refine ⟨h0.trans ?_, h1.trans ?_, hr⟩
  · rw [result9_3 m c, a0, a1, a2]
    exact reference _ _ _
  · rw [result9_4 m c, a0, a1, a2]
    exact reference _ _ _

end First

section Second

open Cert.Kernel10Ideal Cert.Kernel10Ideal.Gen

theorem pay10_at (x0 : Vec Ideal S256x4096 .f32) (x1 x2 : Vec Ideal S1x4096 .f32) (r : Fin 256) (d : Fin 4096) :
    k0_pay1 x0 x1 x2 (ix2 r d) = normed (fun k => x0 (ix2 r k)) d (x1 (ix2 0 d)) (x2 (ix2 0 d)) := by
  unfold normed centred mean
  pointwise [k0_pay1]

theorem out10_3 (x0 : Vec Ideal S256x4096 .f32) (x1 x2 : Vec Ideal S1x4096 .f32) : out0_3 x0 x1 x2 = k0_pay1 x0 x1 x2 := by
  unfold out0_3
  rw [View.canon_cons_unit_lit _ _ _ (by decide)]
  exact congr (congr (congrArg _ (View.ld_unit_lit _ _ (by decide))) (View.ld_unit_lit _ _ (by decide))) (View.ld_unit_lit _ _ (by decide))

theorem idx10_0 : ∀ t : Fin cfg0.N, win0_0.index t = ![t.val, 0] := (by decide +kernel : ∀ t : Fin grid0.N, _)
theorem idx10_1 : ∀ t : Fin cfg0.N, win0_1.index t = ![0, 0] := (by decide +kernel : ∀ t : Fin grid0.N, _)
theorem idx10_2 : ∀ t : Fin cfg0.N, win0_2.index t = ![0, 0] := (by decide +kernel : ∀ t : Fin grid0.N, _)
theorem idx10_3 : ∀ t : Fin cfg0.N, win0_3.index t = ![t.val, 0] := (by decide +kernel : ∀ t : Fin grid0.N, _)

variable (m : (ℓ : Loc nD τ sig) → Buf (Elt Ideal) ℓ)

theorem gain10_at (c : Dev nD) (j : Fin 4096) :
    (V m c main_v0 : Vec Ideal S1x4096 .f32) (ix2 0 j) = (m ((c : Thread nD τ).loc main_arg1) : Vec Ideal S4096 .f32) (ix1 j) := by
  simp only [V, hostOps0, List.flatten_cons, List.flatten_nil, List.append_nil, List.cons_append, List.nil_append]
  entry_read
  pointwise

theorem bias10_at (c : Dev nD) (j : Fin 4096) :
    (V m c main_v1 : Vec Ideal S1x4096 .f32) (ix2 0 j) = (m ((c : Thread nD τ).loc main_arg2) : Vec Ideal S4096 .f32) (ix1 j) := by
  simp only [V, hostOps0, List.flatten_cons, List.flatten_nil, List.append_nil, List.cons_append, List.nil_append]
  entry_read
  pointwise

theorem row10_at (c : Dev nD) (t : Fin cfg0.N) (r : Fin 256) (k : Fin 4096) : (iblk m c 0 t : Vec Ideal S256x4096 .f32) (ix2 r k)
    = (m ((c : Thread nD τ).loc main_arg0) : Vec Ideal S8192x4096 .f32)
        (ix2 ⟨256 * t.val + r.val, by have : t.val < 32 := t.isLt; omega⟩ k) := by
  blk_point [iblk, idx10_0 t, V_main_arg0]

theorem block10_at (c : Dev nD) (t : Fin cfg0.N) (r : Fin 256) (d : Fin 4096) : k0_pay1 (iblk m c 0 t) (iblk m c 1 t) (iblk m c 2 t) (ix2 r d)
    = norm (m ((c : Thread nD τ).loc main_arg0)) (m ((c : Thread nD τ).loc main_arg1)) (m ((c : Thread nD τ).loc main_arg2))
        (ix2 ⟨256 * t.val + r.val, by have : t.val < 32 := t.isLt; omega⟩ d) := by
  have e1 : (iblk m c 1 t : Vec Ideal S1x4096 .f32) (ix2 0 d) = (m ((c : Thread nD τ).loc main_arg1) : Vec Ideal S4096 .f32) (ix1 d) := by
    rw [← gain10_at m c d]
    blk_point [iblk, idx10_1 t]
  have e2 : (iblk m c 2 t : Vec Ideal S1x4096 .f32) (ix2 0 d) = (m ((c : Thread nD τ).loc main_arg2) : Vec Ideal S4096 .f32) (ix1 d) := by
    rw [← bias10_at m c d]
    blk_point [iblk, idx10_2 t]
  refine (pay10_at _ _ _ r d).trans ?_
  rw [e1, e2, show (fun k => (iblk m c 0 t : Vec Ideal S256x4096 .f32) (ix2 r k)) = _ from funext fun k => row10_at m c t r k]
  rfl

theorem result10_3 (c : Dev nD) : (dats m 0 c).arrAt 3 cfg0.N
    = norm (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨r, d, rfl⟩ : ∃ (r : Fin 256) (d : Fin 4096), y = ix2 r d := ⟨y 0, y 1, eq_ix2 y⟩
  blk_simp
  rw [after0_3, out10_3]
  refine (block10_at m c t r d).trans ?_
  blk_ext [idx10_3 t]

theorem frame10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The second layer norm's kernel and its reference leave the same. -/
theorem same10 : Cert.algebraic_Kernel10Ideal_Reference10Ideal := fun m ρ m' ρ' _ ha => by
  refine ⟨_, Cert.Kernel10Ideal.Value.run_blocks (F := Ideal) m ρ,
    (θ_run Cert.Reference10Ideal.defs _ _).mono (fun r h c => ?_) (Cert.Reference10Ideal.Value.run (F := Ideal) m' ρ')⟩
  obtain ⟨h0, hr⟩ := h c
  obtain ⟨a0, a1, a2⟩ := ha c
  refine ⟨h0.trans ?_, hr⟩
  rw [result10_3 m c, a0, a1, a2]
  exact reference _ _ _

end Second

end Cert.Proof.LayerNorm
-- ==== Proof.CastRows.lean ====
/-
  Two slices of the transposed input weights, rounded: every element of a result is the element of the weights so many rows further on.
-/
module

public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Defs
public import Idealize.ShloMosaic.Lib.Pipeline.ValueKit.Point
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.CastRows

section Head

open Cert.Kernel11Ideal Cert.Kernel11Ideal.Gen

/-- The first rows of the weights. -/
def head (w : Vec Ideal S39072x4096 .f32) : Vec Ideal S18560x4096 .bf16 := fun y =>
  w (ix2 ⟨(y 0).val, by have : (y 0).val < 18560 := (y 0).isLt; omega⟩ (y 1))

theorem head_out (x0 : Vec Ideal S640x4096 .f32) : out0_1 x0 = k0_pay1 x0 := by
  unfold out0_1
  rw [View.canon_cons_unit_lit _ _ _ (by decide)]
  exact congrArg _ (View.ld_unit_lit _ _ (by decide))

theorem head_idx0 : ∀ t : Fin cfg0.N, win0_0.index t = ![640 * t.val, 0] := (by decide +kernel : ∀ t : Fin grid0.N, _)
theorem head_idx1 : ∀ t : Fin cfg0.N, win0_1.index t = ![t.val, 0] := (by decide +kernel : ∀ t : Fin grid0.N, _)

theorem head_result (m : (ℓ : Loc nD τ sig) → Buf (Elt Ideal) ℓ) (c : Dev nD) :
    (dats m 0 c).arrAt 1 cfg0.N = head (m ((c : Thread nD τ).loc main_arg0)) := by
  refine (dats m 0 c).arrAt_eq_of_covers 1 _ (by decide +kernel) fun t _ y => ?_
  obtain ⟨r, d, rfl⟩ : ∃ (r : Fin 640) (d : Fin 4096), y = ix2 r d := ⟨y 0, y 1, eq_ix2 y⟩
  blk_simp
  rw [after0_1, head_out]
  unfold head
  blk_point [k0_pay1, iblk, head_idx1 t, V_main_arg0]
  · show win0_0.index t 0 + 1 * r.val = _
    rw [head_idx0 t]; show 640 * t.val + 1 * r.val = _; omega
  · show win0_0.index t 1 + 1 * d.val = _
    rw [head_idx0 t]; show 0 + 1 * d.val = _; omega

theorem head_frame : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel and the reference leave the same first rows. -/
theorem head_same : Cert.algebraic_Kernel11Ideal_Reference11Ideal := fun m ρ m' ρ' _ ha => by
  refine ⟨_, Cert.Kernel11Ideal.Value.run_blocks (F := Ideal) m ρ,
    (θ_run Cert.Reference11Ideal.defs _ _).mono (fun r h c => ?_) (Cert.Reference11Ideal.Value.run (F := Ideal) m' ρ')⟩
  obtain ⟨h0, hr⟩ := h c
  refine ⟨h0.trans ?_, hr⟩
  rw [head_result m c, ha c]
  funext y
  obtain ⟨r, d, rfl⟩ : ∃ (r : Fin 18560) (d : Fin 4096), y = ix2 r d := ⟨y 0, y 1, eq_ix2 y⟩
  unfold head
  pointwise []

end Head

section Forget

open Cert.Kernel12Ideal Cert.Kernel12Ideal.Gen

/-- The rows of the weights that make the forget gates. -/
def forget (w : Vec Ideal S39072x4096 .f32) : Vec Ideal S32x4096 .bf16 := fun y =>
  w (ix2 ⟨30848 + (y 0).val, by have : (y 0).val < 32 := (y 0).isLt; omega⟩ (y 1))

theorem forget_out (x0 : Vec Ideal S32x4096 .f32) : out0_1 x0 = k0_pay1 x0 := by
  unfold out0_1
  rw [View.canon_cons_unit_lit _ _ _ (by decide)]
  exact congrArg _ (View.ld_unit_lit _ _ (by decide))

theorem forget_idx0 : ∀ t : Fin cfg0.N, win0_0.index t = ![30848, 0] := (by decide +kernel : ∀ t : Fin grid0.N, _)
theorem forget_idx1 : ∀ t : Fin cfg0.N, win0_1.index t = ![0, 0] := (by decide +kernel : ∀ t : Fin grid0.N, _)

theorem forget_result (m : (ℓ : Loc nD τ sig) → Buf (Elt Ideal) ℓ) (c : Dev nD) :
    (dats m 0 c).arrAt 1 cfg0.N = forget (m ((c : Thread nD τ).loc main_arg0)) := by
  refine (dats m 0 c).arrAt_eq_of_covers 1 _ (by decide +kernel) fun t _ y => ?_
  obtain ⟨r, d, rfl⟩ : ∃ (r : Fin 32) (d : Fin 4096), y = ix2 r d := ⟨y 0, y 1, eq_ix2 y⟩
  blk_simp
  rw [after0_1, forget_out]
  unfold forget
  blk_point [k0_pay1, iblk, forget_idx1 t, V_main_arg0]
  · show win0_0.index t 0 + 1 * r.val = _
    rw [forget_idx0 t]; show 30848 + 1 * r.val = _; omega
  · show win0_0.index t 1 + 1 * d.val = _
    rw [forget_idx0 t]; show 0 + 1 * d.val = _; omega

theorem forget_frame : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The kernel and the reference leave the same rows for the forget gates. -/
theorem forget_same : Cert.algebraic_Kernel12Ideal_Reference12Ideal := fun m ρ m' ρ' _ ha => by
  refine ⟨_, Cert.Kernel12Ideal.Value.run_blocks (F := Ideal) m ρ,
    (θ_run Cert.Reference12Ideal.defs _ _).mono (fun r h c => ?_) (Cert.Reference12Ideal.Value.run (F := Ideal) m' ρ')⟩
  obtain ⟨h0, hr⟩ := h c
  refine ⟨h0.trans ?_, hr⟩
  rw [forget_result m c, ha c]
  funext y
  obtain ⟨r, d, rfl⟩ : ∃ (r : Fin 32) (d : Fin 4096), y = ix2 r d := ⟨y 0, y 1, eq_ix2 y⟩
  unfold forget
  pointwise []

end Forget

end Cert.Proof.CastRows
-- ==== Proof.HeadPrep.lean ====
/-
  The heads' step sizes and gates: the step sizes, their decays summed within each chunk of 128 rows, and the forget gates' logarithms summed from the start of each batch.
-/
module

public import proofs.«01_k».proof.Proof.Gen.Kernel13.Frame
public import proofs.«01_k».proof.Proof.Gen.Kernel13Ideal.Value
public import proofs.«01_k».proof.Proof.Gen.Reference13Ideal.Run
public import proofs.«01_k».proof.Defs
public import Idealize.ShloMosaic.Lib.Pipeline.ValueKit.Point
public import Idealize.ShloMosaic.Lib.VecWindow
public import Idealize.ShloMosaic.Lib.Quiescent
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.HeadPrep

/-! ## Sums up to a place -/

/-- The sum of the first `n` terms. -/
def upto (g : ℕ → EReal) (n : ℕ) : EReal := ∑ k ∈ Finset.range n, g k

theorem upto_add (g : ℕ → EReal) (p n : ℕ) : upto g (p + n) = upto g p + upto (fun k => g (p + k)) n := by
  unfold upto
  induction n with
  | zero => simp
  | succ n ih => rw [← Nat.add_assoc, Finset.sum_range_succ, ih, Finset.sum_range_succ, add_assoc]

/-- A sum of the terms no later than one of them. -/
theorem sum_le {N : ℕ} (g : ℕ → EReal) (i : Fin N) : (∑ k : Fin N, if k.val ≤ i.val then g k.val else 0) = upto g (i.val + 1) := by
  unfold upto
  rw [Fin.sum_univ_eq_sum_range (fun k => if k ≤ i.val then g k else 0) N, ← Finset.sum_filter]
  refine Finset.sum_congr (Finset.ext fun k => ?_) fun _ _ => rfl
  have := i.isLt
  rw [Finset.mem_filter, Finset.mem_range, Finset.mem_range]
  omega

/-- The same terms, counted by how far back they are. -/
theorem sum_back {N : ℕ} (g : ℕ → EReal) (i : Fin (N + 1)) : (∑ k : Fin (N + 1), if N ≤ i.val + k.val then g (i.val + k.val - N) else 0) = upto g (i.val + 1) := by
  have hi := i.isLt
  rw [Fin.sum_univ_eq_sum_range (fun k => if N ≤ i.val + k then g (i.val + k - N) else 0) (N + 1),
    show Finset.range (N + 1) = Finset.range ((N - i.val) + (i.val + 1)) from congrArg _ (by omega)]
  have e := upto_add (fun k => if N ≤ i.val + k then g (i.val + k - N) else 0) (N - i.val) (i.val + 1)
  unfold upto at e ⊢
  rw [e, Finset.sum_eq_zero fun k hk => if_neg (by rw [Finset.mem_range] at hk; omega), zero_add]
  refine Finset.sum_congr rfl fun k _ => ?_
  dsimp only
  rw [if_pos (by omega)]
  congr 1
  omega

theorem foldl_sum {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

/-- The places of a column in a stack of columns. -/
def column (N : ℕ) : (⟨3, ![1, N, 1]⟩ : Shape).Idx ≃ Fin N where
  toFun p := p 1
  invFun k := ix3 (0 : Fin 1) k (0 : Fin 1)
  left_inv p := by
    funext a
    match a with
    | ⟨0, _⟩ => exact Subsingleton.elim (α := Fin 1) _ _
    | ⟨1, _⟩ => rfl
    | ⟨2, _⟩ => exact Subsingleton.elim (α := Fin 1) _ _
  right_inv _ := rfl

/-- A running sum down the columns of a stack. -/
theorem running {B N C : ℕ} (x : FVec Ideal ⟨3, ![B, N + 1, C]⟩ .f32) (g : ℕ → EReal) (v : FVec Ideal ⟨0, ![]⟩ .f32) (hv : ∀ y, v y = (0 : EReal))
    (h : (⟨3, ![B, N + 1, C]⟩ : Shape).ReduceWindows (![1, N + 1, 1] : Fin 3 → ℕ) ![1, 1, 1] ![0, N, 0] ![0, 0, 0] ⟨3, ![B, N + 1, C]⟩) (hu : 0 < (⟨0, ![]⟩ : Shape).numel)
    (b : Fin B) (i : Fin (N + 1)) (c : Fin C) (hg : ∀ k : Fin (N + 1), x (ix3 b k c) = g k.val) :
    (Host.reduceWindowAdd ![1, N + 1, 1] ![1, 1, 1] ![0, N, 0] ![0, 0, 0] x v h hu : FVec Ideal ⟨3, ![B, N + 1, C]⟩ .f32) (ix3 b i c) = upto g (i.val + 1) := by
  have hi := i.isLt
  show Host.reduceWindow (α := EReal) (· + ·) _ _ _ _ x (fun _ : (⟨0, ![]⟩ : Shape).Idx => v (Shape.Idx.first hu)) h hu (ix3 b i c) = _
  unfold Host.reduceWindow
  dsimp only
  rw [foldl_sum, hv, zero_add, ← List.ofFn_eq_map, List.sum_ofFn]
  refine (Fintype.sum_equiv ((⟨3, ![1, N + 1, 1]⟩ : Shape).rowMajor.symm.trans (column (N + 1))) _
    (fun k => if N ≤ i.val + k.val then g (i.val + k.val - N) else 0) fun n => ?_).trans (sum_back g i)
  rw [Equiv.trans_apply]
  suffices key : ∀ (p : (⟨3, ![1, N + 1, 1]⟩ : Shape).Idx)
      (_ : Decidable (∀ a : Fin 3, (![0, N, 0] : Fin 3 → ℕ) a ≤ ((ix3 b i c : (⟨3, ![B, N + 1, C]⟩ : Shape).Idx) a).val * (![1, 1, 1] : Fin 3 → ℕ) a + (p a).val
          ∧ ((ix3 b i c : (⟨3, ![B, N + 1, C]⟩ : Shape).Idx) a).val * (![1, 1, 1] : Fin 3 → ℕ) a + (p a).val - (![0, N, 0] : Fin 3 → ℕ) a < (![B, N + 1, C] : Fin 3 → ℕ) a)),
      (if hin : ∀ a : Fin 3, (![0, N, 0] : Fin 3 → ℕ) a ≤ ((ix3 b i c : (⟨3, ![B, N + 1, C]⟩ : Shape).Idx) a).val * (![1, 1, 1] : Fin 3 → ℕ) a + (p a).val
          ∧ ((ix3 b i c : (⟨3, ![B, N + 1, C]⟩ : Shape).Idx) a).val * (![1, 1, 1] : Fin 3 → ℕ) a + (p a).val - (![0, N, 0] : Fin 3 → ℕ) a < (![B, N + 1, C] : Fin 3 → ℕ) a
        then (x (fun a => ⟨_, (hin a).2⟩) : EReal) else 0)
      = if N ≤ i.val + (column (N + 1) p).val then g (i.val + (column (N + 1) p).val - N) else 0 from key _ _
  intro p _
  obtain ⟨p0, k, p2, rfl⟩ : ∃ (p0 : Fin 1) (k : Fin (N + 1)) (p2 : Fin 1), p = ix3 p0 k p2 := ⟨p 0, p 1, p 2, eq_ix3 p⟩
  rw [show column (N + 1) (ix3 p0 k p2) = k from rfl]
  have hk := k.isLt
  have hb := b.isLt
  have hc := c.isLt
  by_cases q : N ≤ i.val + k.val
  · rw [if_pos q, dif_pos]
    · refine Eq.trans (congrArg x (funext fun a => Fin.ext ?_)) (hg ⟨i.val + k.val - N, by omega⟩)
      match a with
      | ⟨0, _⟩ => show b.val * 1 + p0.val - 0 = b.val; omega
      | ⟨1, _⟩ => show i.val * 1 + k.val - N = i.val + k.val - N; omega
      | ⟨2, _⟩ => show c.val * 1 + p2.val - 0 = c.val; omega
    · intro a
      match a with
      | ⟨0, _⟩ => show 0 ≤ b.val * 1 + p0.val ∧ b.val * 1 + p0.val - 0 < B; omega
      | ⟨1, _⟩ => show N ≤ i.val * 1 + k.val ∧ i.val * 1 + k.val - N < N + 1; omega
      | ⟨2, _⟩ => show 0 ≤ c.val * 1 + p2.val ∧ c.val * 1 + p2.val - 0 < C; omega
  · rw [if_neg q, dif_neg]
    intro hin
    have := (hin 1).1
    change N ≤ i.val * 1 + k.val at this
    omega

/-! ## The gates of a row -/

/-- The logarithm of one more than the exponential, -/
def soft (x : EReal) : EReal := max x 0 + Ideal.log1p (Ideal.exp (0 - max x (-x)))

/-- and the logarithm of the logistic function. -/
def lsig (x : EReal) : EReal := min x 0 - Ideal.log1p (Ideal.exp (0 - max x (-x)))

/-- A row of the input times a row of the weights. -/
def line (a : Vec Ideal ⟨2, ![8192, 4096]⟩ .f32) (w : Vec Ideal ⟨2, ![256, 4096]⟩ .bf16) (r : ℕ) (e : Fin 256) : EReal :=
  ∑ x : Fin 4096, (a (ix2 ⟨r % 8192, Nat.mod_lt _ (by decide)⟩ x) : EReal) * w (ix2 e x)

/-- A head's step size at a row, -/
def step (a : Vec Ideal ⟨2, ![8192, 4096]⟩ .f32) (w : Vec Ideal ⟨2, ![256, 4096]⟩ .bf16) (b : Vec Ideal ⟨1, ![128]⟩ .f32) (r : ℕ) (j : Fin 128) : EReal :=
  soft (line a w r ⟨j.val, by omega⟩ + b (ix1 j))

/-- the logarithm of its decay, -/
def decay (a : Vec Ideal ⟨2, ![8192, 4096]⟩ .f32) (w : Vec Ideal ⟨2, ![256, 4096]⟩ .bf16) (b l : Vec Ideal ⟨1, ![128]⟩ .f32) (r : ℕ) (j : Fin 128) : EReal :=
  step a w b r j * -Ideal.exp (l (ix1 j))

/-- and the logarithm of its forget gate. -/
def gate (a : Vec Ideal ⟨2, ![8192, 4096]⟩ .f32) (w : Vec Ideal ⟨2, ![256, 4096]⟩ .bf16) (f : Vec Ideal ⟨1, ![32]⟩ .f32) (r : ℕ) (j : Fin 32) : EReal :=
  lsig (line a w r ⟨128 + j.val, by omega⟩ + f (ix1 j))

/-- The decays up to a row of its chunk, -/
def decays (a : Vec Ideal ⟨2, ![8192, 4096]⟩ .f32) (w : Vec Ideal ⟨2, ![256, 4096]⟩ .bf16) (b l : Vec Ideal ⟨1, ![128]⟩ .f32) : Vec Ideal ⟨2, ![8192, 128]⟩ .f32 := fun y =>
  upto (fun k => decay a w b l (128 * ((y 0).val / 128) + k) (y 1)) ((y 0).val % 128 + 1)

/-- the same turned, -/
def turned (a : Vec Ideal ⟨2, ![8192, 4096]⟩ .f32) (w : Vec Ideal ⟨2, ![256, 4096]⟩ .bf16) (b l : Vec Ideal ⟨1, ![128]⟩ .f32) : Vec Ideal ⟨2, ![128, 8192]⟩ .f32 := fun y =>
  decays a w b l (ix2 (y 1) (y 0))

/-- the step sizes turned, -/
def steps (a : Vec Ideal ⟨2, ![8192, 4096]⟩ .f32) (w : Vec Ideal ⟨2, ![256, 4096]⟩ .bf16) (b : Vec Ideal ⟨1, ![128]⟩ .f32) : Vec Ideal ⟨2, ![128, 8192]⟩ .f32 := fun y =>
  step a w b (y 1).val (y 0)

/-- and the gates up to a row of its batch. -/
def gates (a : Vec Ideal ⟨2, ![8192, 4096]⟩ .f32) (w : Vec Ideal ⟨2, ![256, 4096]⟩ .bf16) (f : Vec Ideal ⟨1, ![32]⟩ .f32) : Vec Ideal ⟨3, ![2, 32, 4096]⟩ .f32 := fun y =>
  upto (fun k => gate a w f (4096 * (y 0).val + k) (y 1)) ((y 2).val + 1)

section Kernel

open Cert.Kernel13Ideal Cert.Kernel13Ideal.Gen

/-! ### What a point writes -/

section
variable {F : FTy → Type} [FloatOps F]
variable (c : Dev nD) (i : grid0.Coords) (arg2 : Memref sig .tc .vmem S128x4096 .bf16) (harg2 : arg2.IsWhole) (arg3 : Memref sig .tc .vmem S256x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S1x32x128 .f32) (harg10 : arg10.IsWhole) (arg11 : Memref sig .tc .vmem S1x128 .f32) (harg11 : arg11.IsWhole)
variable (x0 : Vec F S128x4096 .bf16) (x1 : Vec F S256x4096 .bf16) (x2 x3 x4 : Vec F S1x128 .f32)

theorem out5_A (hc0) : out0_A_5 c i arg2 harg2 arg3 harg3 arg4 harg4 arg5 harg5 arg6 harg6 arg7 harg7 arg8 harg8 arg9 harg9 arg10 harg10 arg11 harg11 hc0 x0 x1 x2 x3 x4 = k0_pay10 x0 x1 x2 x3 := by
  unfold out0_A_5 kernelRun0_A
  refine (View.read_writes_full ..).trans ?_
  rw [View.readAt_full arg2.view, harg2.read_unread, View.readAt_full arg3.view, harg3.read_unread, View.readAt_full arg4.view, harg4.read_unread, View.readAt_full arg5.view, harg5.read_unread]

theorem out6_A (hc0) : out0_A_6 c i arg2 harg2 arg3 harg3 arg4 harg4 arg5 harg5 arg6 harg6 arg7 harg7 arg8 harg8 arg9 harg9 arg10 harg10 arg11 harg11 hc0 x0 x1 x2 x3 x4 = k0_pay11 x0 x1 x2 := by
  unfold out0_A_6 kernelRun0_A
  refine (View.read_writes_full ..).trans ?_
  unfold kernelRun0_A.sl.r_2
  rw [View.readAt_full arg2.view, harg2.read_unread, View.readAt_full arg3.view, harg3.read_unread, View.readAt_full arg4.view, harg4.read_unread]

theorem out7_A (hc0) : out0_A_7 c i arg2 harg2 arg3 harg3 arg4 harg4 arg5 harg5 arg6 harg6 arg7 harg7 arg8 harg8 arg9 harg9 arg10 harg10 arg11 harg11 hc0 x0 x1 x2 x3 x4 = k0_pay1 (k0_pay10 x0 x1 x2 x3) := by
  unfold out0_A_7 kernelRun0_A
  refine (View.read_writes_full ..).trans ?_
  unfold kernelRun0_A.sl.r_1
  rw [View.readAt_full arg2.view, harg2.read_unread, View.readAt_full arg3.view, harg3.read_unread, View.readAt_full arg4.view, harg4.read_unread, View.readAt_full arg5.view, harg5.read_unread]

theorem out8_A (hc0) : out0_A_8 c i arg2 harg2 arg3 harg3 arg4 harg4 arg5 harg5 arg6 harg6 arg7 harg7 arg8 harg8 arg9 harg9 arg10 harg10 arg11 harg11 hc0 x0 x1 x2 x3 x4 = k0_pay4 (k0_pay7 x0 x1) k0_pay8 x4 k0_pay5 := by
  unfold out0_A_8 kernelRun0_A
  refine (View.read_writes_full ..).trans ?_
  unfold kernelRun0_A.sl.r kernelRun0_A.sl.v52 kernelRun0_A.sl.HS0_1 View.readCov
  rw [View.readAt_full arg2.view, harg2.read_unread, View.readAt_full arg3.view, harg3.read_unread, View.readAt_full arg6.view, harg6.read_unread, View.readAt_full arg11.view, View.read_writes_full]

theorem carry_A (hc0) : sout0_A_0 c i arg2 harg2 arg3 harg3 arg4 harg4 arg5 harg5 arg6 harg6 arg7 harg7 arg8 harg8 arg9 harg9 arg10 harg10 arg11 harg11 hc0 x0 x1 x2 x3 x4 = k0_pay3 (k0_pay7 x0 x1) k0_pay8 x4 k0_pay5 := by
  unfold sout0_A_0 kernelRun0_A
  refine (View.read_writes_full ..).trans ?_
  unfold kernelRun0_A.sl.r kernelRun0_A.sl.v52 kernelRun0_A.sl.HS0_1 View.readCov
  rw [View.readAt_full arg2.view, harg2.read_unread, View.readAt_full arg3.view, harg3.read_unread, View.readAt_full arg6.view, harg6.read_unread, View.readAt_full arg11.view, View.read_writes_full]

theorem out5_B (hc0) (xs0 : Vec F S1x128 .f32) : out0_B_5 c i arg2 harg2 arg3 harg3 arg4 harg4 arg5 harg5 arg6 harg6 arg7 harg7 arg8 harg8 arg9 harg9 arg10 harg10 arg11 harg11 hc0 x0 x1 x2 x3 x4 xs0 = k0_pay10 x0 x1 x2 x3 := by
  unfold out0_B_5 kernelRun0_B
  refine (View.read_writes_full ..).trans ?_
  rw [View.readAt_full arg2.view, harg2.read_unread, View.readAt_full arg3.view, harg3.read_unread, View.readAt_full arg4.view, harg4.read_unread, View.readAt_full arg5.view, harg5.read_unread]

theorem out6_B (hc0) (xs0 : Vec F S1x128 .f32) : out0_B_6 c i arg2 harg2 arg3 harg3 arg4 harg4 arg5 harg5 arg6 harg6 arg7 harg7 arg8 harg8 arg9 harg9 arg10 harg10 arg11 harg11 hc0 x0 x1 x2 x3 x4 xs0 = k0_pay11 x0 x1 x2 := by
  unfold out0_B_6 kernelRun0_B
  refine (View.read_writes_full ..).trans ?_
  unfold kernelRun0_B.sl.r_2
  rw [View.readAt_full arg2.view, harg2.read_unread, View.readAt_full arg3.view, harg3.read_unread, View.readAt_full arg4.view, harg4.read_unread]

theorem out7_B (hc0) (xs0 : Vec F S1x128 .f32) : out0_B_7 c i arg2 harg2 arg3 harg3 arg4 harg4 arg5 harg5 arg6 harg6 arg7 harg7 arg8 harg8 arg9 harg9 arg10 harg10 arg11 harg11 hc0 x0 x1 x2 x3 x4 xs0 = k0_pay1 (k0_pay10 x0 x1 x2 x3) := by
  unfold out0_B_7 kernelRun0_B
  refine (View.read_writes_full ..).trans ?_
  unfold kernelRun0_B.sl.r_1
  rw [View.readAt_full arg2.view, harg2.read_unread, View.readAt_full arg3.view, harg3.read_unread, View.readAt_full arg4.view, harg4.read_unread, View.readAt_full arg5.view, harg5.read_unread]

theorem out8_B (hc0) (xs0 : Vec F S1x128 .f32) : out0_B_8 c i arg2 harg2 arg3 harg3 arg4 harg4 arg5 harg5 arg6 harg6 arg7 harg7 arg8 harg8 arg9 harg9 arg10 harg10 arg11 harg11 hc0 x0 x1 x2 x3 x4 xs0 = k0_pay4 (k0_pay7 x0 x1) k0_pay8 x4 xs0 := by
  unfold out0_B_8 kernelRun0_B
  refine (View.read_writes_full ..).trans ?_
  unfold kernelRun0_B.sl.r
  rw [View.readAt_full arg2.view, harg2.read_unread, View.readAt_full arg3.view, harg3.read_unread, View.readAt_full arg6.view, harg6.read_unread, View.readAt_full arg11.view, harg11.read_unread]

theorem carry_B (hc0) (xs0 : Vec F S1x128 .f32) : sout0_B_0 c i arg2 harg2 arg3 harg3 arg4 harg4 arg5 harg5 arg6 harg6 arg7 harg7 arg8 harg8 arg9 harg9 arg10 harg10 arg11 harg11 hc0 x0 x1 x2 x3 x4 xs0 = k0_pay3 (k0_pay7 x0 x1) k0_pay8 x4 xs0 := by
  unfold sout0_B_0 kernelRun0_B
  refine (View.read_writes_full ..).trans ?_
  unfold kernelRun0_B.sl.r
  rw [View.readAt_full arg2.view, harg2.read_unread, View.readAt_full arg3.view, harg3.read_unread, View.readAt_full arg6.view, harg6.read_unread, View.readAt_full arg11.view, harg11.read_unread]

end

theorem pay6_at (x0 : Vec Ideal S128x4096 .bf16) (x1 : Vec Ideal S256x4096 .bf16) (r : Fin 128) (e : Fin 256) :
    k0_pay6 x0 x1 (ix2 r e) = ∑ x : Fin 4096, (x0 (ix2 r x) : EReal) * x1 (ix2 e x) := by
  pointwise [k0_pay6]

theorem pay7_at (x0 : Vec Ideal S128x4096 .bf16) (x1 : Vec Ideal S256x4096 .bf16) (r j : Fin 128) :
    k0_pay7 x0 x1 (ix2 r j) = k0_pay6 x0 x1 (ix2 r ⟨128 + j.val, by omega⟩) := by
  pointwise [k0_pay7]

theorem pay8_at (r k : Fin 128) : (k0_pay8 (F := Ideal) (ix2 r k) : EReal) = if k.val ≤ r.val then 1 else 0 := by
  pointwise [k0_pay8]
  rw [(by decide +kernel : ∀ r k : Fin 128, IntOp.cmpi CmpIPredicate.sge (BitVec.ofNat 32 r.val) (BitVec.ofNat 32 k.val) = if k.val ≤ r.val then 1#1 else 0#1) r k]
  show (((BitVec.setWidth 32 (if k.val ≤ r.val then 1#1 else 0#1)).toInt : ℝ) : EReal) = _
  split <;> norm_num

theorem pay9_at (x0 : Vec Ideal S128x4096 .bf16) (x1 : Vec Ideal S256x4096 .bf16) (x2 : Vec Ideal S1x128 .f32) (r j : Fin 128) :
    k0_pay9 x0 x1 x2 (ix2 r j) = soft (k0_pay6 x0 x1 (ix2 r ⟨j.val, by omega⟩) + x2 (ix2 0 j)) := by
  unfold soft
  pointwise [k0_pay9]
  rfl

theorem pay10_at (x0 : Vec Ideal S128x4096 .bf16) (x1 : Vec Ideal S256x4096 .bf16) (x2 x3 : Vec Ideal S1x128 .f32) (r j : Fin 128) :
    k0_pay10 x0 x1 x2 x3 (ix2 r j) = ∑ k : Fin 128, (k0_pay8 (F := Ideal) (ix2 r k) : EReal) * (k0_pay9 x0 x1 x2 (ix2 k j) * -Ideal.exp (x3 (ix2 0 j))) := by
  pointwise [k0_pay10]
  simp only [zero_sub]

theorem pay11_at (x0 : Vec Ideal S128x4096 .bf16) (x1 : Vec Ideal S256x4096 .bf16) (x2 : Vec Ideal S1x128 .f32) (r j : Fin 128) :
    k0_pay11 x0 x1 x2 (ix2 j r) = k0_pay9 x0 x1 x2 (ix2 r j) := by
  pointwise [k0_pay11]

theorem pay1_at (x : FVec Ideal S128x128 .f32) (r j : Fin 128) : k0_pay1 (F := Ideal) x (ix2 j r) = x (ix2 r j) := by
  pointwise [k0_pay1]

theorem pay2_at (x y : Vec Ideal S128x128 .f32) (b s : Vec Ideal S1x128 .f32) (r j : Fin 128) :
    k0_pay2 x y b s (ix2 r j) = (∑ k : Fin 128, (y (ix2 r k) : EReal) * lsig (x (ix2 k j) + b (ix2 0 j))) + s (ix2 0 j) := by
  unfold lsig
  pointwise [k0_pay2]
  rfl

theorem pay3_at (x y : Vec Ideal S128x128 .f32) (b s : Vec Ideal S1x128 .f32) (j : Fin 128) :
    k0_pay3 x y b s (ix2 0 j) = k0_pay2 x y b s (ix2 127 j) := by
  pointwise [k0_pay3]

theorem pay4_at (x y : Vec Ideal S128x128 .f32) (b s : Vec Ideal S1x128 .f32) (j : Fin 32) (r : Fin 128) :
    k0_pay4 x y b s (ix3 0 j r) = k0_pay2 x y b s (ix2 r ⟨j.val, by omega⟩) := by
  pointwise [k0_pay4]

theorem pay5_at (j : Fin 128) : (k0_pay5 (F := Ideal) (ix2 0 j) : EReal) = 0 := by
  pointwise [k0_pay5]

/-- Ones on and below the diagonal add the terms up to a row. -/
theorem tri_sum (g : ℕ → EReal) (f : Fin 128 → EReal) (h : ∀ k, f k = g k.val) (r : Fin 128) :
    (∑ k : Fin 128, (k0_pay8 (F := Ideal) (ix2 r k) : EReal) * f k) = upto g (r.val + 1) := by
  rw [← sum_le g r]
  refine Finset.sum_congr rfl fun k _ => ?_
  rw [pay8_at, h]
  split
  · rw [one_mul]
  · rw [zero_mul]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![t.val / 32, 0, t.val % 32] := (by decide +kernel : ∀ t : Fin grid0.N, _)

theorem lt64 (t : Fin cfg0.N) : t.val < 64 := t.isLt

variable (m : (ℓ : Loc nD τ sig) → Buf (Elt Ideal) ℓ)

/-- The arrays a launch reads. -/
abbrev A (c : Dev nD) : Vec Ideal S8192x4096 .f32 := m ((c : Thread nD τ).loc main_arg0)
abbrev W (c : Dev nD) : Vec Ideal S256x4096 .bf16 := m ((c : Thread nD τ).loc main_arg1)
abbrev B (c : Dev nD) : Vec Ideal S128 .f32 := m ((c : Thread nD τ).loc main_arg2)
abbrev L (c : Dev nD) : Vec Ideal S128 .f32 := m ((c : Thread nD τ).loc main_arg3)
abbrev G (c : Dev nD) : Vec Ideal S32 .f32 := m ((c : Thread nD τ).loc main_arg4)

theorem input_at (c : Dev nD) (r : Fin 8192) (x : Fin 4096) : ((V m c main_v1 : Vec Ideal S8192x4096 .bf16) (ix2 r x) : EReal) = A m c (ix2 r x) := by
  simp only [V, hostOps0, List.flatten_cons, List.flatten_nil, List.append_nil, List.cons_append, List.nil_append]
  entry_read
  pointwise

theorem bias_at (c : Dev nD) (j : Fin 128) : (V m c main_v2 : Vec Ideal S1x128 .f32) (ix2 0 j) = B m c (ix1 j) := by
  simp only [V, hostOps0, List.flatten_cons, List.flatten_nil, List.append_nil, List.cons_append, List.nil_append]
  entry_read
  pointwise

theorem log_at (c : Dev nD) (j : Fin 128) : (V m c main_v3 : Vec Ideal S1x128 .f32) (ix2 0 j) = L m c (ix1 j) := by
  simp only [V, hostOps0, List.flatten_cons, List.flatten_nil, List.append_nil, List.cons_append, List.nil_append]
  entry_read
  pointwise

theorem forget_at (c : Dev nD) (j : Fin 32) : (V m c main_v5 : Vec Ideal S1x128 .f32) (ix2 0 ⟨j.val, by omega⟩) = G m c (ix1 j) := by
  simp only [V, hostOps0, List.flatten_cons, List.flatten_nil, List.append_nil, List.cons_append, List.nil_append]
  entry_read
  pointwise

theorem line_at (c : Dev nD) (t : Fin cfg0.N) (r : Fin 128) (e : Fin 256) :
    k0_pay6 (iblk m c 0 t) (iblk m c 1 t) (ix2 r e) = line (A m c) (W m c) (128 * t.val + r.val) e := by
  have ht := lt64 t
  refine (pay6_at _ _ r e).trans ?_
  unfold line
  refine Finset.sum_congr rfl fun x _ => ?_
  have e0 : (iblk m c 0 t : Vec Ideal S128x4096 .bf16) (ix2 r x) = (V m c main_v1 : Vec Ideal S8192x4096 .bf16) (ix2 ⟨128 * t.val + r.val, by omega⟩ x) := by
    blk_point [iblk, idx0 t]
  have e1 : (iblk m c 1 t : Vec Ideal S256x4096 .bf16) (ix2 e x) = W m c (ix2 e x) := by
    blk_point [iblk, idx1 t, V_main_arg1]
  rw [e0, e1, input_at]
  congr 3
  apply Fin.ext
  dsimp only
  omega

theorem step_at (c : Dev nD) (t : Fin cfg0.N) (r j : Fin 128) :
    k0_pay9 (iblk m c 0 t) (iblk m c 1 t) (iblk m c 2 t) (ix2 r j) = step (A m c) (W m c) (B m c) (128 * t.val + r.val) j := by
  have e : (iblk m c 2 t : Vec Ideal S1x128 .f32) (ix2 0 j) = B m c (ix1 j) := by
    rw [← bias_at m c j]
    blk_point [iblk, idx2 t]
  refine (pay9_at _ _ _ r j).trans ?_
  rw [line_at, e]
  rfl

theorem decays_at (c : Dev nD) (t : Fin cfg0.N) (r j : Fin 128) : k0_pay10 (iblk m c 0 t) (iblk m c 1 t) (iblk m c 2 t) (iblk m c 3 t) (ix2 r j)
    = decays (A m c) (W m c) (B m c) (L m c) (ix2 ⟨128 * t.val + r.val, by have := lt64 t; omega⟩ j) := by
  have ht := lt64 t
  have e : (iblk m c 3 t : Vec Ideal S1x128 .f32) (ix2 0 j) = L m c (ix1 j) := by
    rw [← log_at m c j]
    blk_point [iblk, idx3 t]
  refine (pay10_at _ _ _ _ r j).trans ?_
  rw [e]
  refine (tri_sum (fun k => decay (A m c) (W m c) (B m c) (L m c) (128 * t.val + k) j) _ (fun k => ?_) r).trans ?_
  · rw [step_at]; rfl
  · show _ = upto (fun k => decay (A m c) (W m c) (B m c) (L m c) (128 * ((128 * t.val + r.val) / 128) + k) j) ((128 * t.val + r.val) % 128 + 1)
    rw [show (128 * t.val + r.val) / 128 = t.val by omega, show (128 * t.val + r.val) % 128 = r.val by omega]

/-- The gates of a batch, a head's, from the batch's first row. -/
abbrev batch (c : Dev nD) (p : ℕ) (j : Fin 32) (k : ℕ) : EReal := gate (A m c) (W m c) (G m c) (4096 * p + k) j

theorem sums_at (c : Dev nD) (t : Fin cfg0.N) (s : Vec Ideal S1x128 .f32) (r : Fin 128) (j : Fin 32)
    (hs : s (ix2 0 ⟨j.val, by omega⟩) = upto (batch m c (t.val / 32) j) (128 * (t.val % 32))) :
    k0_pay2 (k0_pay7 (iblk m c 0 t) (iblk m c 1 t)) k0_pay8 (iblk m c 4 t) s (ix2 r ⟨j.val, by omega⟩) = upto (batch m c (t.val / 32) j) (128 * (t.val % 32) + (r.val + 1)) := by
  have ht := lt64 t
  have e : (iblk m c 4 t : Vec Ideal S1x128 .f32) (ix2 0 ⟨j.val, by omega⟩) = G m c (ix1 j) := by
    rw [← forget_at m c j]
    blk_point [iblk, idx4 t]
  refine (pay2_at _ _ _ _ r _).trans ?_
  rw [e, hs, upto_add, add_comm]
  congr 1
  refine tri_sum _ _ (fun k => ?_) r
  rw [pay7_at, line_at]
  show _ = lsig (line (A m c) (W m c) (4096 * (t.val / 32) + (128 * (t.val % 32) + k.val)) ⟨128 + j.val, by omega⟩ + G m c (ix1 j))
  rw [show 4096 * (t.val / 32) + (128 * (t.val % 32) + k.val) = 128 * t.val + k.val by omega]

theorem carry_out (c : Dev nD) (n : ℕ) : ∀ t : Fin cfg0.N, t.val = n → ∀ j : Fin 32,
    ((outsAt0 m c t.val t.isLt).2.2.2.2 : Vec Ideal S1x128 .f32) (ix2 0 ⟨j.val, by omega⟩) = upto (batch m c (t.val / 32) j) (128 * (t.val % 32) + 128) := by
  induction n with
  | zero =>
    intro t ht j
    have h0 : t.val % 32 = 0 := by omega
    rw [outsAt0_A m c t h0]
    dsimp only
    rw [carry_A]
    refine (pay3_at _ _ _ _ _).trans (sums_at m c t _ 127 j ?_)
    rw [pay5_at, h0]
    rfl
  | succ n ih =>
    intro t ht j
    by_cases h0 : t.val % 32 = 0
    · rw [outsAt0_A m c t h0]
      dsimp only
      rw [carry_A]
      refine (pay3_at _ _ _ _ _).trans (sums_at m c t _ 127 j ?_)
      rw [pay5_at, h0]
      rfl
    · rw [outsAt0_B m c t h0]
      dsimp only
      rw [carry_B]
      refine (pay3_at _ _ _ _ _).trans (sums_at m c t _ 127 j ?_)
      refine (ih ⟨t.val - 1, by omega⟩ (by show t.val - 1 = n; omega) j).trans ?_
      dsimp only
      rw [show (t.val - 1) / 32 = t.val / 32 by omega, show 128 * ((t.val - 1) % 32) + 128 = 128 * (t.val % 32) by omega]

theorem point5 (c : Dev nD) (t : Fin cfg0.N) : (outsAt0 m c t.val t.isLt).1 = k0_pay10 (iblk m c 0 t) (iblk m c 1 t) (iblk m c 2 t) (iblk m c 3 t) := by
  by_cases h0 : t.val % 32 = 0
  · rw [outsAt0_A m c t h0]; dsimp only; exact out5_A ..
  · rw [outsAt0_B m c t h0]; dsimp only; exact out5_B ..

theorem point6 (c : Dev nD) (t : Fin cfg0.N) : (outsAt0 m c t.val t.isLt).2.1 = k0_pay11 (iblk m c 0 t) (iblk m c 1 t) (iblk m c 2 t) := by
  by_cases h0 : t.val % 32 = 0
  · rw [outsAt0_A m c t h0]; dsimp only; exact out6_A ..
  · rw [outsAt0_B m c t h0]; dsimp only; exact out6_B ..

theorem point7 (c : Dev nD) (t : Fin cfg0.N) : (outsAt0 m c t.val t.isLt).2.2.1 = k0_pay1 (k0_pay10 (iblk m c 0 t) (iblk m c 1 t) (iblk m c 2 t) (iblk m c 3 t)) := by
  by_cases h0 : t.val % 32 = 0
  · rw [outsAt0_A m c t h0]; dsimp only; exact out7_A ..
  · rw [outsAt0_B m c t h0]; dsimp only; exact out7_B ..

theorem point8 (c : Dev nD) (t : Fin cfg0.N) (j : Fin 32) (r : Fin 128) :
    ((outsAt0 m c t.val t.isLt).2.2.2.1 : Vec Ideal S1x32x128 .f32) (ix3 0 j r) = upto (batch m c (t.val / 32) j) (128 * (t.val % 32) + (r.val + 1)) := by
  by_cases h0 : t.val % 32 = 0
  · rw [outsAt0_A m c t h0]
    dsimp only
    rw [out8_A]
    refine (pay4_at _ _ _ _ j r).trans (sums_at m c t _ r j ?_)
    rw [pay5_at, h0]
    rfl
  · rw [outsAt0_B m c t h0]
    dsimp only
    rw [out8_B]
    refine (pay4_at _ _ _ _ j r).trans (sums_at m c t _ r j ?_)
    refine (carry_out m c _ ⟨t.val - 1, by omega⟩ rfl j).trans ?_
    dsimp only
    rw [show (t.val - 1) / 32 = t.val / 32 by omega, show 128 * ((t.val - 1) % 32) + 128 = 128 * (t.val % 32) by omega]

theorem result5 (c : Dev nD) : (dats m 0 c).arrAt 5 cfg0.N = decays (A m c) (W m c) (B m c) (L m c) := by
  refine (dats m 0 c).arrAt_eq_of_covers 5 _ (by decide +kernel) fun t _ y => ?_
  obtain ⟨r, j, rfl⟩ : ∃ (r : Fin 128) (j : Fin 128), y = ix2 r j := ⟨y 0, y 1, eq_ix2 y⟩
  have ht := lt64 t
  blk_simp
  rw [after0_5, point5]
  refine (decays_at m c t r j).trans ?_
  blk_ext [idx5 t]

theorem result6 (c : Dev nD) : (dats m 0 c).arrAt 6 cfg0.N = steps (A m c) (W m c) (B m c) := by
  refine (dats m 0 c).arrAt_eq_of_covers 6 _ (by decide +kernel) fun t _ y => ?_
  obtain ⟨j, r, rfl⟩ : ∃ (j : Fin 128) (r : Fin 128), y = ix2 j r := ⟨y 0, y 1, eq_ix2 y⟩
  have ht := lt64 t
  blk_simp
  rw [after0_6, point6]
  refine (pay11_at _ _ _ r j).trans ((step_at m c t r j).trans ?_)
  have e : ((View.whole main_v6_1).slice (win0_6.rect t)).emb (ix2 j r) = (ix2 j ⟨128 * t.val + r.val, by omega⟩ : S128x8192.Idx) := by
    blk_ext [idx6 t]
  exact (congrArg (steps (A m c) (W m c) (B m c)) e).symm

theorem result7 (c : Dev nD) : (dats m 0 c).arrAt 7 cfg0.N = turned (A m c) (W m c) (B m c) (L m c) := by
  refine (dats m 0 c).arrAt_eq_of_covers 7 _ (by decide +kernel) fun t _ y => ?_
  obtain ⟨j, r, rfl⟩ : ∃ (j : Fin 128) (r : Fin 128), y = ix2 j r := ⟨y 0, y 1, eq_ix2 y⟩
  have ht := lt64 t
  blk_simp
  rw [after0_7, point7]
  refine (pay1_at _ r j).trans ((decays_at m c t r j).trans ?_)
  have e : ((View.whole main_v6_2).slice (win0_7.rect t)).emb (ix2 j r) = (ix2 j ⟨128 * t.val + r.val, by omega⟩ : S128x8192.Idx) := by
    blk_ext [idx7 t]
  exact (congrArg (turned (A m c) (W m c) (B m c) (L m c)) e).symm

theorem result8 (c : Dev nD) : (dats m 0 c).arrAt 8 cfg0.N = gates (A m c) (W m c) (G m c) := by
  refine (dats m 0 c).arrAt_eq_of_covers 8 _ (by decide +kernel) fun t _ y => ?_
  obtain ⟨z, j, r, rfl⟩ : ∃ (z : Fin 1) (j : Fin 32) (r : Fin 128), y = ix3 z j r := ⟨y 0, y 1, y 2, eq_ix3 y⟩
  obtain rfl : z = 0 := by omega
  have ht := lt64 t
  blk_simp
  rw [after0_8]
  refine (point8 m c t j r).trans ?_
  have e : ((View.whole main_v6_3).slice (win0_8.rect t)).emb (ix3 0 j r) = (ix3 ⟨t.val / 32, by omega⟩ j ⟨128 * (t.val % 32) + r.val, by omega⟩ : S2x32x4096.Idx) := by
    blk_ext [idx8 t]
  exact (congrArg (gates (A m c) (W m c) (G m c)) e).symm

end Kernel

theorem log_ne (x : EReal) : Ideal.log1p (Ideal.exp (0 - max x (-x))) ≠ ⊥ := by
  have h : (0 : EReal) ≤ Ideal.exp (0 - max x (-x)) := by
    induction (0 - max x (-x)) with
    | bot => exact le_refl _
    | top => exact le_top
    | coe r => exact EReal.coe_nonneg.2 (Real.exp_pos r).le
  revert h
  generalize Ideal.exp (0 - max x (-x)) = y
  intro h
  induction y with
  | bot => simp at h
  | top =>
    unfold Ideal.log1p
    rw [show (1 : EReal) + ⊤ = ⊤ from EReal.coe_add_top 1]
    exact top_ne_bot
  | coe r =>
    have hr : (0 : ℝ) ≤ r := EReal.coe_nonneg.1 h
    unfold Ideal.log1p
    rw [show (1 : EReal) + (r : EReal) = ((1 + r : ℝ) : EReal) from rfl]
    show (if 1 + r ≤ 0 then (⊥ : EReal) else (Real.log (1 + r) : EReal)) ≠ ⊥
    rw [if_neg (by linarith)]
    exact EReal.coe_ne_bot _

/-- The two forms of the logarithm of the logistic function. -/
theorem neg_soft (x : EReal) : -soft (-x) = lsig x := by
  unfold soft lsig
  rw [neg_neg, max_comm (-x) x, EReal.neg_add (.inl (ne_of_gt (lt_of_lt_of_le EReal.bot_lt_zero (le_max_right _ _)))) (.inr (log_ne x))]
  congr 1
  rcases le_total x 0 with h | h
  · rw [max_eq_left (EReal.neg_nonneg.2 h), neg_neg, min_eq_left h]
  · rw [max_eq_right (by simpa using EReal.neg_le_neg_iff.2 h), neg_zero, min_eq_right h]

section Reference

open Cert.Reference13Ideal Cert.Reference13Ideal.Gen

/-- The reference's products of the rows with the weights, -/
def proj (a : FVec Ideal S8192x4096 .f32) (w : FVec Ideal S256x4096 .bf16) : FVec Ideal S8192x256 .f32 :=
  Host.dotGeneral dot_S8192x4096_S256x4096_S8192x256_1_1_0_0_n_n none a (extf .f32 w bitsLt_bf16_f32)

/-- what its step sizes are computed of, -/
def before (a : FVec Ideal S8192x4096 .f32) (w : FVec Ideal S256x4096 .bf16) (b : FVec Ideal S128 .f32) : FVec Ideal S8192x128 .f32 :=
  addf (extractStridedSlice S8192x128 ![0, 0] (proj a w) slices_S8192x256_S8192x128_0_0) (broadcastInDim S8192x128 ![0, 1] bcast_S1x128_S8192x128_0_1 (broadcastInDim S1x128 ![1] bcast_S128_S1x128_1 b))

/-- its step sizes, -/
def refSteps (x : FVec Ideal S8192x128 .f32) : FVec Ideal S8192x128 .f32 :=
  select (cmpf .une (subf x (broadcastInDim S8192x128 ![] bcast_S_S8192x128 (constant S_ .f32 0x00000000#32))) (subf x (broadcastInDim S8192x128 ![] bcast_S_S8192x128 (constant S_ .f32 0x00000000#32))))
    (addf x (broadcastInDim S8192x128 ![] bcast_S_S8192x128 (constant S_ .f32 0x00000000#32)))
    (addf (maximumf x (broadcastInDim S8192x128 ![] bcast_S_S8192x128 (constant S_ .f32 0x00000000#32)))
      (Host.log1p (Host.exp (Host.negf (Host.absf (subf x (broadcastInDim S8192x128 ![] bcast_S_S8192x128 (constant S_ .f32 0x00000000#32))))))))

/-- the decays of its step sizes, in chunks, -/
def refDecays (x : FVec Ideal S8192x128 .f32) (l : FVec Ideal S128 .f32) : FVec Ideal S64x128x128 .f32 :=
  shapeCast _ (mulf x (broadcastInDim S8192x128 ![0, 1] bcast_S1x128_S8192x128_0_1 (broadcastInDim S1x128 ![1] bcast_S128_S1x128_1 (Host.negf (Host.exp l))))) shapeCasts_S8192x128_S64x128x128

/-- their sums, -/
def refSums (x : FVec Ideal S64x128x128 .f32) : FVec Ideal S8192x128 .f32 :=
  shapeCast _ (Host.reduceWindowAdd ![1, 128, 1] ![1, 1, 1] ![0, 127, 0] ![0, 0, 0] x (broadcastInDim S_ ![] bcast_S_S_ (constant S_ .f32 0x00000000#32)) reduceWindows_S64x128x128_S64x128x128_w1s1p0_0_w128s1p127_0_w1s1p0_0 h_S_) shapeCasts_S64x128x128_S8192x128

/-- what its forget gates are computed of, negated, -/
def against (a : FVec Ideal S8192x4096 .f32) (w : FVec Ideal S256x4096 .bf16) (f : FVec Ideal S32 .f32) : FVec Ideal S8192x32 .f32 :=
  Host.negf (addf (extractStridedSlice S8192x32 ![0, 128] (proj a w) slices_S8192x256_S8192x32_0_128) (broadcastInDim S8192x32 ![0, 1] bcast_S1x32_S8192x32_0_1 (broadcastInDim S1x32 ![1] bcast_S32_S1x32_1 f)))

/-- the gates' logarithms, in batches, -/
def refGates (x : FVec Ideal S8192x32 .f32) : FVec Ideal S2x4096x32 .f32 :=
  shapeCast _ (Host.negf (select (cmpf .une (subf x (broadcastInDim S8192x32 ![] bcast_S_S8192x32 (constant S_ .f32 0x00000000#32))) (subf x (broadcastInDim S8192x32 ![] bcast_S_S8192x32 (constant S_ .f32 0x00000000#32))))
    (addf x (broadcastInDim S8192x32 ![] bcast_S_S8192x32 (constant S_ .f32 0x00000000#32)))
    (addf (maximumf x (broadcastInDim S8192x32 ![] bcast_S_S8192x32 (constant S_ .f32 0x00000000#32)))
      (Host.log1p (Host.exp (Host.negf (Host.absf (subf x (broadcastInDim S8192x32 ![] bcast_S_S8192x32 (constant S_ .f32 0x00000000#32)))))))))) shapeCasts_S8192x32_S2x4096x32

/-- and their sums. -/
def refRun (x : FVec Ideal S2x4096x32 .f32) : FVec Ideal S2x32x4096 .f32 :=
  transpose S2x32x4096 [0, 2, 1] (Host.reduceWindowAdd ![1, 4096, 1] ![1, 1, 1] ![0, 4095, 0] ![0, 0, 0] x (broadcastInDim S_ ![] bcast_S_S_ (constant S_ .f32 0x00000000#32)) reduceWindows_S2x4096x32_S2x4096x32_w1s1p0_0_w4096s1p4095_0_w1s1p0_0 h_S_) transposes_S2x4096x32_S2x32x4096_0_2_1

theorem proj_at (a : FVec Ideal S8192x4096 .f32) (w : FVec Ideal S256x4096 .bf16) (r : Fin 8192) (e : Fin 256) : proj a w (ix2 r e) = line a w r.val e := by
  unfold line
  rw [show (⟨r.val % 8192, Nat.mod_lt _ (by decide)⟩ : Fin 8192) = r from Fin.ext (Nat.mod_eq_of_lt r.isLt)]
  pointwise [proj]

theorem before_at (a : FVec Ideal S8192x4096 .f32) (w : FVec Ideal S256x4096 .bf16) (b : FVec Ideal S128 .f32) (r : Fin 8192) (j : Fin 128) :
    before a w b (ix2 r j) = line a w r.val ⟨j.val, by omega⟩ + b (ix1 j) := by
  rw [← proj_at]
  pointwise [before]

theorem refSteps_at (x : FVec Ideal S8192x128 .f32) (r : Fin 8192) (j : Fin 128) : refSteps x (ix2 r j) = soft (x (ix2 r j)) := by
  unfold soft
  pointwise [refSteps]
  simp
  rfl

theorem against_at (a : FVec Ideal S8192x4096 .f32) (w : FVec Ideal S256x4096 .bf16) (f : FVec Ideal S32 .f32) (r : Fin 8192) (j : Fin 32) :
    against a w f (ix2 r j) = -(line a w r.val ⟨128 + j.val, by omega⟩ + f (ix1 j)) := by
  rw [← proj_at]
  pointwise [against]

theorem refGates_at (x : FVec Ideal S8192x32 .f32) (p : Fin 2) (k : Fin 4096) (j : Fin 32) : refGates x (ix3 p k j) = -soft (x (ix2 ⟨p.val * 4096 + k.val, by omega⟩ j)) := by
  unfold soft
  pointwise [refGates]
  simp
  rfl

theorem refDecays_at (x : FVec Ideal S8192x128 .f32) (l : FVec Ideal S128 .f32) (p : Fin 64) (k j : Fin 128) :
    refDecays x l (ix3 p k j) = x (ix2 ⟨p.val * 128 + k.val, by omega⟩ j) * -Ideal.exp (l (ix1 j)) := by
  pointwise [refDecays]

theorem zero_at (y : S_.Idx) : (broadcastInDim S_ ![] bcast_S_S_ (constant S_ .f32 0x00000000#32) : FVec Ideal S_ .f32) y = (0 : EReal) := by
  show Ideal.ofBits .f32 0x00000000#32 = 0
  simp [Ideal.ofBits, Ideal.ieee]

theorem refSums_at (x : FVec Ideal S64x128x128 .f32) (r : Fin 8192) (j : Fin 128) (g : ℕ → EReal) (h : ∀ k : Fin 128, x (ix3 ⟨r.val / 128, by omega⟩ k j) = g k.val) :
    refSums x (ix2 r j) = upto g (r.val % 128 + 1) := by
  refine Eq.trans ?_ (running (N := 127) x g _ zero_at reduceWindows_S64x128x128_S64x128x128_w1s1p0_0_w128s1p127_0_w1s1p0_0 h_S_ ⟨r.val / 128, by omega⟩ ⟨r.val % 128, by omega⟩ j h)
  unfold refSums
  generalize (Host.reduceWindowAdd ![1, 128, 1] ![1, 1, 1] ![0, 127, 0] ![0, 0, 0] x (broadcastInDim S_ ![] bcast_S_S_ (constant S_ .f32 0x00000000#32)) reduceWindows_S64x128x128_S64x128x128_w1s1p0_0_w128s1p127_0_w1s1p0_0 h_S_ : FVec Ideal S64x128x128 .f32) = z
  pointwise

theorem refRun_at (x : FVec Ideal S2x4096x32 .f32) (p : Fin 2) (i : Fin 4096) (j : Fin 32) (g : ℕ → EReal) (h : ∀ k : Fin 4096, x (ix3 p k j) = g k.val) :
    refRun x (ix3 p j i) = upto g (i.val + 1) := by
  refine Eq.trans ?_ (running (N := 4095) x g _ zero_at reduceWindows_S2x4096x32_S2x4096x32_w1s1p0_0_w4096s1p4095_0_w1s1p0_0 h_S_ p i j h)
  unfold refRun
  generalize (Host.reduceWindowAdd ![1, 4096, 1] ![1, 1, 1] ![0, 4095, 0] ![0, 0, 0] x (broadcastInDim S_ ![] bcast_S_S_ (constant S_ .f32 0x00000000#32)) reduceWindows_S2x4096x32_S2x4096x32_w1s1p0_0_w4096s1p4095_0_w1s1p0_0 h_S_ : FVec Ideal S2x4096x32 .f32) = z
  pointwise

theorem steps_eq (a : FVec Ideal S8192x4096 .f32) (w : FVec Ideal S256x4096 .bf16) (b : FVec Ideal S128 .f32) (r : Fin 8192) (j : Fin 128) :
    refSteps (before a w b) (ix2 r j) = step a w b r.val j := by
  rw [refSteps_at, before_at]; rfl

theorem reference5 (a : FVec Ideal S8192x4096 .f32) (w : FVec Ideal S256x4096 .bf16) (b l : FVec Ideal S128 .f32) :
    refSums (refDecays (refSteps (before a w b)) l) = decays a w b l := by
  funext y
  obtain ⟨r, j, rfl⟩ : ∃ (r : Fin 8192) (j : Fin 128), y = ix2 r j := ⟨y 0, y 1, eq_ix2 y⟩
  refine refSums_at _ r j (fun k => decay a w b l (128 * (r.val / 128) + k) j) fun k => ?_
  rw [refDecays_at, steps_eq]
  show decay a w b l (r.val / 128 * 128 + k.val) j = decay a w b l (128 * (r.val / 128) + k.val) j
  rw [Nat.mul_comm]

theorem reference6 (a : FVec Ideal S8192x4096 .f32) (w : FVec Ideal S256x4096 .bf16) (b : FVec Ideal S128 .f32) :
    transpose S128x8192 [1, 0] (refSteps (before a w b)) transposes_S8192x128_S128x8192_1_0 = steps a w b := by
  funext y
  obtain ⟨j, r, rfl⟩ : ∃ (j : Fin 128) (r : Fin 8192), y = ix2 j r := ⟨y 0, y 1, eq_ix2 y⟩
  refine Eq.trans ?_ (steps_eq a w b r j)
  generalize refSteps (before a w b) = z
  pointwise

theorem reference7 (a : FVec Ideal S8192x4096 .f32) (w : FVec Ideal S256x4096 .bf16) (b l : FVec Ideal S128 .f32) :
    transpose S128x8192 [1, 0] (refSums (refDecays (refSteps (before a w b)) l)) transposes_S8192x128_S128x8192_1_0 = turned a w b l := by
  rw [reference5]
  funext y
  obtain ⟨j, r, rfl⟩ : ∃ (j : Fin 128) (r : Fin 8192), y = ix2 j r := ⟨y 0, y 1, eq_ix2 y⟩
  unfold turned
  generalize decays a w b l = z
  pointwise

theorem reference8 (a : FVec Ideal S8192x4096 .f32) (w : FVec Ideal S256x4096 .bf16) (f : FVec Ideal S32 .f32) : refRun (refGates (against a w f)) = gates a w f := by
  funext y
  obtain ⟨p, j, i, rfl⟩ : ∃ (p : Fin 2) (j : Fin 32) (i : Fin 4096), y = ix3 p j i := ⟨y 0, y 1, y 2, eq_ix3 y⟩
  refine refRun_at _ p i j (fun k => gate a w f (4096 * p.val + k) j) fun k => ?_
  rw [refGates_at, against_at, neg_soft]
  show gate a w f (p.val * 4096 + k.val) j = gate a w f (4096 * p.val + k.val) j
  rw [Nat.mul_comm]

end Reference

theorem frame_reference : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The kernel and the reference leave the same sums of decays, the same step sizes and the same sums of gates. -/
theorem same : Cert.algebraic_Kernel13Ideal_Reference13Ideal := fun m ρ m' ρ' _ ha => by
  refine ⟨_, _, _, _, Cert.Kernel13Ideal.Value.run_blocks (F := Ideal) m ρ,
    (θ_run Cert.Reference13Ideal.defs _ _).mono (fun r h c => ?_) (Cert.Reference13Ideal.Value.run (F := Ideal) m' ρ')⟩
  obtain ⟨h0, h1, h2, h3, hr⟩ := h c
  obtain ⟨a0, a1, a2, a3, a4⟩ := ha c
  refine ⟨h0.trans ?_, h1.trans ?_, h2.trans ?_, h3.trans ?_, hr⟩
  · rw [result5 m c, a0, a1, a2, a3]
    exact reference5 _ _ _ _
  · rw [result6 m c, a0, a1, a2]
    exact reference6 _ _ _
  · rw [result7 m c, a0, a1, a2, a3]
    exact reference7 _ _ _ _
  · rw [result8 m c, a0, a1, a4]
    exact reference8 _ _ _

end Cert.Proof.HeadPrep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Final
public import proofs.«01_k».proof.Proof.Ref
public import proofs.«01_k».proof.Proof.Merge
public import proofs.«01_k».proof.Proof.FfnDown
public import proofs.«01_k».proof.Proof.OutProj
public import proofs.«01_k».proof.Proof.QkvProj
public import proofs.«01_k».proof.Proof.GateProj
public import proofs.«01_k».proof.Proof.SsdProj
public import proofs.«01_k».proof.Proof.FfnUp
public import proofs.«01_k».proof.Proof.LayerNorm
public import proofs.«01_k».proof.Proof.CastRows
public import proofs.«01_k».proof.Proof.HeadPrep
public import Idealize.ShloMosaic.Adequacy
public import Idealize.ShloMosaic.Init
public import Idealize.ShloMosaic.Lib.Quiescent

@[expose] public section

noncomputable section

-- The claims about Kernel, KernelIdeal, ReferenceIdeal also say that every semaphore counter ends at zero; the proof shows that too.

namespace Cert.Proof

open Idealize.ShloMosaic Idealize.SL.Sem Cert.Kernel

/-- The shapes that the precondition states fit. -/
theorem pre_facts : Cert.Pre_finite_scores.Facts where
  slices_S2x4096x12288_S2x4096x8192_0_0_0 := by decide
  shapeCasts_S2x4096x8192_S2x4096x2x32x128 := by decide
  transposes_S2x32x4096_S2x4096x32_0_2_1 := by decide
  shapeCasts_S2x4096x32_S2x4096x1x32x1 := by decide
  bcast_S_S2x4096x2x32x128 := by decide
  bcast_S_S2x4096x1x32x1 := by decide
  bcast_S2x4096x1x32x1_S2x4096x2x32x128_0_1_2_3_4 := by decide

/-- The shapes that the second precondition states fit. -/
theorem gate_facts : Cert.Pre_gate_above.Facts where
  shapeCasts_S8192x22016_S2x4096x22016 := by decide
  pads_S2x4096x22016_S2x4098x22016_000_200_000 := by decide
  h_S_ := by decide
  slices_S3x22016_S1x22016_0_0 := by decide
  shapeCasts_S1x22016_S22016 := by decide
  slices_S2x4098x22016_S2x4096x22016_0_0_0 := by decide
  bcast_S22016_S1x1x22016_2 := by decide
  bcast_S1x1x22016_S2x4096x22016_0_1_2 := by decide
  slices_S3x22016_S1x22016_1_0 := by decide
  slices_S2x4098x22016_S2x4096x22016_0_1_0 := by decide
  slices_S3x22016_S1x22016_2_0 := by decide
  slices_S2x4098x22016_S2x4096x22016_0_2_0 := by decide
  slices_S2x4096x22016_S2x4096x11008_0_0_0 := by decide
  slices_S2x4096x22016_S2x4096x11008_0_0_11008 := by decide
  bcast_S_S2x4096x11008 := by decide
  dot_S8192x4096_S4096x22016_S8192x22016_1_0_0_1_n_n_wf := by decide

/-- The reference runs, leaves its arguments and every semaphore at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- With queries, keys and gates finite, the kernel and the reference leave the same attention and the same two rounded weights. -/
theorem same [Cert.Pre_finite_scores.Facts] : Cert.algebraic_KernelIdeal_ReferenceIdeal_pre_finite_scores := fun m ρ m' ρ' hp ha => by
  refine ⟨_, _, _, Cert.KernelIdeal.Value.run_blocks (F := Ideal) m ρ,
    (θ_run Cert.ReferenceIdeal.defs _ _).mono (fun r h c => ?_) (Cert.ReferenceIdeal.Value.run (F := Ideal) m' ρ')⟩
  obtain ⟨h0, h1, h2, hr⟩ := h c
  obtain ⟨a0, a1, a2, a3⟩ := ha c
  refine ⟨h0.trans ?_, h1.trans ?_, h2.trans ?_, hr⟩
  · rw [Fox.arr6 (m := m) c (Fox.finite_of_pre _ _ _ _ fun x => congrFun (hp c) x), Fox.ref_output, a0, a1]
    funext y
    obtain ⟨i, j, rfl⟩ : ∃ (i : Fin 8192) (j : Fin 4096), y = ix2 i j := ⟨y 0, y 1, eq_ix2 y⟩
    exact Fox.ref_at _ _ i j
  · rw [Fox.arr7 (m := m) c, a2]; rfl
  · rw [Fox.arr8 (m := m) c, a3]; rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  pre_facts, gate_facts,
  fun m ρ _ => Cert.Kernel.Gen.frame (F := Bits) m ρ,
  fun m ρ _ => Cert.KernelIdeal.Gen.frame (F := Ideal) m ρ,
  fun m ρ _ => Cert.KernelIdeal.Gen.frame (F := Ideal) m ρ,
  frame_reference,
  fun m ρ _ => frame_reference m ρ trivial,
  fun m ρ _ => Cert.Kernel2.Gen.frame (F := Bits) m ρ, fun m ρ _ => Cert.Kernel2Ideal.Gen.frame (F := Ideal) m ρ, Merge.frame_reference,
  fun m ρ _ => Cert.Kernel3.Gen.frame (F := Bits) m ρ, fun m ρ _ => Cert.Kernel3Ideal.Gen.frame (F := Ideal) m ρ, FfnDown.frame_reference,
  fun m ρ _ => Cert.Kernel4.Gen.frame (F := Bits) m ρ, fun m ρ _ => Cert.Kernel4Ideal.Gen.frame (F := Ideal) m ρ, OutProj.frame_reference,
  fun m ρ _ => Cert.Kernel5.Gen.frame (F := Bits) m ρ, fun m ρ _ => Cert.Kernel5Ideal.Gen.frame (F := Ideal) m ρ, QkvProj.frame_reference,
  fun m ρ _ => Cert.Kernel6.Gen.frame (F := Bits) m ρ, fun m ρ _ => Cert.Kernel6Ideal.Gen.frame (F := Ideal) m ρ, GateProj.frame_reference,
  fun m ρ _ => Cert.Kernel7.Gen.frame (F := Bits) m ρ, fun m ρ _ => Cert.Kernel7Ideal.Gen.frame (F := Ideal) m ρ, SsdProj.frame_reference,
  fun m ρ _ => Cert.Kernel8.Gen.frame (F := Bits) m ρ, fun m ρ _ => Cert.Kernel8Ideal.Gen.frame (F := Ideal) m ρ, fun m ρ _ => Cert.Kernel8Ideal.Gen.frame (F := Ideal) m ρ,
  FfnUp.frame_reference, fun m ρ _ => FfnUp.frame_reference m ρ trivial,
  fun m ρ _ => Cert.Kernel9.Gen.frame (F := Bits) m ρ, fun m ρ _ => Cert.Kernel9Ideal.Gen.frame (F := Ideal) m ρ, LayerNorm.frame9,
  fun m ρ _ => Cert.Kernel10.Gen.frame (F := Bits) m ρ, fun m ρ _ => Cert.Kernel10Ideal.Gen.frame (F := Ideal) m ρ, LayerNorm.frame10,
  fun m ρ _ => Cert.Kernel11.Gen.frame (F := Bits) m ρ, fun m ρ _ => Cert.Kernel11Ideal.Gen.frame (F := Ideal) m ρ, CastRows.head_frame,
  fun m ρ _ => Cert.Kernel12.Gen.frame (F := Bits) m ρ, fun m ρ _ => Cert.Kernel12Ideal.Gen.frame (F := Ideal) m ρ, CastRows.forget_frame,
  fun m ρ _ => Cert.Kernel13.Gen.frame (F := Bits) m ρ, fun m ρ _ => Cert.Kernel13Ideal.Gen.frame (F := Ideal) m ρ, HeadPrep.frame_reference,
  trivial, @same pre_facts,
  trivial, Merge.same, trivial, FfnDown.same, trivial, OutProj.same, trivial, QkvProj.same, trivial, GateProj.same, trivial, SsdProj.same, trivial, @FfnUp.same gate_facts,
  trivial, LayerNorm.same9, trivial, LayerNorm.same10, trivial, CastRows.head_same, trivial, CastRows.forget_same, trivial, HeadPrep.same⟩

end Cert.Proof

end
